-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_words_in_range [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_range [hPre_words_in_range : Cert.Pre_words_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_words_in_range [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_words_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_words_in_range [hReferenceIdeal : Cert.ReferenceIdeal.Facts] [hPre_words_in_range : Cert.Pre_words_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_words_in_range [hKernelIdeal : Cert.KernelIdeal.Facts] [hReferenceIdeal : Cert.ReferenceIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_words_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_words_in_range : Cert.Pre_words_in_range.Facts),
    quiescent_Kernel (hKernel := hKernel)
    ∧ quiescent_KernelIdeal (hKernelIdeal := hKernelIdeal)
    ∧ quiescent_KernelIdeal_pre_words_in_range (hKernelIdeal := hKernelIdeal) (hPre_words_in_range := hPre_words_in_range)
    ∧ quiescent_ReferenceIdeal (hReferenceIdeal := hReferenceIdeal)
    ∧ quiescent_ReferenceIdeal_pre_words_in_range (hReferenceIdeal := hReferenceIdeal) (hPre_words_in_range := hPre_words_in_range)
    ∧ preserves_Kernel_KernelIdeal
    ∧ algebraic_KernelIdeal_ReferenceIdeal_pre_words_in_range (hKernelIdeal := hKernelIdeal) (hReferenceIdeal := hReferenceIdeal) (hPre_words_in_range := hPre_words_in_range)
-- ==== Pre_words_in_range.lean ====
abbrev S256x128 : Shape := ⟨2, ![256, 128]⟩
abbrev S256 : Shape := ⟨1, ![256]⟩
abbrev S40x32 : Shape := ⟨2, ![40, 32]⟩
abbrev S544x1024 : Shape := ⟨2, ![544, 1024]⟩
abbrev S1024 : Shape := ⟨1, ![1024]⟩
abbrev S544x512 : Shape := ⟨2, ![544, 512]⟩
abbrev S512 : Shape := ⟨1, ![512]⟩
abbrev S1536x2048 : Shape := ⟨2, ![1536, 2048]⟩
abbrev S2048 : Shape := ⟨1, ![2048]⟩
abbrev S1536x1024 : Shape := ⟨2, ![1536, 1024]⟩
abbrev S3072x4096 : Shape := ⟨2, ![3072, 4096]⟩
abbrev S4096 : Shape := ⟨1, ![4096]⟩
abbrev S3072x2048 : Shape := ⟨2, ![3072, 2048]⟩
abbrev S512x3584 : Shape := ⟨2, ![512, 3584]⟩
abbrev S256x1 : Shape := ⟨2, ![256, 1]⟩
abbrev S_ : Shape := ⟨0, ![]⟩

class Facts : Prop where
  bcast_S256_S256x1_0 : S256.BroadcastsInDim S256x1 (![0] : Fin 1 → Fin S256x1.rank)
  bcast_S_S256x128 : S_.BroadcastsInDim S256x128 (![] : Fin 0 → Fin S256x128.rank)
  bcast_S_S256x1 : S_.BroadcastsInDim S256x1 (![] : Fin 0 → Fin S256x1.rank)
  bcast_S256x1_S256x128_0_1 : S256x1.BroadcastsInDim S256x128 (![0, 1] : Fin 2 → Fin S256x128.rank)

variable [Facts]

def fn {F : FTy → Type} [FloatOps F] (main_arg0 : IVec S256x128 32) (main_arg1 : IVec S256 32) (main_arg2 : FVec F S40x32 .f32) (main_arg3 : FVec F S544x1024 .f32) (main_arg4 : FVec F S1024 .f32) (main_arg5 : FVec F S544x512 .f32) (main_arg6 : FVec F S512 .f32) (main_arg7 : FVec F S1536x2048 .f32) (main_arg8 : FVec F S2048 .f32) (main_arg9 : FVec F S1536x1024 .f32) (main_arg10 : FVec F S1024 .f32) (main_arg11 : FVec F S3072x4096 .f32) (main_arg12 : FVec F S4096 .f32) (main_arg13 : FVec F S3072x2048 .f32) (main_arg14 : FVec F S2048 .f32) (main_arg15 : FVec F S512x3584 .f32) (main_arg16 : FVec F S512 .f32) : IVec S256x128 1 :=
  let main_v0 : IVec S256x1 32 := broadcastInDim S256x1 ![0] bcast_S256_S256x1_0 main_arg1
  let main_c : IVec S_ 32 := constantI S_ 32 0#32
  let main_v1 : IVec S256x128 32 := broadcastInDim S256x128 ![] bcast_S_S256x128 main_c
  let main_v2 : IVec S256x128 1 := cmpi .sge main_arg0 main_v1
  let main_c_0 : IVec S_ 32 := constantI S_ 32 40#32
  let main_v3 : IVec S256x128 32 := broadcastInDim S256x128 ![] bcast_S_S256x128 main_c_0
  let main_v4 : IVec S256x128 1 := cmpi .slt main_arg0 main_v3
  let main_v5 : IVec S256x128 1 := andi main_v2 main_v4
  let main_c_1 : IVec S_ 32 := constantI S_ 32 1#32
  let main_v6 : IVec S256x1 32 := broadcastInDim S256x1 ![] bcast_S_S256x1 main_c_1
  let main_v7 : IVec S256x1 1 := cmpi .sge main_v0 main_v6
  let main_v8 : IVec S256x128 1 := broadcastInDim S256x128 ![0, 1] bcast_S256x1_S256x128_0_1 main_v7
  let main_v9 : IVec S256x128 1 := andi main_v5 main_v8
  let main_c_2 : IVec S_ 32 := constantI S_ 32 128#32
  let main_v10 : IVec S256x1 32 := broadcastInDim S256x1 ![] bcast_S_S256x1 main_c_2
  let main_v11 : IVec S256x1 1 := cmpi .sle main_v0 main_v10
  let main_v12 : IVec S256x128 1 := broadcastInDim S256x128 ![0, 1] bcast_S256x1_S256x128_0_1 main_v11
  let main_v13 : IVec S256x128 1 := andi main_v9 main_v12
  main_v13
-- ==== Kernel.lean ====
abbrev S256x128 : Shape := ⟨2, ![256, 128]⟩
abbrev S256 : Shape := ⟨1, ![256]⟩
abbrev S40x32 : Shape := ⟨2, ![40, 32]⟩
abbrev S544x1024 : Shape := ⟨2, ![544, 1024]⟩
abbrev S1024 : Shape := ⟨1, ![1024]⟩
abbrev S544x512 : Shape := ⟨2, ![544, 512]⟩
abbrev S512 : Shape := ⟨1, ![512]⟩
abbrev S1536x2048 : Shape := ⟨2, ![1536, 2048]⟩
abbrev S2048 : Shape := ⟨1, ![2048]⟩
abbrev S1536x1024 : Shape := ⟨2, ![1536, 1024]⟩
abbrev S3072x4096 : Shape := ⟨2, ![3072, 4096]⟩
abbrev S4096 : Shape := ⟨1, ![4096]⟩
abbrev S3072x2048 : Shape := ⟨2, ![3072, 2048]⟩
abbrev S512x3584 : Shape := ⟨2, ![512, 3584]⟩
abbrev S_ : Shape := ⟨0, ![]⟩
abbrev S128x1024 : Shape := ⟨2, ![128, 1024]⟩
abbrev S32x1024 : Shape := ⟨2, ![32, 1024]⟩
abbrev S40x1024 : Shape := ⟨2, ![40, 1024]⟩
abbrev S1 : Shape := ⟨1, ![1]⟩
abbrev S512x1024 : Shape := ⟨2, ![512, 1024]⟩
abbrev S640x1024 : Shape := ⟨2, ![640, 1024]⟩
abbrev S128x512 : Shape := ⟨2, ![128, 512]⟩
abbrev S32x512 : Shape := ⟨2, ![32, 512]⟩
abbrev S40x512 : Shape := ⟨2, ![40, 512]⟩
abbrev S512x512 : Shape := ⟨2, ![512, 512]⟩
abbrev S640x512 : Shape := ⟨2, ![640, 512]⟩
abbrev S3584x512 : Shape := ⟨2, ![3584, 512]⟩
abbrev S1024x512 : Shape := ⟨2, ![1024, 512]⟩
abbrev S2048x512 : Shape := ⟨2, ![2048, 512]⟩
abbrev S256x1 : Shape := ⟨2, ![256, 1]⟩
abbrev S1x1 : Shape := ⟨2, ![1, 1]⟩
abbrev S4 : Shape := ⟨1, ![4]⟩
abbrev S4x1 : Shape := ⟨2, ![4, 1]⟩
abbrev S1x256 : Shape := ⟨2, ![1, 256]⟩
abbrev S128x256 : Shape := ⟨2, ![128, 256]⟩
abbrev S128x1x256 : Shape := ⟨3, ![128, 1, 256]⟩
abbrev S1x1024 : Shape := ⟨2, ![1, 1024]⟩
abbrev S1x512 : Shape := ⟨2, ![1, 512]⟩
abbrev S1x2048 : Shape := ⟨2, ![1, 2048]⟩
abbrev S1x4096 : Shape := ⟨2, ![1, 4096]⟩
abbrev S256x512 : Shape := ⟨2, ![256, 512]⟩
abbrev S256x640 : Shape := ⟨2, ![256, 640]⟩
abbrev S256x1536 : Shape := ⟨2, ![256, 1536]⟩
abbrev S256x3072 : Shape := ⟨2, ![256, 3072]⟩
abbrev S256x1024 : Shape := ⟨2, ![256, 1024]⟩
abbrev S256x2048 : Shape := ⟨2, ![256, 2048]⟩
abbrev S9 : Shape := ⟨1, ![9]⟩
abbrev S128x64 : Shape := ⟨2, ![128, 64]⟩
abbrev S128x128 : Shape := ⟨2, ![128, 128]⟩
abbrev S128x192 : Shape := ⟨2, ![128, 192]⟩
abbrev S1x1x256 : Shape := ⟨3, ![1, 1, 256]⟩
abbrev S1x64 : Shape := ⟨2, ![1, 64]⟩
abbrev S64x128 : Shape := ⟨2, ![64, 128]⟩
abbrev S64x640 : Shape := ⟨2, ![64, 640]⟩
abbrev S64x512 : Shape := ⟨2, ![64, 512]⟩
abbrev S64x1024 : Shape := ⟨2, ![64, 1024]⟩
abbrev S64x1536 : Shape := ⟨2, ![64, 1536]⟩
abbrev S64x2048 : Shape := ⟨2, ![64, 2048]⟩
abbrev S64x3072 : Shape := ⟨2, ![64, 3072]⟩
abbrev S64x4096 : Shape := ⟨2, ![64, 4096]⟩
abbrev S64x1 : Shape := ⟨2, ![64, 1]⟩
abbrev S1x128 : Shape := ⟨2, ![1, 128]⟩
abbrev S128x640 : Shape := ⟨2, ![128, 640]⟩
abbrev S128x1536 : Shape := ⟨2, ![128, 1536]⟩
abbrev S128x2048 : Shape := ⟨2, ![128, 2048]⟩
abbrev S128x3072 : Shape := ⟨2, ![128, 3072]⟩
abbrev S128x4096 : Shape := ⟨2, ![128, 4096]⟩
abbrev S128x1 : Shape := ⟨2, ![128, 1]⟩
abbrev S1x192 : Shape := ⟨2, ![1, 192]⟩
abbrev S192x128 : Shape := ⟨2, ![192, 128]⟩
abbrev S192x640 : Shape := ⟨2, ![192, 640]⟩
abbrev S192x512 : Shape := ⟨2, ![192, 512]⟩
abbrev S192x1024 : Shape := ⟨2, ![192, 1024]⟩
abbrev S192x1536 : Shape := ⟨2, ![192, 1536]⟩
abbrev S192x2048 : Shape := ⟨2, ![192, 2048]⟩
abbrev S192x3072 : Shape := ⟨2, ![192, 3072]⟩
abbrev S192x4096 : Shape := ⟨2, ![192, 4096]⟩
abbrev S192x1 : Shape := ⟨2, ![192, 1]⟩
abbrev S256x4096 : Shape := ⟨2, ![256, 4096]⟩
abbrev S256x256 : Shape := ⟨2, ![256, 256]⟩

abbrev nBuf : Space → Nat
  | .hbm => 111
  | .vmem => 26
  | .smem => 1
  | _ => 0

abbrev bufTy : (tb : Table) → Fin (tcTables nBuf tb) → BufTy
  | .hbm, ⟨0, _⟩ => ⟨S256x128, .i32⟩
  | .hbm, ⟨1, _⟩ => ⟨S256, .i32⟩
  | .hbm, ⟨2, _⟩ => ⟨S40x32, .f32⟩
  | .hbm, ⟨3, _⟩ => ⟨S544x1024, .f32⟩
  | .hbm, ⟨4, _⟩ => ⟨S1024, .f32⟩
  | .hbm, ⟨5, _⟩ => ⟨S544x512, .f32⟩
  | .hbm, ⟨6, _⟩ => ⟨S512, .f32⟩
  | .hbm, ⟨7, _⟩ => ⟨S1536x2048, .f32⟩
  | .hbm, ⟨8, _⟩ => ⟨S2048, .f32⟩
  | .hbm, ⟨9, _⟩ => ⟨S1536x1024, .f32⟩
  | .hbm, ⟨10, _⟩ => ⟨S1024, .f32⟩
  | .hbm, ⟨11, _⟩ => ⟨S3072x4096, .f32⟩
  | .hbm, ⟨12, _⟩ => ⟨S4096, .f32⟩
  | .hbm, ⟨13, _⟩ => ⟨S3072x2048, .f32⟩
  | .hbm, ⟨14, _⟩ => ⟨S2048, .f32⟩
  | .hbm, ⟨15, _⟩ => ⟨S512x3584, .f32⟩
  | .hbm, ⟨16, _⟩ => ⟨S512, .f32⟩
  | .hbm, ⟨17, _⟩ => ⟨S_, .f32⟩
  | .hbm, ⟨18, _⟩ => ⟨S128x1024, .f32⟩
  | .hbm, ⟨19, _⟩ => ⟨S32x1024, .f32⟩
  | .hbm, ⟨20, _⟩ => ⟨S40x1024, .f32⟩
  | .hbm, ⟨21, _⟩ => ⟨S_, .i32⟩
  | .hbm, ⟨22, _⟩ => ⟨S1, .i32⟩
  | .hbm, ⟨23, _⟩ => ⟨S128x1024, .f32⟩
  | .hbm, ⟨24, _⟩ => ⟨S512x1024, .f32⟩
  | .hbm, ⟨25, _⟩ => ⟨S640x1024, .f32⟩
  | .hbm, ⟨26, _⟩ => ⟨S640x1024, .bf16⟩
  | .hbm, ⟨27, _⟩ => ⟨S_, .f32⟩
  | .hbm, ⟨28, _⟩ => ⟨S128x512, .f32⟩
  | .hbm, ⟨29, _⟩ => ⟨S32x512, .f32⟩
  | .hbm, ⟨30, _⟩ => ⟨S40x512, .f32⟩
  | .hbm, ⟨31, _⟩ => ⟨S_, .i32⟩
  | .hbm, ⟨32, _⟩ => ⟨S1, .i32⟩
  | .hbm, ⟨33, _⟩ => ⟨S128x512, .f32⟩
  | .hbm, ⟨34, _⟩ => ⟨S512x512, .f32⟩
  | .hbm, ⟨35, _⟩ => ⟨S640x512, .f32⟩
  | .hbm, ⟨36, _⟩ => ⟨S640x512, .bf16⟩
  | .hbm, ⟨37, _⟩ => ⟨S1536x2048, .bf16⟩
  | .hbm, ⟨38, _⟩ => ⟨S1536x1024, .bf16⟩
  | .hbm, ⟨39, _⟩ => ⟨S3072x4096, .bf16⟩
  | .hbm, ⟨40, _⟩ => ⟨S3072x2048, .bf16⟩
  | .hbm, ⟨41, _⟩ => ⟨S3584x512, .f32⟩
  | .hbm, ⟨42, _⟩ => ⟨S512x512, .f32⟩
  | .hbm, ⟨43, _⟩ => ⟨S512x512, .bf16⟩
  | .hbm, ⟨44, _⟩ => ⟨S1024x512, .f32⟩
  | .hbm, ⟨45, _⟩ => ⟨S1024x512, .bf16⟩
  | .hbm, ⟨46, _⟩ => ⟨S2048x512, .f32⟩
  | .hbm, ⟨47, _⟩ => ⟨S2048x512, .bf16⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S256, .i32⟩
  | .hbm, ⟨59, _⟩ => ⟨S256x1, .i32⟩
  | .hbm, ⟨60, _⟩ => ⟨S1, .i32⟩
  | .hbm, ⟨61, _⟩ => ⟨S_, .i32⟩
  | .hbm, ⟨62, _⟩ => ⟨S256x1, .i32⟩
  | .hbm, ⟨63, _⟩ => ⟨S256x1, .i1⟩
  | .hbm, ⟨64, _⟩ => ⟨S1x1, .i32⟩
  | .hbm, ⟨65, _⟩ => ⟨S256x1, .i32⟩
  | .hbm, ⟨66, _⟩ => ⟨S256x1, .i1⟩
  | .hbm, ⟨67, _⟩ => ⟨S256x1, .i1⟩
  | .hbm, ⟨68, _⟩ => ⟨S_, .i1⟩
  | .hbm, ⟨69, _⟩ => ⟨S256, .i1⟩
  | .hbm, ⟨70, _⟩ => ⟨S256x128, .i32⟩
  | .hbm, ⟨71, _⟩ => ⟨S256x128, .i1⟩
  | .hbm, ⟨72, _⟩ => ⟨S_, .i32⟩
  | .hbm, ⟨73, _⟩ => ⟨S256x128, .i32⟩
  | .hbm, ⟨74, _⟩ => ⟨S256x128, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S1, .i32⟩
  | .hbm, ⟨84, _⟩ => ⟨S_, .i32⟩
  | .hbm, ⟨85, _⟩ => ⟨S256x1, .i32⟩
  | .hbm, ⟨86, _⟩ => ⟨S256x1, .i1⟩
  | .hbm, ⟨87, _⟩ => ⟨S1x1, .i32⟩
  | .hbm, ⟨88, _⟩ => ⟨S256x1, .i32⟩
  | .hbm, ⟨89, _⟩ => ⟨S256x1, .i1⟩
  | .hbm, ⟨90, _⟩ => ⟨S256x1, .i1⟩
  | .hbm, ⟨91, _⟩ => ⟨S_, .i1⟩
  | .hbm, ⟨92, _⟩ => ⟨S256, .i1⟩
  | .hbm, ⟨93, _⟩ => ⟨S256, .i32⟩
  | .hbm, ⟨94, _⟩ => ⟨S_, .i32⟩
  | .hbm, ⟨95, _⟩ => ⟨S256, .i32⟩
  | .hbm, ⟨96, _⟩ => ⟨S256, .i32⟩
  | .hbm, ⟨97, _⟩ => ⟨S4, .i32⟩
  | .hbm, ⟨98, _⟩ => ⟨S4x1, .i32⟩
  | .hbm, ⟨99, _⟩ => ⟨S1x256, .i32⟩
  | .hbm, ⟨100, _⟩ => ⟨S128x256, .i32⟩
  | .hbm, ⟨101, _⟩ => ⟨S128x1x256, .i32⟩
  | .hbm, ⟨102, _⟩ => ⟨S256x1, .i32⟩
  | .hbm, ⟨103, _⟩ => ⟨S1x1024, .f32⟩
  | .hbm, ⟨104, _⟩ => ⟨S1x512, .f32⟩
  | .hbm, ⟨105, _⟩ => ⟨S1x2048, .f32⟩
  | .hbm, ⟨106, _⟩ => ⟨S1x1024, .f32⟩
  | .hbm, ⟨107, _⟩ => ⟨S1x4096, .f32⟩
  | .hbm, ⟨108, _⟩ => ⟨S1x2048, .f32⟩
  | .hbm, ⟨109, _⟩ => ⟨S1x512, .f32⟩
  | .hbm, ⟨110, _⟩ => ⟨S256x512, .f32⟩
  | .local _ .vmem, ⟨0, _⟩ => ⟨S128x1x256, .i32⟩
  | .local _ .vmem, ⟨1, _⟩ => ⟨S256x1, .i32⟩
  | .local _ .vmem, ⟨2, _⟩ => ⟨S1x256, .i32⟩
  | .local _ .vmem, ⟨3, _⟩ => ⟨S1x1024, .f32⟩
  | .local _ .vmem, ⟨4, _⟩ => ⟨S1x512, .f32⟩
  | .local _ .vmem, ⟨5, _⟩ => ⟨S1x2048, .f32⟩
  | .local _ .vmem, ⟨6, _⟩ => ⟨S1x1024, .f32⟩
  | .local _ .vmem, ⟨7, _⟩ => ⟨S1x4096, .f32⟩
  | .local _ .vmem, ⟨8, _⟩ => ⟨S1x2048, .f32⟩
  | .local _ .vmem, ⟨9, _⟩ => ⟨S1x512, .f32⟩
  | .local _ .vmem, ⟨10, _⟩ => ⟨S256x512, .f32⟩
  | .local _ .vmem, ⟨11, _⟩ => ⟨S640x1024, .bf16⟩
  | .local _ .vmem, ⟨12, _⟩ => ⟨S640x512, .bf16⟩
  | .local _ .vmem, ⟨13, _⟩ => ⟨S1536x2048, .bf16⟩
  | .local _ .vmem, ⟨14, _⟩ => ⟨S1536x1024, .bf16⟩
  | .local _ .vmem, ⟨15, _⟩ => ⟨S3072x4096, .bf16⟩
  | .local _ .vmem, ⟨16, _⟩ => ⟨S3072x2048, .bf16⟩
  | .local _ .vmem, ⟨17, _⟩ => ⟨S512x512, .bf16⟩
  | .local _ .vmem, ⟨18, _⟩ => ⟨S1024x512, .bf16⟩
  | .local _ .vmem, ⟨19, _⟩ => ⟨S2048x512, .bf16⟩
  | .local _ .vmem, ⟨20, _⟩ => ⟨S256x640, .bf16⟩
  | .local _ .vmem, ⟨21, _⟩ => ⟨S256x1536, .bf16⟩
  | .local _ .vmem, ⟨22, _⟩ => ⟨S256x3072, .bf16⟩
  | .local _ .vmem, ⟨23, _⟩ => ⟨S256x512, .f32⟩
  | .local _ .vmem, ⟨24, _⟩ => ⟨S256x1024, .f32⟩
  | .local _ .vmem, ⟨25, _⟩ => ⟨S256x2048, .f32⟩
  | .local _ .smem, ⟨0, _⟩ => ⟨S4x1, .i32⟩
  | _, _ => ⟨S256x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_v0 : Ref sig .tc := ⟨.hbm, 49, rfl⟩
abbrev main_call0_v1_0 : Ref sig .tc := ⟨.hbm, 50, rfl⟩
abbrev main_v28 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_c_4 : Ref sig .tc := ⟨.hbm, 72, rfl⟩
abbrev main_call1_v15 : Ref sig .tc := ⟨.hbm, 73, rfl⟩
abbrev main_v29 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_c_4 : Ref sig .tc := ⟨.hbm, 94, rfl⟩
abbrev main_call2_v14 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_16 : BitVec 32 := 0#32
  let c128_i32 : BitVec 32 := 128#32
  let v52 : BitVec 32 := Scalar.addi c0_i32_16 c128_i32
  let c1_i32_17 : BitVec 32 := 1#32
  ⟨c0_i32_16, v52, c1_i32_17⟩
def k0_off1 (k0_t1 : Fin k0_t1_loop.trips) : Fin 3 → Nat :=
  let c0_i32_16 : BitVec 32 := 0#32
  let c1_i32_17 : BitVec 32 := 1#32
  let arg38 : BitVec 32 := Scf.iv c0_i32_16 c1_i32_17 k0_t1
  let v88 : Index := Scalar.indexCast arg38
  let c0_45 : Index := 0#32
  let c0_46 : Index := 0#32
  ![v88.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S256x128 : Shape := ⟨2, ![256, 128]⟩
abbrev S256 : Shape := ⟨1, ![256]⟩
abbrev S40x32 : Shape := ⟨2, ![40, 32]⟩
abbrev S544x1024 : Shape := ⟨2, ![544, 1024]⟩
abbrev S1024 : Shape := ⟨1, ![1024]⟩
abbrev S544x512 : Shape := ⟨2, ![544, 512]⟩
abbrev S512 : Shape := ⟨1, ![512]⟩
abbrev S1536x2048 : Shape := ⟨2, ![1536, 2048]⟩
abbrev S2048 : Shape := ⟨1, ![2048]⟩
abbrev S1536x1024 : Shape := ⟨2, ![1536, 1024]⟩
abbrev S3072x4096 : Shape := ⟨2, ![3072, 4096]⟩
abbrev S4096 : Shape := ⟨1, ![4096]⟩
abbrev S3072x2048 : Shape := ⟨2, ![3072, 2048]⟩
abbrev S512x3584 : Shape := ⟨2, ![512, 3584]⟩
abbrev S_ : Shape := ⟨0, ![]⟩
abbrev S256x128x1 : Shape := ⟨3, ![256, 128, 1]⟩
abbrev S256x128x32 : Shape := ⟨3, ![256, 128, 32]⟩
abbrev S128 : Shape := ⟨1, ![128]⟩
abbrev S1x128 : Shape := ⟨2, ![1, 128]⟩
abbrev S256x1 : Shape := ⟨2, ![256, 1]⟩
abbrev S256x512 : Shape := ⟨2, ![256, 512]⟩
abbrev S256x1024 : Shape := ⟨2, ![256, 1024]⟩
abbrev S256x2048 : Shape := ⟨2, ![256, 2048]⟩
abbrev S128x256x32 : Shape := ⟨3, ![128, 256, 32]⟩
abbrev S128x256 : Shape := ⟨2, ![128, 256]⟩
abbrev S128x256x1 : Shape := ⟨3, ![128, 256, 1]⟩
abbrev S1x256x32 : Shape := ⟨3, ![1, 256, 32]⟩
abbrev S256x32 : Shape := ⟨2, ![256, 32]⟩
abbrev S1x256x1 : Shape := ⟨3, ![1, 256, 1]⟩
abbrev S256x544 : Shape := ⟨2, ![256, 544]⟩
abbrev S1x1024 : Shape := ⟨2, ![1, 1024]⟩
abbrev S1x512 : Shape := ⟨2, ![1, 512]⟩
abbrev S256x1536 : Shape := ⟨2, ![256, 1536]⟩
abbrev S1x2048 : Shape := ⟨2, ![1, 2048]⟩
abbrev S256x3072 : Shape := ⟨2, ![256, 3072]⟩
abbrev S256x4096 : Shape := ⟨2, ![256, 4096]⟩
abbrev S1x4096 : Shape := ⟨2, ![1, 4096]⟩
abbrev S256x3584 : Shape := ⟨2, ![256, 3584]⟩
abbrev S3584x512 : Shape := ⟨2, ![3584, 512]⟩

abbrev nBuf : Space → Nat
  | .hbm => 169
  | .vmem => 0
  | .smem => 0
  | _ => 0

abbrev hbmTy0_0 (i : Nat) : BufTy := match i % 128 with
  | 0 => ⟨S256x128, .i32⟩
  | 1 => ⟨S256, .i32⟩
  | 2 => ⟨S40x32, .f32⟩
  | 3 => ⟨S544x1024, .f32⟩
  | 4 => ⟨S1024, .f32⟩
  | 5 => ⟨S544x512, .f32⟩
  | 6 => ⟨S512, .f32⟩
  | 7 => ⟨S1536x2048, .f32⟩
  | 8 => ⟨S2048, .f32⟩
  | 9 => ⟨S1536x1024, .f32⟩
  | 10 => ⟨S1024, .f32⟩
  | 11 => ⟨S3072x4096, .f32⟩
  | 12 => ⟨S4096, .f32⟩
  | 13 => ⟨S3072x2048, .f32⟩
  | 14 => ⟨S2048, .f32⟩
  | 15 => ⟨S512x3584, .f32⟩
  | 16 => ⟨S512, .f32⟩
  | 17 => ⟨S_, .i32⟩
  | 18 => ⟨S256x128, .i32⟩
  | 19 => ⟨S256x128, .i1⟩
  | 20 => ⟨S_, .i32⟩
  | 21 => ⟨S256x128, .i32⟩
  | 22 => ⟨S256x128, .i32⟩
  | 23 => ⟨S256x128, .i32⟩
  | 24 => ⟨S256x128x1, .i32⟩
  | 25 => ⟨S256x128x32, .f32⟩
  | 26 => ⟨S128, .i32⟩
  | 27 => ⟨S1x128, .i32⟩
  | 28 => ⟨S256x1, .i32⟩
  | 29 => ⟨S256x128, .i32⟩
  | 30 => ⟨S256x128, .i32⟩
  | 31 => ⟨S256x128, .i1⟩
  | 32 => ⟨S_, .f32⟩
  | 33 => ⟨S256x512, .f32⟩
  | 34 => ⟨S_, .f32⟩
  | 35 => ⟨S256x1024, .f32⟩
  | 36 => ⟨S_, .f32⟩
  | 37 => ⟨S256x2048, .f32⟩
  | 38 => ⟨S128x256x32, .f32⟩
  | 39 => ⟨S128x256, .i1⟩
  | 40 => ⟨S128x256x1, .i1⟩
  | 41 => ⟨S_, .i32⟩
  | 42 => ⟨S128x256x32, .f32⟩
  | 43 => ⟨S128x256x1, .i1⟩
  | 44 => ⟨S544x1024, .f32⟩
  | 45 => ⟨S1024, .f32⟩
  | 46 => ⟨S544x512, .f32⟩
  | 47 => ⟨S512, .f32⟩
  | 48 => ⟨S1536x2048, .f32⟩
  | 49 => ⟨S2048, .f32⟩
  | 50 => ⟨S1536x1024, .f32⟩
  | 51 => ⟨S1024, .f32⟩
  | 52 => ⟨S3072x4096, .f32⟩
  | 53 => ⟨S4096, .f32⟩
  | 54 => ⟨S3072x2048, .f32⟩
  | 55 => ⟨S2048, .f32⟩
  | 56 => ⟨S_, .i32⟩
  | 57 => ⟨S256x512, .f32⟩
  | 58 => ⟨S256x1024, .f32⟩
  | 59 => ⟨S256x2048, .f32⟩
  | 60 => ⟨S_, .i32⟩
  | 61 => ⟨S_, .i1⟩
  | 62 => ⟨S_, .i32⟩
  | 63 => ⟨S_, .i32⟩
  | 64 => ⟨S1x256x32, .f32⟩
  | 65 => ⟨S256x32, .f32⟩
  | 66 => ⟨S_, .i32⟩
  | 67 => ⟨S_, .i32⟩
  | 68 => ⟨S1x256x1, .i1⟩
  | 69 => ⟨S256x1, .i1⟩
  | 70 => ⟨S256x544, .f32⟩
  | 71 => ⟨S256x1024, .f32⟩
  | 72 => ⟨S1x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x512, .f32⟩
  | 84 => ⟨S256x512, .f32⟩
  | 85 => ⟨S256x512, .f32⟩
  | 86 => ⟨S256x544, .f32⟩
  | 87 => ⟨S256x512, .f32⟩
  | 88 => ⟨S1x512, .f32⟩
  | 89 => ⟨S256x512, .f32⟩
  | 90 => ⟨S256x512, .f32⟩
  | 91 => ⟨S256x512, .f32⟩
  | 92 => ⟨S256x512, .f32⟩
  | 93 => ⟨S_, .f32⟩
  | 94 => ⟨S256x512, .f32⟩
  | 95 => ⟨S256x512, .f32⟩
  | 96 => ⟨S256x512, .f32⟩
  | 97 => ⟨S256x512, .f32⟩
  | 98 => ⟨S256x1536, .f32⟩
  | 99 => ⟨S256x2048, .f32⟩
  | 100 => ⟨S1x2048, .f32⟩
  | 101 => ⟨S256x2048, .f32⟩
  | 102 => ⟨S256x2048, .f32⟩
  | 103 => ⟨S256x2048, .f32⟩
  | 104 => ⟨S256x2048, .f32⟩
  | 105 => ⟨S_, .f32⟩
  | 106 => ⟨S256x2048, .f32⟩
  | 107 => ⟨S256x2048, .f32⟩
  | 108 => ⟨S_, .f32⟩
  | 109 => ⟨S256x2048, .f32⟩
  | 110 => ⟨S256x2048, .f32⟩
  | 111 => ⟨S256x1024, .f32⟩
  | 112 => ⟨S256x1024, .f32⟩
  | 113 => ⟨S256x1024, .f32⟩
  | 114 => ⟨S256x1536, .f32⟩
  | 115 => ⟨S256x1024, .f32⟩
  | 116 => ⟨S1x1024, .f32⟩
  | 117 => ⟨S256x1024, .f32⟩
  | 118 => ⟨S256x1024, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S256x1024, .f32⟩
  | 125 => ⟨S256x1024, .f32⟩
  | 126 => ⟨S256x3072, .f32⟩
  | 127 => ⟨S256x4096, .f32⟩
  | _ => ⟨S256x128, .i32⟩

abbrev hbmTy0_1 (i : Nat) : BufTy := match i % 128 with
  | 0 => ⟨S1x4096, .f32⟩
  | 1 => ⟨S256x4096, .f32⟩
  | 2 => ⟨S256x4096, .f32⟩
  | 3 => ⟨S256x4096, .f32⟩
  | 4 => ⟨S256x4096, .f32⟩
  | 5 => ⟨S_, .f32⟩
  | 6 => ⟨S256x4096, .f32⟩
  | 7 => ⟨S256x4096, .f32⟩
  | 8 => ⟨S_, .f32⟩
  | 9 => ⟨S256x4096, .f32⟩
  | 10 => ⟨S256x4096, .f32⟩
  | 11 => ⟨S256x2048, .f32⟩
  | 12 => ⟨S256x2048, .f32⟩
  | 13 => ⟨S256x2048, .f32⟩
  | 14 => ⟨S256x3072, .f32⟩
  | 15 => ⟨S256x2048, .f32⟩
  | 16 => ⟨S1x2048, .f32⟩
  | 17 => ⟨S256x2048, .f32⟩
  | 18 => ⟨S256x2048, .f32⟩
  | 19 => ⟨S256x2048, .f32⟩
  | 20 => ⟨S256x2048, .f32⟩
  | 21 => ⟨S_, .f32⟩
  | 22 => ⟨S256x2048, .f32⟩
  | 23 => ⟨S256x2048, .f32⟩
  | 24 => ⟨S256x2048, .f32⟩
  | 25 => ⟨S256x2048, .f32⟩
  | 26 => ⟨S256x512, .i1⟩
  | 27 => ⟨S256x512, .f32⟩
  | 28 => ⟨S256x1024, .i1⟩
  | 29 => ⟨S256x1024, .f32⟩
  | 30 => ⟨S256x2048, .i1⟩
  | 31 => ⟨S256x2048, .f32⟩
  | 32 => ⟨S_, .i32⟩
  | 33 => ⟨S_, .i32⟩
  | 34 => ⟨S256x3584, .f32⟩
  | 35 => ⟨S3584x512, .f32⟩
  | 36 => ⟨S256x512, .f32⟩
  | 37 => ⟨S1x512, .f32⟩
  | 38 => ⟨S256x512, .f32⟩
  | 39 => ⟨S256x512, .f32⟩
  | 40 => ⟨S256x512, .f32⟩
  | _ => ⟨S256x128, .i32⟩

abbrev hbmTy (i : Nat) : BufTy := match i / 128 with
  | 0 => hbmTy0_0 i
  | 1 => hbmTy0_1 i
  | _ => ⟨S256x128, .i32⟩

abbrev bufTy : (tb : Table) → Fin (tcTables nBuf tb) → BufTy
  | .hbm, ⟨i, _⟩ => hbmTy i
  | _, _ => ⟨S256x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_v19_3 : Ref sig .tc := ⟨.hbm, 45, rfl⟩
abbrev main_v19_4 : Ref sig .tc := ⟨.hbm, 46, rfl⟩
abbrev main_v19_5 : Ref sig .tc := ⟨.hbm, 47, rfl⟩
abbrev main_v19_6 : Ref sig .tc := ⟨.hbm, 48, rfl⟩
abbrev main_v19_7 : Ref sig .tc := ⟨.hbm, 49, rfl⟩
abbrev main_v19_8 : Ref sig .tc := ⟨.hbm, 50, rfl⟩
abbrev main_v19_9 : Ref sig .tc := ⟨.hbm, 51, rfl⟩
abbrev main_v19_10 : Ref sig .tc := ⟨.hbm, 52, rfl⟩
abbrev main_v19_11 : Ref sig .tc := ⟨.hbm, 53, rfl⟩
abbrev main_v19_12 : Ref sig .tc := ⟨.hbm, 54, rfl⟩
abbrev main_v19_13 : Ref sig .tc := ⟨.hbm, 55, rfl⟩
abbrev main_v19_14 : Ref sig .tc := ⟨.hbm, 56, rfl⟩
abbrev main_v19_15 : Ref sig .tc := ⟨.hbm, 57, rfl⟩
abbrev main_v19_16 : Ref sig .tc := ⟨.hbm, 58, rfl⟩
abbrev main_v19_17 : Ref sig .tc := ⟨.hbm, 59, rfl⟩
abbrev main_while0c_c_21 : Ref sig .tc := ⟨.hbm, 60, rfl⟩
abbrev main_while0c_v27 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v27 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_cst_21 : Ref sig .tc := ⟨.hbm, 77, rfl⟩
abbrev main_while0b_v36 : Ref sig .tc := ⟨.hbm, 78, rfl⟩
abbrev main_while0b_v37 : Ref sig .tc := ⟨.hbm, 79, rfl⟩
abbrev main_while0b_cst_22 : Ref sig .tc := ⟨.hbm, 80, rfl⟩
abbrev main_while0b_v38 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_v48 : Ref sig .tc := ⟨.hbm, 91, rfl⟩
abbrev main_while0b_v49 : Ref sig .tc := ⟨.hbm, 92, rfl⟩
abbrev main_while0b_cst_23 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_v56 : Ref sig .tc := ⟨.hbm, 100, rfl⟩
abbrev main_while0b_v57 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_cst_24 : Ref sig .tc := ⟨.hbm, 105, rfl⟩
abbrev main_while0b_v61 : Ref sig .tc := ⟨.hbm, 106, rfl⟩
abbrev main_while0b_v62 : Ref sig .tc := ⟨.hbm, 107, rfl⟩
abbrev main_while0b_cst_25 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_cst_26 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_cst_27 : Ref sig .tc := ⟨.hbm, 133, rfl⟩
abbrev main_while0b_v86 : Ref sig .tc := ⟨.hbm, 134, rfl⟩
abbrev main_while0b_v87 : Ref sig .tc := ⟨.hbm, 135, rfl⟩
abbrev main_while0b_cst_28 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_v98 : Ref sig .tc := ⟨.hbm, 147, rfl⟩
abbrev main_while0b_v99 : Ref sig .tc := ⟨.hbm, 148, rfl⟩
abbrev main_while0b_cst_29 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_call2_v0 : Ref sig .tc := ⟨.hbm, 154, rfl⟩
abbrev main_while0b_v104 : Ref sig .tc := ⟨.hbm, 155, rfl⟩
abbrev main_while0b_call3_v0 : Ref sig .tc := ⟨.hbm, 156, rfl⟩
abbrev main_while0b_v105 : Ref sig .tc := ⟨.hbm, 157, rfl⟩
abbrev main_while0b_call4_v0 : Ref sig .tc := ⟨.hbm, 158, rfl⟩
abbrev main_while0b_v106 : Ref sig .tc := ⟨.hbm, 159, rfl⟩
abbrev main_while0b_c_30 : Ref sig .tc := ⟨.hbm, 160, rfl⟩
abbrev main_while0b_v107 : Ref sig .tc := ⟨.hbm, 161, rfl⟩
abbrev main_v20 : Ref sig .tc := ⟨.hbm, 162, rfl⟩
abbrev main_v21 : Ref sig .tc := ⟨.hbm, 163, rfl⟩
abbrev main_v22 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_v26 : Ref sig .tc := ⟨.hbm, 168, rfl⟩

abbrev nD : Nat := 1
abbrev τ : Topo := Topo.v7x

variable {F : FTy → Type} [FloatOps F]

abbrev main_while0_count : Scf.Loop 32 := ⟨0#32, 128#32, 1#32⟩
-- ==== Proof.KernelIdealLoop.lean ====
/-
  The time loop.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The time loop's invariant: the buffers a trip only reads keep their contents, the state and staging scratch hold anything. -/
@[sl_loop, instance_reducible] def loopInv (c : Dev nD) (i : grid0.Coords) (arg1 : Memref sig .tc .smem S4x1 .i32) (harg1 : arg1.IsWhole) (arg2 : Memref sig .tc .vmem S128x1x256 .i32) (harg2 : arg2.IsWhole) (arg3 : Memref sig .tc .vmem S256x1 .i32) (harg3 : arg3.IsWhole) (arg4 : Memref sig .tc .vmem S1x256 .i32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x512 .f32) (harg11 : arg11.IsWhole) (arg12 : Memref sig .tc .hbm S640x1024 .bf16) (harg12 : arg12.IsWhole) (arg13 : Memref sig .tc .hbm S640x512 .bf16) (harg13 : arg13.IsWhole) (arg14 : Memref sig .tc .hbm S1536x2048 .bf16) (harg14 : arg14.IsWhole) (arg15 : Memref sig .tc .hbm S1536x1024 .bf16) (harg15 : arg15.IsWhole) (arg16 : Memref sig .tc .hbm S3072x4096 .bf16) (harg16 : arg16.IsWhole) (arg17 : Memref sig .tc .hbm S3072x2048 .bf16) (harg17 : arg17.IsWhole) (arg18 : Memref sig .tc .hbm S512x512 .bf16) (harg18 : arg18.IsWhole) (arg19 : Memref sig .tc .hbm S1024x512 .bf16) (harg19 : arg19.IsWhole) (arg20 : Memref sig .tc .hbm S2048x512 .bf16) (harg20 : arg20.IsWhole) (arg21 : Memref sig .tc .vmem S256x512 .f32) (harg21 : arg21.IsWhole) (arg22 : Memref sig .tc .vmem S640x1024 .bf16) (harg22 : arg22.IsWhole) (arg23 : Memref sig .tc .vmem S640x512 .bf16) (harg23 : arg23.IsWhole) (arg24 : Memref sig .tc .vmem S1536x2048 .bf16) (harg24 : arg24.IsWhole) (arg25 : Memref sig .tc .vmem S1536x1024 .bf16) (harg25 : arg25.IsWhole) (arg26 : Memref sig .tc .vmem S3072x4096 .bf16) (harg26 : arg26.IsWhole) (arg27 : Memref sig .tc .vmem S3072x2048 .bf16) (harg27 : arg27.IsWhole) (arg28 : Memref sig .tc .vmem S512x512 .bf16) (harg28 : arg28.IsWhole) (arg29 : Memref sig .tc .vmem S1024x512 .bf16) (harg29 : arg29.IsWhole) (arg30 : Memref sig .tc .vmem S2048x512 .bf16) (harg30 : arg30.IsWhole) (arg31 : Memref sig .tc .vmem S256x640 .bf16) (harg31 : arg31.IsWhole) (arg32 : Memref sig .tc .vmem S256x1536 .bf16) (harg32 : arg32.IsWhole) (arg33 : Memref sig .tc .vmem S256x3072 .bf16) (harg33 : arg33.IsWhole) (arg34 : Memref sig .tc .vmem S256x512 .f32) (harg34 : arg34.IsWhole) (arg35 : Memref sig .tc .vmem S256x1024 .f32) (harg35 : arg35.IsWhole) (arg36 : Memref sig .tc .vmem S256x2048 .f32) (harg36 : arg36.IsWhole) (arg37 : DmaSems sig S9) (v48 : IVec S128x64 32) (v49 : IVec S128x128 32) (v50 : IVec S128x192 32) (v51 : IVec S128x256 32)
    (f1 : arg1.view.ty.Contents (Elt F)) (f2 : arg2.view.ty.Contents (Elt F)) (f3 : arg3.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 v48 v49 v50 v51 where
  inv := fun _ _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (∃ f, arg31.view.loc (c : Thread nD τ) ↦[arg31.view.set]{fullShare} f) ∗ (∃ f, arg32.view.loc (c : Thread nD τ) ↦[arg32.view.set]{fullShare} f) ∗ (∃ f, arg33.view.loc (c : Thread nD τ) ↦[arg33.view.set]{fullShare} f) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f))
  step := fun k acc => by
    unfold k0_t1_body
    iintro ⟨H1, H2, H3, H5, H6, H7, H8, H9, H10, H22, H23, H24, H25, H26, H27, ⟨%f31, H31⟩, ⟨%f32, H32⟩, ⟨%f33, H33⟩, ⟨%f34, H34⟩, ⟨%f35, H35⟩, ⟨%f36, H36⟩⟩
    sl_exec
    sl_step
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H22]; · iexact H22
    isplitl [H23]; · iexact H23
    isplitl [H24]; · iexact H24
    isplitl [H25]; · iexact H25
    isplitl [H26]; · iexact H26
    isplitl [H27]; · iexact H27
    isplitl [H31]; · iexists _; iexact H31
    isplitl [H32]; · iexists _; iexact H32
    isplitl [H33]; · iexists _; iexact H33
    isplitl [H34]; · iexists _; iexact H34
    isplitl [H35]; · iexists _; iexact H35
    iexists _; iexact H36

end Cert.Proof.KernelIdeal

end
-- ==== Proof.KernelIdealFrame.lean ====
/-
  The run of the kernel body, the launch, and the frame of `KernelIdeal`: the program runs to its end, leaves its arguments as they were and every
  semaphore counter at zero.
-/
module

public import proofs.«01_k».proof.Proof.KernelIdealLoop

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The program up to its region, and the body's operands -/

set_option maxHeartbeats 800000 in
/-- The host lines before the region, then the region, over this proof's algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

abbrev scM22 : Memref sig .tc .vmem S640x1024 .bf16 := Memref.whole cc0_scratch0
abbrev scM23 : Memref sig .tc .vmem S640x512 .bf16 := Memref.whole cc0_scratch1
abbrev scM24 : Memref sig .tc .vmem S1536x2048 .bf16 := Memref.whole cc0_scratch2
abbrev scM25 : Memref sig .tc .vmem S1536x1024 .bf16 := Memref.whole cc0_scratch3
abbrev scM26 : Memref sig .tc .vmem S3072x4096 .bf16 := Memref.whole cc0_scratch4
abbrev scM27 : Memref sig .tc .vmem S3072x2048 .bf16 := Memref.whole cc0_scratch5
abbrev scM28 : Memref sig .tc .vmem S512x512 .bf16 := Memref.whole cc0_scratch6
abbrev scM29 : Memref sig .tc .vmem S1024x512 .bf16 := Memref.whole cc0_scratch7
abbrev scM30 : Memref sig .tc .vmem S2048x512 .bf16 := Memref.whole cc0_scratch8
abbrev scM31 : Memref sig .tc .vmem S256x640 .bf16 := Memref.whole cc0_scratch9
abbrev scM32 : Memref sig .tc .vmem S256x1536 .bf16 := Memref.whole cc0_scratch10
abbrev scM33 : Memref sig .tc .vmem S256x3072 .bf16 := Memref.whole cc0_scratch11
abbrev scM34 : Memref sig .tc .vmem S256x512 .f32 := Memref.whole cc0_scratch12
abbrev scM35 : Memref sig .tc .vmem S256x1024 .f32 := Memref.whole cc0_scratch13
abbrev scM36 : Memref sig .tc .vmem S256x2048 .f32 := Memref.whole cc0_scratch14
abbrev hbM12 : Memref sig .tc .hbm S640x1024 .bf16 := Memref.whole main_v7
abbrev hbM13 : Memref sig .tc .hbm S640x512 .bf16 := Memref.whole main_v15
abbrev hbM14 : Memref sig .tc .hbm S1536x2048 .bf16 := Memref.whole main_v16
abbrev hbM15 : Memref sig .tc .hbm S1536x1024 .bf16 := Memref.whole main_v17
abbrev hbM16 : Memref sig .tc .hbm S3072x4096 .bf16 := Memref.whole main_v18
abbrev hbM17 : Memref sig .tc .hbm S3072x2048 .bf16 := Memref.whole main_v19
abbrev hbM18 : Memref sig .tc .hbm S512x512 .bf16 := Memref.whole main_v22
abbrev hbM19 : Memref sig .tc .hbm S1024x512 .bf16 := Memref.whole main_v24
abbrev hbM20 : Memref sig .tc .hbm S2048x512 .bf16 := Memref.whole main_v26
/-- A whole buffer at contents `f`. -/
abbrev wholePt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's nine transfer counters. -/
abbrev osem0 : Fin 9 → SemLoc sig := fun j => (![SemLoc.dma 12, SemLoc.dma 13, SemLoc.dma 14, SemLoc.dma 15, SemLoc.dma 16, SemLoc.dma 17, SemLoc.dma 18, SemLoc.dma 19, SemLoc.dma 20] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8] (by decide) (by decide)]; rfl
/-- The weights the body's transfers read. -/
def H0 : Finset (Ref sig .tc) := {main_v7, main_v15, main_v16, main_v17, main_v18, main_v19, main_v22, main_v24, main_v26}
theorem H0_sub : H0 ⊆ Pipeline.restRefs sig spec0 := by decide
theorem hbmPts0_eq (c : Dev nD) :
    (bigSep H0 (fun b => ((c : Thread nD τ).loc b) ↦{fullShare} V m c b) : sProp 𝕄)
      = iprop(wholePt c hbM12 (V m c main_v7) ∗ wholePt c hbM13 (V m c main_v15) ∗ wholePt c hbM14 (V m c main_v16) ∗ wholePt c hbM15 (V m c main_v17) ∗ wholePt c hbM16 (V m c main_v18) ∗ wholePt c hbM17 (V m c main_v19) ∗ wholePt c hbM18 (V m c main_v22) ∗ wholePt c hbM19 (V m c main_v24) ∗ wholePt c hbM20 (V m c main_v26)) := by
  rw [BI.bigSep_eq_bigSepL_of_eq [main_v7, main_v15, main_v16, main_v17, main_v18, main_v19, main_v22, main_v24, main_v26] (by decide) (by decide)]; rfl
/-- What the region's invariant is, conjunct by conjunct. -/
theorem Phi0_eq (c : Dev nD) :
    (Pipeline.ΦD osem0 spec0 H0 (V m) c : sProp 𝕄)
      = iprop(iprop((∃ d, owns (c : Thread nD τ) scM22 fullShare d) ∗ (∃ d, owns (c : Thread nD τ) scM23 fullShare d) ∗ (∃ d, owns (c : Thread nD τ) scM24 fullShare d) ∗ (∃ d, owns (c : Thread nD τ) scM25 fullShare d) ∗ (∃ d, owns (c : Thread nD τ) scM26 fullShare d) ∗ (∃ d, owns (c : Thread nD τ) scM27 fullShare d) ∗ (∃ d, owns (c : Thread nD τ) scM28 fullShare d) ∗ (∃ d, owns (c : Thread nD τ) scM29 fullShare d) ∗ (∃ d, owns (c : Thread nD τ) scM30 fullShare d) ∗ (∃ d, owns (c : Thread nD τ) scM31 fullShare d) ∗ (∃ d, owns (c : Thread nD τ) scM32 fullShare d) ∗ (∃ d, owns (c : Thread nD τ) scM33 fullShare d) ∗ (∃ d, owns (c : Thread nD τ) scM34 fullShare d) ∗ (∃ d, owns (c : Thread nD τ) scM35 fullShare d) ∗ (∃ d, owns (c : Thread nD τ) scM36 fullShare d))
          ∗ (∃ r, prngReg c r)
          ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
          ∗ iprop(wholePt c hbM12 (V m c main_v7) ∗ wholePt c hbM13 (V m c main_v15) ∗ wholePt c hbM14 (V m c main_v16) ∗ wholePt c hbM15 (V m c main_v17) ∗ wholePt c hbM16 (V m c main_v18) ∗ wholePt c hbM17 (V m c main_v19) ∗ wholePt c hbM18 (V m c main_v22) ∗ wholePt c hbM19 (V m c main_v24) ∗ wholePt c hbM20 (V m c main_v26))) := by
  rw [Pipeline.ΦD_eq, scopedRest0_eq, ownSems00_eq, hbmPts0_eq]
  simp only [scM22, scM23, scM24, scM25, scM26, scM27, scM28, scM29, scM30, scM31, scM32, scM33, scM34, scM35, scM36, owns_whole]; try rfl

/-! ## The body run -/

/-- On the windows' staging memrefs at the blocks `x1 … x11`, the result's at anything, the scratch at anything, the counters at zero and the
    weights in HBM at `f12 … f20`, the body runs to its end with all of them back, the result's and the scratch at some contents. -/
theorem body_run (c : Dev nD) (i : grid0.Coords) (arg1 : Memref sig .tc .smem S4x1 .i32) (harg1 : arg1.IsWhole) (arg2 : Memref sig .tc .vmem S128x1x256 .i32) (harg2 : arg2.IsWhole) (arg3 : Memref sig .tc .vmem S256x1 .i32) (harg3 : arg3.IsWhole) (arg4 : Memref sig .tc .vmem S1x256 .i32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x512 .f32) (harg11 : arg11.IsWhole) (arg21 : Memref sig .tc .vmem S256x512 .f32) (harg21 : arg21.IsWhole)
    (x1 : Vec F S4x1 .i32) (x2 : Vec F S128x1x256 .i32) (x3 : Vec F S256x1 .i32) (x4 : Vec F S1x256 .i32) (x5 : Vec F S1x1024 .f32) (x6 : Vec F S1x512 .f32) (x7 : Vec F S1x2048 .f32) (x8 : Vec F S1x1024 .f32) (x9 : Vec F S1x4096 .f32) (x10 : Vec F S1x2048 .f32) (x11 : Vec F S1x512 .f32)
    (f12 : Buf (Elt F) (hbM12.view.loc (c : Thread nD τ))) (f13 : Buf (Elt F) (hbM13.view.loc (c : Thread nD τ))) (f14 : Buf (Elt F) (hbM14.view.loc (c : Thread nD τ))) (f15 : Buf (Elt F) (hbM15.view.loc (c : Thread nD τ))) (f16 : Buf (Elt F) (hbM16.view.loc (c : Thread nD τ))) (f17 : Buf (Elt F) (hbM17.view.loc (c : Thread nD τ))) (f18 : Buf (Elt F) (hbM18.view.loc (c : Thread nD τ))) (f19 : Buf (Elt F) (hbM19.view.loc (c : Thread nD τ))) (f20 : Buf (Elt F) (hbM20.view.loc (c : Thread nD τ))) (W : Waits sig Unit) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11) ∗ (∃ d, owns (c : Thread nD τ) arg21 fullShare d)
        ∗ ((∃ d, owns (c : Thread nD τ) scM22 fullShare d) ∗ (∃ d, owns (c : Thread nD τ) scM23 fullShare d) ∗ (∃ d, owns (c : Thread nD τ) scM24 fullShare d) ∗ (∃ d, owns (c : Thread nD τ) scM25 fullShare d) ∗ (∃ d, owns (c : Thread nD τ) scM26 fullShare d) ∗ (∃ d, owns (c : Thread nD τ) scM27 fullShare d) ∗ (∃ d, owns (c : Thread nD τ) scM28 fullShare d) ∗ (∃ d, owns (c : Thread nD τ) scM29 fullShare d) ∗ (∃ d, owns (c : Thread nD τ) scM30 fullShare d) ∗ (∃ d, owns (c : Thread nD τ) scM31 fullShare d) ∗ (∃ d, owns (c : Thread nD τ) scM32 fullShare d) ∗ (∃ d, owns (c : Thread nD τ) scM33 fullShare d) ∗ (∃ d, owns (c : Thread nD τ) scM34 fullShare d) ∗ (∃ d, owns (c : Thread nD τ) scM35 fullShare d) ∗ (∃ d, owns (c : Thread nD τ) scM36 fullShare d))
        ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
        ∗ (wholePt c hbM12 f12 ∗ wholePt c hbM13 f13 ∗ wholePt c hbM14 f14 ∗ wholePt c hbM15 f15 ∗ wholePt c hbM16 f16 ∗ wholePt c hbM17 f17 ∗ wholePt c hbM18 f18 ∗ wholePt c hbM19 f19 ∗ wholePt c hbM20 f20)
        ∗ owes (c : Thread nD τ) 0 W
        ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11) ∗ (∃ d, owns (c : Thread nD τ) arg21 fullShare d)
            ∗ ((∃ d, owns (c : Thread nD τ) scM22 fullShare d) ∗ (∃ d, owns (c : Thread nD τ) scM23 fullShare d) ∗ (∃ d, owns (c : Thread nD τ) scM24 fullShare d) ∗ (∃ d, owns (c : Thread nD τ) scM25 fullShare d) ∗ (∃ d, owns (c : Thread nD τ) scM26 fullShare d) ∗ (∃ d, owns (c : Thread nD τ) scM27 fullShare d) ∗ (∃ d, owns (c : Thread nD τ) scM28 fullShare d) ∗ (∃ d, owns (c : Thread nD τ) scM29 fullShare d) ∗ (∃ d, owns (c : Thread nD τ) scM30 fullShare d) ∗ (∃ d, owns (c : Thread nD τ) scM31 fullShare d) ∗ (∃ d, owns (c : Thread nD τ) scM32 fullShare d) ∗ (∃ d, owns (c : Thread nD τ) scM33 fullShare d) ∗ (∃ d, owns (c : Thread nD τ) scM34 fullShare d) ∗ (∃ d, owns (c : Thread nD τ) scM35 fullShare d) ∗ (∃ d, owns (c : Thread nD τ) scM36 fullShare d))
            ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
            ∗ (wholePt c hbM12 f12 ∗ wholePt c hbM13 f13 ∗ wholePt c hbM14 f14 ∗ wholePt c hbM15 f15 ∗ wholePt c hbM16 f16 ∗ wholePt c hbM17 f17 ∗ wholePt c hbM18 f18 ∗ wholePt c hbM19 f19 ∗ wholePt c hbM20 f20)
            ∗ (∃ W', owes (c : Thread nD τ) 0 W')) -∗ K ⟨⟩))
      ⊢ wp frame (wpE (defs₀ (F := F)) Variants.none c none) Set.univ
          (cc0_mini_cddd_gru i arg1 harg1 arg2 harg2 arg3 harg3 arg4 harg4 arg5 harg5 arg6 harg6 arg7 harg7 arg8 harg8 arg9 harg9 arg10 harg10 arg11 harg11 hbM12 (Memref.isWhole_whole _) hbM13 (Memref.isWhole_whole _) hbM14 (Memref.isWhole_whole _) hbM15 (Memref.isWhole_whole _) hbM16 (Memref.isWhole_whole _) hbM17 (Memref.isWhole_whole _) hbM18 (Memref.isWhole_whole _) hbM19 (Memref.isWhole_whole _) hbM20 (Memref.isWhole_whole _) arg21 harg21 scM22 (Memref.isWhole_whole _) scM23 (Memref.isWhole_whole _) scM24 (Memref.isWhole_whole _) scM25 (Memref.isWhole_whole _) scM26 (Memref.isWhole_whole _) scM27 (Memref.isWhole_whole _) scM28 (Memref.isWhole_whole _) scM29 (Memref.isWhole_whole _) scM30 (Memref.isWhole_whole _) scM31 (Memref.isWhole_whole _) scM32 (Memref.isWhole_whole _) scM33 (Memref.isWhole_whole _) scM34 (Memref.isWhole_whole _) scM35 (Memref.isWhole_whole _) scM36 (Memref.isWhole_whole _) cc0_scratch15) K := by
  simp only [cc0_mini_cddd_gru_eq_skeleton]; unfold cc0_mini_cddd_gru_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, ⟨%d21, %f21, -, H21⟩, ⟨⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩⟩, ⟨Hq0, Hq1, Hq2, Hq3, Hq4, Hq5, Hq6, Hq7, Hq8⟩, ⟨H12, H13, H14, H15, H16, H17, H18, H19, H20⟩, HW, Hk⟩
  sl_exec
  sl_step
  iapply Hk
  isplitl [H1 H2 H3 H4 H5 H6 H7 H8 H9 H10 H11]
  · isplitl [H1]
    · iexists _; isplitr; swap; · iexact H1
      ipureintro; assumption
    isplitl [H2]
    · iexists _; isplitr; swap; · iexact H2
      ipureintro; assumption
    isplitl [H3]
    · iexists _; isplitr; swap; · iexact H3
      ipureintro; assumption
    isplitl [H4]
    · iexists _; isplitr; swap; · iexact H4
      ipureintro; assumption
    isplitl [H5]
    · iexists _; isplitr; swap; · iexact H5
      ipureintro; assumption
    isplitl [H6]
    · iexists _; isplitr; swap; · iexact H6
      ipureintro; assumption
    isplitl [H7]
    · iexists _; isplitr; swap; · iexact H7
      ipureintro; assumption
    isplitl [H8]
    · iexists _; isplitr; swap; · iexact H8
      ipureintro; assumption
    isplitl [H9]
    · iexists _; isplitr; swap; · iexact H9
      ipureintro; assumption
    isplitl [H10]
    · iexists _; isplitr; swap; · iexact H10
      ipureintro; assumption
    iexists _; isplitr; swap; · iexact H11
    ipureintro; assumption
  isplitl [H21]
  · iexists _, _; isplitr; swap; · iexact H21
    ipureintro; rfl
  isplitl [H22 H23 H24 H25 H26 H27 H28 H29 H30 H31 H32 H33 H34 H35 H36]
  · isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    iexists _, _; isplitr; swap; · iexact H36
    ipureintro; rfl
  isplitl [Hq0 Hq1 Hq2 Hq3 Hq4 Hq5 Hq6 Hq7 Hq8]
  · isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    iexact Hq8
  isplitl [H12 H13 H14 H15 H16 H17 H18 H19 H20]
  · isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iexact H20
  iexists _; iexact HW

/-! ## The proof data and the body obligation -/

/-- The one window whose contents the relation `Rl` below describes: the result's. -/
def fgt0 : Fin cfg0.W → Bool := fun w => decide (w = 11)

/-- The proof data: every input window holds its block, the result's window is left to the relation. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Classical.choice inferInstance
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare d))

/-- The body at the point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, Phi0_eq]
  unfold Dat.owesAt Pipeline.owesWithin
  rw [show (dats m 0 c).owed t.castSucc = 0 from rfl, show (dats m 0 c).owed t.succ = 0 from rfl]
  simp only [before0_0, before0_1, before0_2, before0_3, before0_4, before0_5, before0_6, before0_7, before0_8, before0_9, before0_10, after0_0, after0_1, after0_2, after0_3, after0_4, after0_5, after0_6, after0_7, after0_8, after0_9, after0_10]
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (body_run c _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v7) (V m c main_v15) (V m c main_v16) (V m c main_v17) (V m c main_v18) (V m c main_v19) (V m c main_v22) (V m c main_v24) (V m c main_v26) W _)
  isplitl [H0 H1 H2 H3 H4 H5 H6 H7 H8 H9 H10]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]; · iexact H11
  isplitl [HS]; · iexact HS
  isplitl [Hq]; · iexact Hq
  isplitl [Hh]; · iexact Hh
  isplitl [HW]; · iexact HW
  iintro ⟨⟨H0, H1, H2, H3, H4, H5, H6, H7, H8, H9, H10⟩, H11, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

/-- The body obligation of the data, the result's window forgotten. -/
theorem body_obligation (c : Dev nD) : Pipeline.BodyObligationLoose (dats m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
/-- The whole program runs to the frame's post with every counter back at zero. -/
theorem run_main :
    θ_run defs (onTc (τ := τ) (main (F := F))) (s₀ m ρ)
      (fun r => Pipeline.RDat.FramePost cfg0 (fun c => (dats m 0 c).toRForget fgt0) (V m) r ∧ r.2.sem = fun _ => 0) :=
  Pipeline.θ_run_frame_dma_forget (Q' := _) cfgs (dats m) (0 : Fin 1) launch0 osem0 defs₀ Variants.none fgt0 ownSemFacts0 H0 H0_sub m ρ main
    (hbody := fun c => body_obligation m c)
    (hshare := fun c => (dats m 0 c).share_full fun _ => rfl)
    (howed := fun _ _ => rfl)
    (V := V m)
    (hmain := hmainD m Variants.none)
    (hA := fun c w => A_eq m c w)
    (hin := fun _ => .rfl)
    (hout := fun _ => .rfl)

/-- The frame: the arguments as they were, every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c)⟩, h.2⟩) (run_main m ρ)

end Cert.Proof.KernelIdeal

end
-- ==== Proof.ReferenceFrame.lean ====
/- Hand-written, untrusted. THE REFERENCE'S FRAME: the generated run of the reference gives its results and its unchanged arguments; here the same
   chain of host stretches around the scan is run once more with the TensorCore's unscoped counters carried along, so that every counter is known to be zero at the end. -/
module

public import proofs.«01_k».proof.Proof.Gen.ReferenceIdeal
public import proofs.«01_k».proof.Proof.Gen.ReferenceIdeal.Run
public import Idealize.ShloMosaic.Lib.Quiescent
public import Idealize.ShloMosaic.Lib.Pipeline.Quiescent
public import Idealize.ShloMosaic.Lib.Claim

@[expose] public section

set_option maxRecDepth 100000

noncomputable section

namespace Cert.Proof.ReferenceIdeal

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.Sem
open Pipeline
open Cert.ReferenceIdeal Cert.ReferenceIdeal.Gen Cert.ReferenceIdeal.Value

variable {F : FTy → Type} [FloatOps F]

local notation "𝕄" => MT nD τ sig Unit (Elt F) ℕ (Option PUnit) ℕ

/-- There is no pipeline in the reference, so nothing is admitted. -/
abbrev noAdm : (p : Fin 0) → (pcfgs (F := F) p).Adm := fun p => p.elim0
/-- And no region is ever entered. -/
abbrev noTicket : Fin 0 → Ticket (Ix := Unit) (Name := ℕ) (U := Option PUnit) (Lvl := ℕ) (nD := nD) (τ := τ) (pcfgs (F := F)) noAdm := fun j => j.elim0
/-- No cell has a level. -/
abbrev noLevels : GSem nD τ sig → Finset Unit := fun _ => ∅
/-- The level of a cell that has none. -/
abbrev zeroLevel : GSem nD τ sig → Unit → ℕ := fun _ _ => 0

/-- Two staging cells at one place are the same: there are none. -/
theorem noCell : Function.Injective (Pipeline.cellOf (nD := nD) (τ := τ) (Pipeline.pin (pcfgs (F := F)) noAdm)) := fun k => k.1.elim0

/-- What rides beside the buffers: what the core owes, and its unscoped counters, all at zero. -/
abbrev beside (c : Dev nD) : sProp 𝕄 := iprop((∃ W, owes (c : Thread nD τ) (0 : CellTallies nD τ sig Unit) W) ∗ unscopedSems0 c)

variable (m : (ℓ : Loc nD τ sig) → Buf (Elt F) ℓ) (ρ : Dev nD → PrngReg)

/-- The scan's condition keeps what rides beside the buffers. -/
theorem cond_beside : LoopCond (pcfgs (F := F)) defs₀ Variants.none loops beside (main_while0_cond (F := F)) condOps bodyI (entryContents preI m) 128 := by
  intro k hk c bd
  refine BIBase.Entails.trans ?_ (((sep_mono_left (Q := beside c) (cond_spec m k hk c bd)).trans (wp_frame_r _ _ _)).trans (wp_mono _ _ _ fun v => ?_))
  · iintro ⟨Hb, Hh, HR⟩
    isplitl [Hb Hh]
    · isplitl [Hb]; · iexact Hb
      iexact Hh
    iexact HR
  · iintro ⟨⟨%h, Hb, Hh⟩, HR⟩
    isplitr; · ipureintro; exact h
    isplitl [Hb]; · iexact Hb
    isplitl [Hh]; · iexact Hh
    iexact HR

/-- @main as segments: the stretch before the scan, the scan, the stretch after it. -/
def segments : List (CSeg (pcfgs (F := F)) noAdm defs₀ Variants.none noLevels zeroLevel loops noTicket) :=
  segsOf _ _ _ _ _ _ _ _ beside preI hpre (launchContents m)
    ++ loopSeg _ _ _ _ _ _ _ _ 0 main_while0_cond main_while0_body rfl condOps bodyI hbodyI (by rw [while0_body_chain]; rfl) 128 (entryContents preI m) beside (cond_beside m)
      :: segsOf _ _ _ _ _ _ _ _ beside postI hpost (fun c => after condOps (atTrip condOps bodyI (entryContents preI m) 128 c))

/-- The segments' programs, in order, are @main. -/
theorem segments_prog (c : Dev nD) : Pipeline.chain ((segments (F := F) m).map CSeg.prog) = main (F := F) c := by
  rw [main_chain]
  rfl

set_option backward.isDefEq.respectTransparency.types false in
/-- Every execution of the reference ends with every counter at zero. -/
theorem run_counters : θ_run (defs (F := F)) (onTc (τ := τ) (main (F := F))) ⟨m, fun _ => 0, ρ⟩ (fun r => r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell defs₀ Variants.none noLevels zeroLevel loops noTicket m ρ main (segments m)
    (fun c Q => by
      rw [← segments_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ beside c))
    (Tₙ := fun c => iprop(unscopedSems0 c))
    (hch := ⟨fun _ => .rfl, fun _ => .rfl, fun _ => .rfl, fun c => by
      refine BIBase.Entails.trans (Q := iprop(held (c : Thread nD τ) (ucRefs τ sig) (finalContents condOps preI bodyI postI 128 m c) ∗ beside c)) .rfl ?_
      iintro ⟨-, Ho, Hs⟩
      isplitl [Hs]; · iexact Hs
      iexact Ho⟩)
    (hinit := by
      refine Pipeline.initEach noLevels zeroLevel fun c => ?_
      rw [show unscopedBufs c (fun b => m ((c : Thread nD τ).loc b)) = held (c : Thread nD τ) (ucRefs τ sig) (launchContents m c) from Pipeline.unscopedBufs_held c (launchContents m c)]
      iintro ⟨⟨Hh, Hs, HO, -, -, -⟩, -⟩
      imodintro
      isplitl [Hh]; · iexact Hh
      isplitl [HO]; · iexists ∅; iexact HO
      iexact Hs)
    (QY := fun c s => ∀ sm : SemLoc sig, sm.isScoped .tc = false → s.sem ((c.tc : Thread nD τ), sm) = 0)
    (hfin := fun c s' => by
      iintro ⟨Hs, HSI⟩
      ihave #Hr := (tcUnscoped_read c s') $$ [Hs HSI]
      · isplitl [Hs] <;> iassumption
      icases Hr with %h
      imodintro
      isplitr; · ipureintro; exact h
      iexact HSI)
    (hQ := fun _ h hs => sem_eq_zero hs h)

end Cert.Proof.ReferenceIdeal

end
-- ==== Proof.Words.lean ====
/-
  What the precondition says of the words: tokens below forty, lengths from one to a hundred and twenty-eight.
-/
module

public import proofs.«01_k».proof.Pre_words_in_range
public import Idealize.ShloMosaic.Lib.ReduceAll
public import Idealize.ShloMosaic.Lib.WordCmp
public import Idealize.ShloMosaic.Lib.Pointwise
public import Idealize.ShloMosaic.Lib.Decide

@[expose] public section

noncomputable section

namespace Cert.Proof.Words

open Cert.Pre_words_in_range
open Idealize.ShloMosaic

/-- The precondition's shape relations hold. -/
theorem facts : Cert.Pre_words_in_range.Facts where
  bcast_S256_S256x1_0 := by decide
  bcast_S_S256x128 := by decide
  bcast_S_S256x1 := by decide
  bcast_S256x1_S256x128_0_1 := by decide

attribute [local instance] facts

variable (a0 : IVec S256x128 32) (a1 : IVec S256 32) (a2 : FVec Ideal S40x32 .f32) (a3 : FVec Ideal S544x1024 .f32) (a4 : FVec Ideal S1024 .f32)
  (a5 : FVec Ideal S544x512 .f32) (a6 : FVec Ideal S512 .f32) (a7 : FVec Ideal S1536x2048 .f32) (a8 : FVec Ideal S2048 .f32) (a9 : FVec Ideal S1536x1024 .f32)
  (a10 : FVec Ideal S1024 .f32) (a11 : FVec Ideal S3072x4096 .f32) (a12 : FVec Ideal S4096 .f32) (a13 : FVec Ideal S3072x2048 .f32) (a14 : FVec Ideal S2048 .f32)
  (a15 : FVec Ideal S512x3584 .f32) (a16 : FVec Ideal S512 .f32)

/-- The ranges, at a row and a position. -/
theorem at_row (h : fn (F := Ideal) a0 a1 a2 a3 a4 a5 a6 a7 a8 a9 a10 a11 a12 a13 a14 a15 a16 = fun _ => 1#1) (i : Fin 256) (t : Fin 128) :
    (a0 (ix2 i t)).toNat < 40 ∧ 1 ≤ (a1 (ix1 i)).toInt ∧ (a1 (ix1 i)).toInt ≤ 128 := by
  have e := congrFun h (ix2 i t)
  have k : fn (F := Ideal) a0 a1 a2 a3 a4 a5 a6 a7 a8 a9 a10 a11 a12 a13 a14 a15 a16 (ix2 i t)
      = IntOp.andi (IntOp.andi (IntOp.andi (IntOp.cmpi .sge (a0 (ix2 i t)) 0#32) (IntOp.cmpi .slt (a0 (ix2 i t)) 40#32))
        (IntOp.cmpi .sge (a1 (ix1 i)) 1#32)) (IntOp.cmpi .sle (a1 (ix1 i)) 128#32) := by
    pointwise [fn]
  rw [k, IntOp.andi_eq_one, IntOp.andi_eq_one, IntOp.andi_eq_one] at e
  obtain ⟨⟨⟨e1, e2⟩, e3⟩, e4⟩ := e
  have ob : ∀ p : Prop, [Decidable p] → BitVec.ofBool (decide p) = 1#1 → p := fun p _ q => by
    by_contra hp
    rw [decide_eq_false hp] at q
    exact absurd q (by decide)
  rw [WordCmp.cmpi_sge_eq] at e1 e3
  rw [WordCmp.cmpi_slt_eq] at e2
  rw [WordCmp.cmpi_sle_eq] at e4
  have r1 : (0 : Int) ≤ (a0 (ix2 i t)).toInt := ob _ e1
  have r2 : (a0 (ix2 i t)).toInt < 40 := ob _ e2
  have r3 : (1 : Int) ≤ (a1 (ix1 i)).toInt := ob _ e3
  have r4 : (a1 (ix1 i)).toInt ≤ 128 := ob _ e4
  refine ⟨?_, r3, r4⟩
  have hl := (a0 (ix2 i t)).isLt
  rw [BitVec.toInt_eq_toNat_cond] at r1 r2
  split at r1 <;> omega

end Cert.Proof.Words

end
-- ==== Proof.Gru.lean ====
/-
  One row of the recurrent network, as plain functions of extended reals: the cell, the three stacked layers and the
  state after a number of time steps.
-/
module

public import Idealize.ShloMosaic.Lib.Pointwise
public import Idealize.ShloMosaic.PureOps

@[expose] public section

noncomputable section

namespace Cert.Proof.Gru

open Idealize.ShloMosaic

/-- The constant one half. -/
def half : EReal := Ideal.ofBits .f32 1056964608#32

/-- The gate's activation, by the hyperbolic tangent. -/
def gate (x : EReal) : EReal := half * Ideal.tanh (half * x) + half

/-- Two rows side by side. -/
def cat {α : Type} {ins outs n : ℕ} (hn : n = ins + outs) (x : Fin ins → α) (h : Fin outs → α) (k : Fin n) : α :=
  if hk : k.val < ins then x ⟨k.val, hk⟩ else h ⟨k.val - ins, by omega⟩

/-- A row times a matrix, plus a row of offsets, at one column. -/
def aff {n m : ℕ} (x : Fin n → EReal) (K : Fin n → Fin m → EReal) (b : Fin m → EReal) (j : Fin m) : EReal :=
  (∑ k, x k * K k j) + b j

/-- From `u` toward `h` by the part `z` of the way. -/
def mix (u z h : EReal) : EReal := u + z * (h - u)

/-- Column `j` of the left half. -/
def lo {outs m : ℕ} (hm : m = outs + outs) (j : Fin outs) : Fin m := ⟨j.val, by omega⟩
/-- Column `j` of the right half. -/
def hi {outs m : ℕ} (hm : m = outs + outs) (j : Fin outs) : Fin m := ⟨outs + j.val, by omega⟩

/-- One layer's weights: gates and candidate, each a matrix and a row of offsets. -/
structure Layer (n outs m : ℕ) where
  G : Fin n → Fin m → EReal
  bg : Fin m → EReal
  C : Fin n → Fin outs → EReal
  bc : Fin outs → EReal

/-- One cell: the new state of a layer from its input row and its old state. -/
def cell {ins outs n m : ℕ} (hn : n = ins + outs) (hm : m = outs + outs) (L : Layer n outs m) (x : Fin ins → EReal)
    (h : Fin outs → EReal) (j : Fin outs) : EReal :=
  mix (Ideal.tanh (aff (cat hn x fun l => gate (aff (cat hn x h) L.G L.bg (lo hm l)) * h l) L.C L.bc j))
    (gate (aff (cat hn x h) L.G L.bg (hi hm j))) (h j)

/-- The state of one row: the three layers' states. -/
@[ext] structure St where
  h0 : Fin 512 → EReal
  h1 : Fin 1024 → EReal
  h2 : Fin 2048 → EReal

/-- All weights, the first layer's input as wide as the one-hot row. -/
structure Net where
  L0 : Layer 640 512 1024
  L1 : Layer 1536 1024 2048
  L2 : Layer 3072 2048 4096

/-- The three stacked cells. -/
def Net.next (N : Net) (x : Fin 128 → EReal) (s : St) : St where
  h0 := cell rfl rfl N.L0 x s.h0
  h1 := cell rfl rfl N.L1 (cell rfl rfl N.L0 x s.h0) s.h1
  h2 := cell rfl rfl N.L2 (cell rfl rfl N.L1 (cell rfl rfl N.L0 x s.h0) s.h1) s.h2

/-- The one-hot row of a token. -/
def onehot (w : BitVec 32) (k : Fin 128) : EReal := if w = BitVec.ofNat 32 k.val then 1 else 0

/-- The state after `t` steps over the tokens `tok`, a row of length `len` keeping its state from step `len` on. -/
def Net.st (N : Net) (tok : ℕ → BitVec 32) (len : BitVec 32) : ℕ → St
  | 0 => ⟨fun _ => 0, fun _ => 0, fun _ => 0⟩
  | t + 1 => if (BitVec.ofNat 32 t).slt len then N.next (onehot (tok t)) (N.st tok len t) else N.st tok len t

/-- A matrix block as a function of its two coordinates. -/
def mat {n m : ℕ} {e : FTy} (G : FVec Ideal ⟨2, ![n, m]⟩ e) (k : Fin n) (j : Fin m) : EReal := G (ix2 k j)
/-- A block of one row as a function of the column. -/
def row {m : ℕ} {e : FTy} (b : FVec Ideal ⟨2, ![1, m]⟩ e) (j : Fin m) : EReal := b (ix2 0 j)

end Cert.Proof.Gru

end
-- ==== Proof.KernelIdealCells.lean ====
/-
  What the kernel's trip stores, read at one row and one column: the one-hot row, the gated state, the new state and the
  choice between the old and the new state, at each of the four row counts.
-/
module

public import proofs.«01_k».proof.Proof.Gen.KernelIdeal.Skeleton
public import proofs.«01_k».proof.Proof.Gru

@[expose] public section

set_option maxRecDepth 65536

noncomputable section

namespace Cert.Proof.KernelIdeal

open Cert.KernelIdeal Cert.KernelIdeal.Gen Idealize.ShloMosaic Cert.Proof.Gru

/-- The choice by equality of two words. -/
theorem select_eq (a b : BitVec 32) (x y : EReal) : Scalar.select (IntOp.cmpi .eq a b) x y = if a = b then x else y := by
  unfold Scalar.select IntOp.cmpi
  by_cases h : a = b
  · subst h; simp
  · have hb : (a == b) = false := by simpa using h
    simp [h, hb]

/-- The choice by signed order of two words. -/
theorem select_sgt (a b : BitVec 32) (x y : EReal) : Scalar.select (IntOp.cmpi .sgt a b) x y = if b.slt a then x else y := by
  unfold Scalar.select IntOp.cmpi
  cases h : b.slt a <;> simp [h]

/-- The one-hot block of 64 rows: row `i` is the one-hot row of its token. -/
theorem oh_0 (v : IVec S128x64 32) (hv : ∀ (k : Fin 128) (i : Fin 64), v (ix2 k i) = BitVec.ofNat 32 k.val) (w : Vec Ideal S1x1x256 .i32) (i : Fin 64) (k : Fin 128) :
    k0_pay2 (F := Ideal) v (k0_pay97 (F := Ideal) w) (ix2 i k) = onehot (w (ix3 0 0 ⟨i.val, by omega⟩)) k := by
  pointwise [k0_pay2, k0_pay97]
  rw [select_eq, hv]; rfl

/-- The copy of layer 0's state, 64 rows. -/
theorem cp_0_0 (h : Vec Ideal S64x512 .f32) (i : Fin 64) (j : Fin 512) : (k0_pay3 h) (ix2 i j) = h (ix2 i j) := by
  pointwise [k0_pay3]

/-- Layer 0's state times the reset gate, 64 rows. -/
theorem rh_0_0 (h : Vec Ideal S64x512 .f32) (x : Vec Ideal S64x640 .bf16) (G : Vec Ideal S640x1024 .bf16) (b : Vec Ideal S1x1024 .f32) (i : Fin 64) (j : Fin 512) :
    (k0_pay7 h (k0_pay5 x G b)) (ix2 i j) = gate (aff (fun k => x (ix2 i k)) (mat (e := .bf16) G) (row (e := .f32) b) (lo rfl j)) * h (ix2 i j) := by
  pointwise [k0_pay7, k0_pay5, k0_pay4]
  rfl

/-- Layer 0's new state, 64 rows. -/
theorem new_0_0 (h : Vec Ideal S64x512 .f32) (x x2 : Vec Ideal S64x640 .bf16) (G : Vec Ideal S640x1024 .bf16) (b : Vec Ideal S1x1024 .f32) (C : Vec Ideal S640x512 .bf16) (c : Vec Ideal S1x512 .f32) (i : Fin 64) (j : Fin 512) :
    (k0_pay8 h (k0_pay6 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay8, k0_pay6, k0_pay4]
  rfl

/-- The same new state, as it goes into layer 1. -/
theorem newb_0_0 (h : Vec Ideal S64x512 .f32) (x x2 : Vec Ideal S64x640 .bf16) (G : Vec Ideal S640x1024 .bf16) (b : Vec Ideal S1x1024 .f32) (C : Vec Ideal S640x512 .bf16) (c : Vec Ideal S1x512 .f32) (i : Fin 64) (j : Fin 512) :
    (k0_pay9 h (k0_pay6 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay9, k0_pay8, k0_pay6, k0_pay4]
  rfl

/-- The state layer 0 keeps, 64 rows: the new one while the row's length exceeds the step. -/
theorem sel_0_0 (t : BitVec 32) (n h : Vec Ideal S64x512 .f32) (len : Vec Ideal S64x1 .i32) (i : Fin 64) (j : Fin 512) :
    (k0_pay24 t n len h) (ix2 i j) = if t.slt (len (ix2 i 0)) then n (ix2 i j) else h (ix2 i j) := by
  pointwise [k0_pay24, k0_pay23]
  rw [select_sgt]

/-- The copy of layer 1's state, 64 rows. -/
theorem cp_0_1 (h : Vec Ideal S64x1024 .f32) (i : Fin 64) (j : Fin 1024) : (k0_pay11 (k0_pay10 h)) (ix2 i j) = h (ix2 i j) := by
  pointwise [k0_pay11, k0_pay10]

/-- Layer 1's state times the reset gate, 64 rows. -/
theorem rh_0_1 (h : Vec Ideal S64x1024 .f32) (x : Vec Ideal S64x1536 .bf16) (G : Vec Ideal S1536x2048 .bf16) (b : Vec Ideal S1x2048 .f32) (i : Fin 64) (j : Fin 1024) :
    (k0_pay14 h x G b) (ix2 i j) = gate (aff (fun k => x (ix2 i k)) (mat (e := .bf16) G) (row (e := .f32) b) (lo rfl j)) * h (ix2 i j) := by
  pointwise [k0_pay14, k0_pay12]
  rfl

/-- Layer 1's new state, 64 rows. -/
theorem new_0_1 (h : Vec Ideal S64x1024 .f32) (x x2 : Vec Ideal S64x1536 .bf16) (G : Vec Ideal S1536x2048 .bf16) (b : Vec Ideal S1x2048 .f32) (C : Vec Ideal S1536x1024 .bf16) (c : Vec Ideal S1x1024 .f32) (i : Fin 64) (j : Fin 1024) :
    (k0_pay15 h (k0_pay13 x G b) x2 C (constant S64x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay15, k0_pay13, k0_pay12]
  rfl

/-- The same new state, as it goes into layer 2. -/
theorem newb_0_1 (h : Vec Ideal S64x1024 .f32) (x x2 : Vec Ideal S64x1536 .bf16) (G : Vec Ideal S1536x2048 .bf16) (b : Vec Ideal S1x2048 .f32) (C : Vec Ideal S1536x1024 .bf16) (c : Vec Ideal S1x1024 .f32) (i : Fin 64) (j : Fin 1024) :
    (k0_pay16 h (k0_pay13 x G b) x2 C (constant S64x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay16, k0_pay15, k0_pay13, k0_pay12]
  rfl

/-- The state layer 1 keeps, 64 rows: the new one while the row's length exceeds the step. -/
theorem sel_0_1 (t : BitVec 32) (n h : Vec Ideal S64x1024 .f32) (len : Vec Ideal S64x1 .i32) (i : Fin 64) (j : Fin 1024) :
    (k0_pay98 n (k0_pay23 t len) h) (ix2 i j) = if t.slt (len (ix2 i 0)) then n (ix2 i j) else h (ix2 i j) := by
  pointwise [k0_pay98, k0_pay23]
  rw [select_sgt]

/-- The copy of layer 2's state, 64 rows. -/
theorem cp_0_2 (h : Vec Ideal S64x2048 .f32) (i : Fin 64) (j : Fin 2048) : (k0_pay17 h) (ix2 i j) = h (ix2 i j) := by
  pointwise [k0_pay17]

/-- Layer 2's state times the reset gate, 64 rows. -/
theorem rh_0_2 (h : Vec Ideal S64x2048 .f32) (x : Vec Ideal S64x3072 .bf16) (G : Vec Ideal S3072x4096 .bf16) (b : Vec Ideal S1x4096 .f32) (i : Fin 64) (j : Fin 2048) :
    (k0_pay21 h (k0_pay19 x G b) k0_pay20) (ix2 i j) = gate (aff (fun k => x (ix2 i k)) (mat (e := .bf16) G) (row (e := .f32) b) (lo rfl j)) * h (ix2 i j) := by
  pointwise [k0_pay21, k0_pay19, k0_pay18, k0_pay20]
  rfl

/-- Layer 2's new state, 64 rows. -/
theorem new_0_2 (h : Vec Ideal S64x2048 .f32) (x x2 : Vec Ideal S64x3072 .bf16) (G : Vec Ideal S3072x4096 .bf16) (b : Vec Ideal S1x4096 .f32) (C : Vec Ideal S3072x2048 .bf16) (c : Vec Ideal S1x2048 .f32) (i : Fin 64) (j : Fin 2048) :
    (k0_pay22 h (k0_pay18 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay22, k0_pay18]
  rfl

/-- The state layer 2 keeps, 64 rows: the new one while the row's length exceeds the step. -/
theorem sel_0_2 (t : BitVec 32) (n h : Vec Ideal S64x2048 .f32) (len : Vec Ideal S64x1 .i32) (i : Fin 64) (j : Fin 2048) :
    (k0_pay99 n (k0_pay23 t len) h) (ix2 i j) = if t.slt (len (ix2 i 0)) then n (ix2 i j) else h (ix2 i j) := by
  pointwise [k0_pay99, k0_pay23]
  rw [select_sgt]

/-- The one-hot block of 128 rows: row `i` is the one-hot row of its token. -/
theorem oh_1 (v : IVec S128x128 32) (hv : ∀ (k : Fin 128) (i : Fin 128), v (ix2 k i) = BitVec.ofNat 32 k.val) (w : Vec Ideal S1x1x256 .i32) (i : Fin 128) (k : Fin 128) :
    k0_pay25 (F := Ideal) v (k0_pay97 (F := Ideal) w) (ix2 i k) = onehot (w (ix3 0 0 ⟨i.val, by omega⟩)) k := by
  pointwise [k0_pay25, k0_pay97]
  rw [select_eq, hv]; rfl

/-- The copy of layer 0's state, 128 rows. -/
theorem cp_1_0 (h : Vec Ideal S128x512 .f32) (i : Fin 128) (j : Fin 512) : (k0_pay26 h) (ix2 i j) = h (ix2 i j) := by
  pointwise [k0_pay26]

/-- Layer 0's state times the reset gate, 128 rows. -/
theorem rh_1_0 (h : Vec Ideal S128x512 .f32) (x : Vec Ideal S128x640 .bf16) (G : Vec Ideal S640x1024 .bf16) (b : Vec Ideal S1x1024 .f32) (i : Fin 128) (j : Fin 512) :
    (k0_pay30 h (k0_pay28 x G b)) (ix2 i j) = gate (aff (fun k => x (ix2 i k)) (mat (e := .bf16) G) (row (e := .f32) b) (lo rfl j)) * h (ix2 i j) := by
  pointwise [k0_pay30, k0_pay28, k0_pay27]
  rfl

/-- Layer 0's new state, 128 rows. -/
theorem new_1_0 (h : Vec Ideal S128x512 .f32) (x x2 : Vec Ideal S128x640 .bf16) (G : Vec Ideal S640x1024 .bf16) (b : Vec Ideal S1x1024 .f32) (C : Vec Ideal S640x512 .bf16) (c : Vec Ideal S1x512 .f32) (i : Fin 128) (j : Fin 512) :
    (k0_pay31 h (k0_pay29 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay31, k0_pay29, k0_pay27]
  rfl

/-- The same new state, as it goes into layer 1. -/
theorem newb_1_0 (h : Vec Ideal S128x512 .f32) (x x2 : Vec Ideal S128x640 .bf16) (G : Vec Ideal S640x1024 .bf16) (b : Vec Ideal S1x1024 .f32) (C : Vec Ideal S640x512 .bf16) (c : Vec Ideal S1x512 .f32) (i : Fin 128) (j : Fin 512) :
    (k0_pay32 h (k0_pay29 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay32, k0_pay31, k0_pay29, k0_pay27]
  rfl

/-- The state layer 0 keeps, 128 rows: the new one while the row's length exceeds the step. -/
theorem sel_1_0 (t : BitVec 32) (n h : Vec Ideal S128x512 .f32) (len : Vec Ideal S128x1 .i32) (i : Fin 128) (j : Fin 512) :
    (k0_pay47 t n len h) (ix2 i j) = if t.slt (len (ix2 i 0)) then n (ix2 i j) else h (ix2 i j) := by
  pointwise [k0_pay47, k0_pay46]
  rw [select_sgt]

/-- The copy of layer 1's state, 128 rows. -/
theorem cp_1_1 (h : Vec Ideal S128x1024 .f32) (i : Fin 128) (j : Fin 1024) : (k0_pay34 (k0_pay33 h)) (ix2 i j) = h (ix2 i j) := by
  pointwise [k0_pay34, k0_pay33]

/-- Layer 1's state times the reset gate, 128 rows. -/
theorem rh_1_1 (h : Vec Ideal S128x1024 .f32) (x : Vec Ideal S128x1536 .bf16) (G : Vec Ideal S1536x2048 .bf16) (b : Vec Ideal S1x2048 .f32) (i : Fin 128) (j : Fin 1024) :
    (k0_pay37 h x G b) (ix2 i j) = gate (aff (fun k => x (ix2 i k)) (mat (e := .bf16) G) (row (e := .f32) b) (lo rfl j)) * h (ix2 i j) := by
  pointwise [k0_pay37, k0_pay35]
  rfl

/-- Layer 1's new state, 128 rows. -/
theorem new_1_1 (h : Vec Ideal S128x1024 .f32) (x x2 : Vec Ideal S128x1536 .bf16) (G : Vec Ideal S1536x2048 .bf16) (b : Vec Ideal S1x2048 .f32) (C : Vec Ideal S1536x1024 .bf16) (c : Vec Ideal S1x1024 .f32) (i : Fin 128) (j : Fin 1024) :
    (k0_pay38 h (k0_pay36 x G b) x2 C (constant S128x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay38, k0_pay36, k0_pay35]
  rfl

/-- The same new state, as it goes into layer 2. -/
theorem newb_1_1 (h : Vec Ideal S128x1024 .f32) (x x2 : Vec Ideal S128x1536 .bf16) (G : Vec Ideal S1536x2048 .bf16) (b : Vec Ideal S1x2048 .f32) (C : Vec Ideal S1536x1024 .bf16) (c : Vec Ideal S1x1024 .f32) (i : Fin 128) (j : Fin 1024) :
    (k0_pay39 h (k0_pay36 x G b) x2 C (constant S128x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay39, k0_pay38, k0_pay36, k0_pay35]
  rfl

/-- The state layer 1 keeps, 128 rows: the new one while the row's length exceeds the step. -/
theorem sel_1_1 (t : BitVec 32) (n h : Vec Ideal S128x1024 .f32) (len : Vec Ideal S128x1 .i32) (i : Fin 128) (j : Fin 1024) :
    (k0_pay100 n (k0_pay46 t len) h) (ix2 i j) = if t.slt (len (ix2 i 0)) then n (ix2 i j) else h (ix2 i j) := by
  pointwise [k0_pay100, k0_pay46]
  rw [select_sgt]

/-- The copy of layer 2's state, 128 rows. -/
theorem cp_1_2 (h : Vec Ideal S128x2048 .f32) (i : Fin 128) (j : Fin 2048) : (k0_pay40 h) (ix2 i j) = h (ix2 i j) := by
  pointwise [k0_pay40]

/-- Layer 2's state times the reset gate, 128 rows. -/
theorem rh_1_2 (h : Vec Ideal S128x2048 .f32) (x : Vec Ideal S128x3072 .bf16) (G : Vec Ideal S3072x4096 .bf16) (b : Vec Ideal S1x4096 .f32) (i : Fin 128) (j : Fin 2048) :
    (k0_pay44 h (k0_pay42 x G b) k0_pay43) (ix2 i j) = gate (aff (fun k => x (ix2 i k)) (mat (e := .bf16) G) (row (e := .f32) b) (lo rfl j)) * h (ix2 i j) := by
  pointwise [k0_pay44, k0_pay42, k0_pay41, k0_pay43]
  rfl

/-- Layer 2's new state, 128 rows. -/
theorem new_1_2 (h : Vec Ideal S128x2048 .f32) (x x2 : Vec Ideal S128x3072 .bf16) (G : Vec Ideal S3072x4096 .bf16) (b : Vec Ideal S1x4096 .f32) (C : Vec Ideal S3072x2048 .bf16) (c : Vec Ideal S1x2048 .f32) (i : Fin 128) (j : Fin 2048) :
    (k0_pay45 h (k0_pay41 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay45, k0_pay41]
  rfl

/-- The state layer 2 keeps, 128 rows: the new one while the row's length exceeds the step. -/
theorem sel_1_2 (t : BitVec 32) (n h : Vec Ideal S128x2048 .f32) (len : Vec Ideal S128x1 .i32) (i : Fin 128) (j : Fin 2048) :
    (k0_pay101 n (k0_pay46 t len) h) (ix2 i j) = if t.slt (len (ix2 i 0)) then n (ix2 i j) else h (ix2 i j) := by
  pointwise [k0_pay101, k0_pay46]
  rw [select_sgt]

/-- The one-hot block of 192 rows: row `i` is the one-hot row of its token. -/
theorem oh_2 (v : IVec S128x192 32) (hv : ∀ (k : Fin 128) (i : Fin 192), v (ix2 k i) = BitVec.ofNat 32 k.val) (w : Vec Ideal S1x1x256 .i32) (i : Fin 192) (k : Fin 128) :
    k0_pay48 (F := Ideal) v (k0_pay97 (F := Ideal) w) (ix2 i k) = onehot (w (ix3 0 0 ⟨i.val, by omega⟩)) k := by
  pointwise [k0_pay48, k0_pay97]
  rw [select_eq, hv]; rfl

/-- The copy of layer 0's state, 192 rows. -/
theorem cp_2_0 (h : Vec Ideal S192x512 .f32) (i : Fin 192) (j : Fin 512) : (k0_pay49 h) (ix2 i j) = h (ix2 i j) := by
  pointwise [k0_pay49]

/-- Layer 0's state times the reset gate, 192 rows. -/
theorem rh_2_0 (h : Vec Ideal S192x512 .f32) (x : Vec Ideal S192x640 .bf16) (G : Vec Ideal S640x1024 .bf16) (b : Vec Ideal S1x1024 .f32) (i : Fin 192) (j : Fin 512) :
    (k0_pay53 h (k0_pay51 x G b)) (ix2 i j) = gate (aff (fun k => x (ix2 i k)) (mat (e := .bf16) G) (row (e := .f32) b) (lo rfl j)) * h (ix2 i j) := by
  pointwise [k0_pay53, k0_pay51, k0_pay50]
  rfl

/-- Layer 0's new state, 192 rows. -/
theorem new_2_0 (h : Vec Ideal S192x512 .f32) (x x2 : Vec Ideal S192x640 .bf16) (G : Vec Ideal S640x1024 .bf16) (b : Vec Ideal S1x1024 .f32) (C : Vec Ideal S640x512 .bf16) (c : Vec Ideal S1x512 .f32) (i : Fin 192) (j : Fin 512) :
    (k0_pay54 h (k0_pay52 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay54, k0_pay52, k0_pay50]
  rfl

/-- The same new state, as it goes into layer 1. -/
theorem newb_2_0 (h : Vec Ideal S192x512 .f32) (x x2 : Vec Ideal S192x640 .bf16) (G : Vec Ideal S640x1024 .bf16) (b : Vec Ideal S1x1024 .f32) (C : Vec Ideal S640x512 .bf16) (c : Vec Ideal S1x512 .f32) (i : Fin 192) (j : Fin 512) :
    (k0_pay55 h (k0_pay52 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay55, k0_pay54, k0_pay52, k0_pay50]
  rfl

/-- The state layer 0 keeps, 192 rows: the new one while the row's length exceeds the step. -/
theorem sel_2_0 (t : BitVec 32) (n h : Vec Ideal S192x512 .f32) (len : Vec Ideal S192x1 .i32) (i : Fin 192) (j : Fin 512) :
    (k0_pay70 t n len h) (ix2 i j) = if t.slt (len (ix2 i 0)) then n (ix2 i j) else h (ix2 i j) := by
  pointwise [k0_pay70, k0_pay69]
  rw [select_sgt]

/-- The copy of layer 1's state, 192 rows. -/
theorem cp_2_1 (h : Vec Ideal S192x1024 .f32) (i : Fin 192) (j : Fin 1024) : (k0_pay57 (k0_pay56 h)) (ix2 i j) = h (ix2 i j) := by
  pointwise [k0_pay57, k0_pay56]

/-- Layer 1's state times the reset gate, 192 rows. -/
theorem rh_2_1 (h : Vec Ideal S192x1024 .f32) (x : Vec Ideal S192x1536 .bf16) (G : Vec Ideal S1536x2048 .bf16) (b : Vec Ideal S1x2048 .f32) (i : Fin 192) (j : Fin 1024) :
    (k0_pay60 h x G b) (ix2 i j) = gate (aff (fun k => x (ix2 i k)) (mat (e := .bf16) G) (row (e := .f32) b) (lo rfl j)) * h (ix2 i j) := by
  pointwise [k0_pay60, k0_pay58]
  rfl

/-- Layer 1's new state, 192 rows. -/
theorem new_2_1 (h : Vec Ideal S192x1024 .f32) (x x2 : Vec Ideal S192x1536 .bf16) (G : Vec Ideal S1536x2048 .bf16) (b : Vec Ideal S1x2048 .f32) (C : Vec Ideal S1536x1024 .bf16) (c : Vec Ideal S1x1024 .f32) (i : Fin 192) (j : Fin 1024) :
    (k0_pay61 h (k0_pay59 x G b) x2 C (constant S192x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay61, k0_pay59, k0_pay58]
  rfl

/-- The same new state, as it goes into layer 2. -/
theorem newb_2_1 (h : Vec Ideal S192x1024 .f32) (x x2 : Vec Ideal S192x1536 .bf16) (G : Vec Ideal S1536x2048 .bf16) (b : Vec Ideal S1x2048 .f32) (C : Vec Ideal S1536x1024 .bf16) (c : Vec Ideal S1x1024 .f32) (i : Fin 192) (j : Fin 1024) :
    (k0_pay62 h (k0_pay59 x G b) x2 C (constant S192x1024 .f32 0#32) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay62, k0_pay61, k0_pay59, k0_pay58]
  rfl

/-- The state layer 1 keeps, 192 rows: the new one while the row's length exceeds the step. -/
theorem sel_2_1 (t : BitVec 32) (n h : Vec Ideal S192x1024 .f32) (len : Vec Ideal S192x1 .i32) (i : Fin 192) (j : Fin 1024) :
    (k0_pay102 n (k0_pay69 t len) h) (ix2 i j) = if t.slt (len (ix2 i 0)) then n (ix2 i j) else h (ix2 i j) := by
  pointwise [k0_pay102, k0_pay69]
  rw [select_sgt]

/-- The copy of layer 2's state, 192 rows. -/
theorem cp_2_2 (h : Vec Ideal S192x2048 .f32) (i : Fin 192) (j : Fin 2048) : (k0_pay63 h) (ix2 i j) = h (ix2 i j) := by
  pointwise [k0_pay63]

/-- Layer 2's state times the reset gate, 192 rows. -/
theorem rh_2_2 (h : Vec Ideal S192x2048 .f32) (x : Vec Ideal S192x3072 .bf16) (G : Vec Ideal S3072x4096 .bf16) (b : Vec Ideal S1x4096 .f32) (i : Fin 192) (j : Fin 2048) :
    (k0_pay67 h (k0_pay65 x G b) k0_pay66) (ix2 i j) = gate (aff (fun k => x (ix2 i k)) (mat (e := .bf16) G) (row (e := .f32) b) (lo rfl j)) * h (ix2 i j) := by
  pointwise [k0_pay67, k0_pay65, k0_pay64, k0_pay66]
  rfl

/-- Layer 2's new state, 192 rows. -/
theorem new_2_2 (h : Vec Ideal S192x2048 .f32) (x x2 : Vec Ideal S192x3072 .bf16) (G : Vec Ideal S3072x4096 .bf16) (b : Vec Ideal S1x4096 .f32) (C : Vec Ideal S3072x2048 .bf16) (c : Vec Ideal S1x2048 .f32) (i : Fin 192) (j : Fin 2048) :
    (k0_pay68 h (k0_pay64 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay68, k0_pay64]
  rfl

/-- The state layer 2 keeps, 192 rows: the new one while the row's length exceeds the step. -/
theorem sel_2_2 (t : BitVec 32) (n h : Vec Ideal S192x2048 .f32) (len : Vec Ideal S192x1 .i32) (i : Fin 192) (j : Fin 2048) :
    (k0_pay103 n (k0_pay69 t len) h) (ix2 i j) = if t.slt (len (ix2 i 0)) then n (ix2 i j) else h (ix2 i j) := by
  pointwise [k0_pay103, k0_pay69]
  rw [select_sgt]

/-- The one-hot block of 256 rows: row `i` is the one-hot row of its token. -/
theorem oh_3 (v : IVec S128x256 32) (hv : ∀ (k : Fin 128) (i : Fin 256), v (ix2 k i) = BitVec.ofNat 32 k.val) (w : Vec Ideal S1x1x256 .i32) (i : Fin 256) (k : Fin 128) :
    k0_pay71 (F := Ideal) v (k0_pay97 (F := Ideal) w) (ix2 i k) = onehot (w (ix3 0 0 ⟨i.val, by omega⟩)) k := by
  pointwise [k0_pay71, k0_pay97]
  rw [select_eq, hv]; rfl

/-- The copy of layer 0's state, 256 rows. -/
theorem cp_3_0 (h : Vec Ideal S256x512 .f32) (i : Fin 256) (j : Fin 512) : (k0_pay72 h) (ix2 i j) = h (ix2 i j) := by
  pointwise [k0_pay72]

/-- Layer 0's state times the reset gate, 256 rows. -/
theorem rh_3_0 (h : Vec Ideal S256x512 .f32) (x : Vec Ideal S256x640 .bf16) (G : Vec Ideal S640x1024 .bf16) (b : Vec Ideal S1x1024 .f32) (i : Fin 256) (j : Fin 512) :
    (k0_pay76 h (k0_pay74 x G b)) (ix2 i j) = gate (aff (fun k => x (ix2 i k)) (mat (e := .bf16) G) (row (e := .f32) b) (lo rfl j)) * h (ix2 i j) := by
  pointwise [k0_pay76, k0_pay74, k0_pay73]
  rfl

/-- Layer 0's new state, 256 rows. -/
theorem new_3_0 (h : Vec Ideal S256x512 .f32) (x x2 : Vec Ideal S256x640 .bf16) (G : Vec Ideal S640x1024 .bf16) (b : Vec Ideal S1x1024 .f32) (C : Vec Ideal S640x512 .bf16) (c : Vec Ideal S1x512 .f32) (i : Fin 256) (j : Fin 512) :
    (k0_pay77 h (k0_pay75 x G b) (FloatOps.ofBits .f32 1056964608#32) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay77, k0_pay75, k0_pay73]
  rfl

/-- The same new state, as it goes into layer 1. -/
theorem newb_3_0 (h : Vec Ideal S256x512 .f32) (x x2 : Vec Ideal S256x640 .bf16) (G : Vec Ideal S640x1024 .bf16) (b : Vec Ideal S1x1024 .f32) (C : Vec Ideal S640x512 .bf16) (c : Vec Ideal S1x512 .f32) (i : Fin 256) (j : Fin 512) :
    (k0_pay78 h (k0_pay75 x G b) (FloatOps.ofBits .f32 1056964608#32) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay78, k0_pay77, k0_pay75, k0_pay73]
  rfl

/-- The state layer 0 keeps, 256 rows: the new one while the row's length exceeds the step. -/
theorem sel_3_0 (t : BitVec 32) (n h : Vec Ideal S256x512 .f32) (len : Vec Ideal S256x1 .i32) (i : Fin 256) (j : Fin 512) :
    (k0_pay93 t n len h) (ix2 i j) = if t.slt (len (ix2 i 0)) then n (ix2 i j) else h (ix2 i j) := by
  pointwise [k0_pay93, k0_pay92]
  rw [select_sgt]

/-- The copy of layer 1's state, 256 rows. -/
theorem cp_3_1 (h : Vec Ideal S256x1024 .f32) (i : Fin 256) (j : Fin 1024) : (k0_pay80 (k0_pay79 h)) (ix2 i j) = h (ix2 i j) := by
  pointwise [k0_pay80, k0_pay79]

/-- Layer 1's state times the reset gate, 256 rows. -/
theorem rh_3_1 (h : Vec Ideal S256x1024 .f32) (x : Vec Ideal S256x1536 .bf16) (G : Vec Ideal S1536x2048 .bf16) (b : Vec Ideal S1x2048 .f32) (i : Fin 256) (j : Fin 1024) :
    (k0_pay83 h x G b) (ix2 i j) = gate (aff (fun k => x (ix2 i k)) (mat (e := .bf16) G) (row (e := .f32) b) (lo rfl j)) * h (ix2 i j) := by
  pointwise [k0_pay83, k0_pay81]
  rfl

/-- Layer 1's new state, 256 rows. -/
theorem new_3_1 (h : Vec Ideal S256x1024 .f32) (x x2 : Vec Ideal S256x1536 .bf16) (G : Vec Ideal S1536x2048 .bf16) (b : Vec Ideal S1x2048 .f32) (C : Vec Ideal S1536x1024 .bf16) (c : Vec Ideal S1x1024 .f32) (i : Fin 256) (j : Fin 1024) :
    (k0_pay85 h (k0_pay82 x G b) (k0_pay84 x2 C) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay85, k0_pay82, k0_pay81, k0_pay84]
  rfl

/-- The same new state, as it goes into layer 2. -/
theorem newb_3_1 (h : Vec Ideal S256x1024 .f32) (x x2 : Vec Ideal S256x1536 .bf16) (G : Vec Ideal S1536x2048 .bf16) (b : Vec Ideal S1x2048 .f32) (C : Vec Ideal S1536x1024 .bf16) (c : Vec Ideal S1x1024 .f32) (i : Fin 256) (j : Fin 1024) :
    (k0_pay86 h (k0_pay82 x G b) (k0_pay84 x2 C) c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay86, k0_pay85, k0_pay82, k0_pay81, k0_pay84]
  rfl

/-- The state layer 1 keeps, 256 rows: the new one while the row's length exceeds the step. -/
theorem sel_3_1 (t : BitVec 32) (n h : Vec Ideal S256x1024 .f32) (len : Vec Ideal S256x1 .i32) (i : Fin 256) (j : Fin 1024) :
    (k0_pay104 n (k0_pay92 t len) h) (ix2 i j) = if t.slt (len (ix2 i 0)) then n (ix2 i j) else h (ix2 i j) := by
  pointwise [k0_pay104, k0_pay92]
  rw [select_sgt]

/-- The copy of layer 2's state, 256 rows. -/
theorem cp_3_2 (h : Vec Ideal S256x2048 .f32) (i : Fin 256) (j : Fin 2048) : (k0_pay87 h) (ix2 i j) = h (ix2 i j) := by
  pointwise [k0_pay87]

/-- Layer 2's state times the reset gate, 256 rows. -/
theorem rh_3_2 (h : Vec Ideal S256x2048 .f32) (x : Vec Ideal S256x3072 .bf16) (G : Vec Ideal S3072x4096 .bf16) (b : Vec Ideal S1x4096 .f32) (i : Fin 256) (j : Fin 2048) :
    (k0_pay90 h (k0_pay89 x G b)) (ix2 i j) = gate (aff (fun k => x (ix2 i k)) (mat (e := .bf16) G) (row (e := .f32) b) (lo rfl j)) * h (ix2 i j) := by
  pointwise [k0_pay90, k0_pay89, k0_pay88]
  rfl

/-- Layer 2's new state, 256 rows. -/
theorem new_3_2 (h : Vec Ideal S256x2048 .f32) (x x2 : Vec Ideal S256x3072 .bf16) (G : Vec Ideal S3072x4096 .bf16) (b : Vec Ideal S1x4096 .f32) (C : Vec Ideal S3072x2048 .bf16) (c : Vec Ideal S1x2048 .f32) (i : Fin 256) (j : Fin 2048) :
    (k0_pay91 h (k0_pay88 x G b) x2 C c) (ix2 i j) = mix (Ideal.tanh (aff (fun k => x2 (ix2 i k)) (mat (e := .bf16) C) (row (e := .f32) c) j)) (gate (aff (fun k => x (ix2 i k)) (mat (e := .bf16) G) (row (e := .f32) b) (hi rfl j))) (h (ix2 i j)) := by
  pointwise [k0_pay91, k0_pay88]
  rfl

/-- The state layer 2 keeps, 256 rows: the new one while the row's length exceeds the step. -/
theorem sel_3_2 (t : BitVec 32) (n h : Vec Ideal S256x2048 .f32) (len : Vec Ideal S256x1 .i32) (i : Fin 256) (j : Fin 2048) :
    (k0_pay105 n (k0_pay92 t len) h) (ix2 i j) = if t.slt (len (ix2 i 0)) then n (ix2 i j) else h (ix2 i j) := by
  pointwise [k0_pay105, k0_pay92]
  rw [select_sgt]

end Cert.Proof.KernelIdeal

end
-- ==== Proof.PieceRead.lean ====
/-
  Reading a block that was stored in column pieces, and contents with the top rows overwritten.
-/
module

public import Idealize.ShloMosaic.Lib.VecWindow
public import Idealize.ShloMosaic.Lib.WritesUnit
public import Idealize.ShloMosaic.Lib.Pipeline.FrameBody
public import proofs.«01_k».proof.Proof.Gru

@[expose] public section

noncomputable section

namespace Cert.Proof

open Idealize.ShloMosaic Cert.Proof.Gru

variable {sig : RefSig} {κ : Kind} {sp : Space} {e : EltTy} {Val : EltTy → Type}

theorem cat_congr {α : Type} {ins outs n : ℕ} (hn : n = ins + outs) {x x' : Fin ins → α} {h h' : Fin outs → α} (ex : ∀ k, x k = x' k)
    (eh : ∀ k, h k = h' k) (k : Fin n) : cat hn x h k = cat hn x' h' k := by
  rw [funext ex, funext eh]

/-- A block stored as a left and then a right column piece, loaded whole. -/
theorem readCov_pair [∀ e, Nonempty (Val e)] {R N Mr ins outs : ℕ} (hn : N = ins + outs) (v : View sig κ sp ⟨2, ![R, N]⟩ e)
    (inb1 : ∀ a : Fin 2, (![0, ins] : Fin 2 → ℕ) a + (![Mr, outs] : Fin 2 → ℕ) a ≤ (![R, N] : Fin 2 → ℕ) a)
    (inb0 : ∀ a : Fin 2, (![0, 0] : Fin 2 → ℕ) a + (![Mr, ins] : Fin 2 → ℕ) a ≤ (![R, N] : Fin 2 → ℕ) a)
    (inb : ∀ a : Fin 2, (![0, 0] : Fin 2 → ℕ) a + (![Mr, N] : Fin 2 → ℕ) a ≤ (![R, N] : Fin 2 → ℕ) a)
    (b : (⟨2, ![Mr, outs]⟩ : Shape).Idx → Val e) (a : (⟨2, ![Mr, ins]⟩ : Shape).Idx → Val e) (L : List (View.Piece Val (⟨2, ![R, N]⟩ : Shape) e))
    (i : Fin Mr) (k : Fin N) :
    v.readCov ((⟨Rect.unit (s := ⟨2, ![R, N]⟩) ![0, ins] ![Mr, outs] inb1, b⟩ : View.Piece Val (⟨2, ![R, N]⟩ : Shape) e)
        :: ⟨Rect.unit (s := ⟨2, ![R, N]⟩) ![0, 0] ![Mr, ins] inb0, a⟩ :: L)
      (Rect.unit (s := ⟨2, ![R, N]⟩) ![0, 0] ![Mr, N] inb).toLoadRect (ix2 i k : (⟨2, ![Mr, N]⟩ : Shape).Idx)
      = cat hn (fun l => a (ix2 i l)) (fun l => b (ix2 i l)) k := by
  unfold View.readCov View.readAt cat
  show v.read Val _ ((Rect.unit (s := ⟨2, ![R, N]⟩) ![0, 0] ![Mr, N] inb).emb (ix2 i k : (⟨2, ![Mr, N]⟩ : Shape).Idx)) = _
  have e0 : ((Rect.unit (s := ⟨2, ![R, N]⟩) ![0, 0] ![Mr, N] inb).emb (ix2 i k : (⟨2, ![Mr, N]⟩ : Shape).Idx) (0 : Fin 2)).val = i.val := by
    show 0 + 1 * i.val = i.val
    omega
  have e1 : ((Rect.unit (s := ⟨2, ![R, N]⟩) ![0, 0] ![Mr, N] inb).emb (ix2 i k : (⟨2, ![Mr, N]⟩ : Shape).Idx) (1 : Fin 2)).val = k.val := by
    show 0 + 1 * k.val = k.val
    omega
  generalize (Rect.unit (s := ⟨2, ![R, N]⟩) ![0, 0] ![Mr, N] inb).emb (ix2 i k : (⟨2, ![Mr, N]⟩ : Shape).Idx) = y at e0 e1
  split
  · next hk =>
    rw [View.read_writes_cons_unit_of_not_mem v _ inb1 b _ _ rfl (1 : Fin 2) (Or.inl (by rw [e1]; exact hk))]
    rw [View.read_writes_cons_unit_of_mem v _ inb0 a L _ (ix2 i ⟨k.val, hk⟩ : (⟨2, ![Mr, ins]⟩ : Shape).Idx) rfl
      (Fin.forall_fin_two.mpr ⟨by rw [e0]; exact (Nat.zero_add _).symm, by rw [e1]; exact (Nat.zero_add _).symm⟩)]
  · next hk =>
    rw [View.read_writes_cons_unit_of_mem v _ inb1 b _ _ (ix2 i ⟨k.val - ins, by omega⟩ : (⟨2, ![Mr, outs]⟩ : Shape).Idx) rfl
      (Fin.forall_fin_two.mpr ⟨by rw [e0]; exact (Nat.zero_add _).symm, by rw [e1]; show k.val = ins + (k.val - ins); omega⟩)]

/-- The same with the right piece stored a second time. -/
theorem readCov_again [∀ e, Nonempty (Val e)] {R N Mr ins outs : ℕ} (hn : N = ins + outs) (v : View sig κ sp ⟨2, ![R, N]⟩ e)
    (inb1 inb2 : ∀ a : Fin 2, (![0, ins] : Fin 2 → ℕ) a + (![Mr, outs] : Fin 2 → ℕ) a ≤ (![R, N] : Fin 2 → ℕ) a)
    (inb0 : ∀ a : Fin 2, (![0, 0] : Fin 2 → ℕ) a + (![Mr, ins] : Fin 2 → ℕ) a ≤ (![R, N] : Fin 2 → ℕ) a)
    (inb : ∀ a : Fin 2, (![0, 0] : Fin 2 → ℕ) a + (![Mr, N] : Fin 2 → ℕ) a ≤ (![R, N] : Fin 2 → ℕ) a)
    (b2 b : (⟨2, ![Mr, outs]⟩ : Shape).Idx → Val e) (a : (⟨2, ![Mr, ins]⟩ : Shape).Idx → Val e) (L : List (View.Piece Val (⟨2, ![R, N]⟩ : Shape) e))
    (i : Fin Mr) (k : Fin N) :
    v.readCov ((⟨Rect.unit (s := ⟨2, ![R, N]⟩) ![0, ins] ![Mr, outs] inb2, b2⟩ : View.Piece Val (⟨2, ![R, N]⟩ : Shape) e)
        :: ⟨Rect.unit (s := ⟨2, ![R, N]⟩) ![0, ins] ![Mr, outs] inb1, b⟩ :: ⟨Rect.unit (s := ⟨2, ![R, N]⟩) ![0, 0] ![Mr, ins] inb0, a⟩ :: L)
      (Rect.unit (s := ⟨2, ![R, N]⟩) ![0, 0] ![Mr, N] inb).toLoadRect (ix2 i k : (⟨2, ![Mr, N]⟩ : Shape).Idx)
      = cat hn (fun l => a (ix2 i l)) (fun l => b2 (ix2 i l)) k := by
  unfold View.readCov View.readAt cat
  show v.read Val _ ((Rect.unit (s := ⟨2, ![R, N]⟩) ![0, 0] ![Mr, N] inb).emb (ix2 i k : (⟨2, ![Mr, N]⟩ : Shape).Idx)) = _
  have e0 : ((Rect.unit (s := ⟨2, ![R, N]⟩) ![0, 0] ![Mr, N] inb).emb (ix2 i k : (⟨2, ![Mr, N]⟩ : Shape).Idx) (0 : Fin 2)).val = i.val := by
    show 0 + 1 * i.val = i.val
    omega
  have e1 : ((Rect.unit (s := ⟨2, ![R, N]⟩) ![0, 0] ![Mr, N] inb).emb (ix2 i k : (⟨2, ![Mr, N]⟩ : Shape).Idx) (1 : Fin 2)).val = k.val := by
    show 0 + 1 * k.val = k.val
    omega
  generalize (Rect.unit (s := ⟨2, ![R, N]⟩) ![0, 0] ![Mr, N] inb).emb (ix2 i k : (⟨2, ![Mr, N]⟩ : Shape).Idx) = y at e0 e1
  split
  · next hk =>
    rw [View.read_writes_cons_unit_of_not_mem v _ inb2 b2 _ _ rfl (1 : Fin 2) (Or.inl (by rw [e1]; exact hk))]
    rw [View.read_writes_cons_unit_of_not_mem v _ inb1 b _ _ rfl (1 : Fin 2) (Or.inl (by rw [e1]; exact hk))]
    rw [View.read_writes_cons_unit_of_mem v _ inb0 a L _ (ix2 i ⟨k.val, hk⟩ : (⟨2, ![Mr, ins]⟩ : Shape).Idx) rfl
      (Fin.forall_fin_two.mpr ⟨by rw [e0]; exact (Nat.zero_add _).symm, by rw [e1]; exact (Nat.zero_add _).symm⟩)]
  · next hk =>
    rw [View.read_writes_cons_unit_of_mem v _ inb2 b2 _ _ (ix2 i ⟨k.val - ins, by omega⟩ : (⟨2, ![Mr, outs]⟩ : Shape).Idx) rfl
      (Fin.forall_fin_two.mpr ⟨by rw [e0]; exact (Nat.zero_add _).symm, by rw [e1]; show k.val = ins + (k.val - ins); omega⟩)]

/-- A load of the top rows, at an index. -/
theorem readAt_top {R N Mr : ℕ} (v : View sig κ sp ⟨2, ![R, N]⟩ e) (f : v.ty.Contents Val)
    (inb : ∀ a : Fin 2, (![0, 0] : Fin 2 → ℕ) a + (![Mr, N] : Fin 2 → ℕ) a ≤ (![R, N] : Fin 2 → ℕ) a) (i : Fin Mr) (h : i.val < R) (j : Fin N) :
    v.readAt Val (Rect.unit (s := ⟨2, ![R, N]⟩) ![0, 0] ![Mr, N] inb).toLoadRect f (ix2 i j : (⟨2, ![Mr, N]⟩ : Shape).Idx) = v.read Val f (ix2 ⟨i.val, h⟩ j) := by
  show v.read Val f _ = _
  congr 1
  funext a
  apply Fin.ext
  revert a
  exact Fin.forall_fin_two.mpr ⟨by show 0 + 1 * i.val = i.val; omega, by show 0 + 1 * j.val = j.val; omega⟩

/-- Contents with the top `Mr` rows overwritten, read at a row of those or below them. -/
theorem read_top {R N Mr : ℕ} (v : View sig κ sp ⟨2, ![R, N]⟩ e) (f : v.ty.Contents Val)
    (inb : ∀ a : Fin 2, (![0, 0] : Fin 2 → ℕ) a + (![Mr, N] : Fin 2 → ℕ) a ≤ (![R, N] : Fin 2 → ℕ) a)
    (w : (⟨2, ![Mr, N]⟩ : Shape).Idx → Val e) (i : Fin R) (j : Fin N) :
    v.read Val (v.writes Val f [(⟨Rect.unit (s := ⟨2, ![R, N]⟩) ![0, 0] ![Mr, N] inb, w⟩ : View.Piece Val (⟨2, ![R, N]⟩ : Shape) e)]) (ix2 i j)
      = if h : i.val < Mr then w (ix2 ⟨i.val, h⟩ j) else v.read Val f (ix2 i j) := by
  split
  · next h =>
    exact View.read_writes_cons_unit_of_mem v _ inb w [] _ (ix2 ⟨i.val, h⟩ j : (⟨2, ![Mr, N]⟩ : Shape).Idx) rfl
      (Fin.forall_fin_two.mpr ⟨by show i.val = 0 + i.val; omega, by show j.val = 0 + j.val; omega⟩)
  · next h =>
    exact View.read_writes_cons_unit_of_not_mem v _ inb w [] _ rfl (0 : Fin 2) (Or.inr (by show 0 + Mr ≤ i.val; omega))

end Cert.Proof

end
-- ==== Proof.KernelIdealRows.lean ====
/-
  The weights and tokens a trip reads, as plain functions.
-/
module

public import proofs.«01_k».proof.Proof.KernelIdealLoop
public import proofs.«01_k».proof.Proof.KernelIdealCells
public import proofs.«01_k».proof.Proof.PieceRead

@[expose] public section

set_option maxRecDepth 65536

noncomputable section

namespace Cert.Proof.KernelIdeal

open Cert.KernelIdeal Cert.KernelIdeal.Gen
open Idealize.ShloMosaic Idealize.ShloMosaic.TcCoe
open Cert.Proof.Gru

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))

/-- The network whose weights the buffers hold. -/
def net : Net where
  L0 := ⟨mat (e := .bf16) (arg22.view.read (Elt Ideal) f22), row (e := .f32) (arg5.view.read (Elt Ideal) f5), mat (e := .bf16) (arg23.view.read (Elt Ideal) f23), row (e := .f32) (arg6.view.read (Elt Ideal) f6)⟩
  L1 := ⟨mat (e := .bf16) (arg24.view.read (Elt Ideal) f24), row (e := .f32) (arg7.view.read (Elt Ideal) f7), mat (e := .bf16) (arg25.view.read (Elt Ideal) f25), row (e := .f32) (arg8.view.read (Elt Ideal) f8)⟩
  L2 := ⟨mat (e := .bf16) (arg26.view.read (Elt Ideal) f26), row (e := .f32) (arg9.view.read (Elt Ideal) f9), mat (e := .bf16) (arg27.view.read (Elt Ideal) f27), row (e := .f32) (arg10.view.read (Elt Ideal) f10)⟩

/-- Row `i`'s token of step `t`. -/
def tok (i : Fin 256) (t : ℕ) : BitVec 32 := if h : t < 128 then arg2.view.read (Elt Ideal) f2 (ix3 ⟨t, h⟩ (0 : Fin 1) i) else 0#32

/-- Row `i`'s length. -/
def len (i : Fin 256) : BitVec 32 := arg3.view.read (Elt Ideal) f3 (ix2 i (0 : Fin 1))

/-- The loop's length. -/
theorem trips_eq : k0_t1_loop.trips = 128 := by decide

variable (k : Fin k0_t1_loop.trips) (f34 : arg34.view.ty.Contents (Elt Ideal)) (f35 : arg35.view.ty.Contents (Elt Ideal)) (f36 : arg36.view.ty.Contents (Elt Ideal))

/-- The state the buffers hold in row `i`. -/
def rowSt (i : Fin 256) : St where
  h0 j := arg34.view.read (Elt Ideal) f34 (ix2 i j)
  h1 j := arg35.view.read (Elt Ideal) f35 (ix2 i j)
  h2 j := arg36.view.read (Elt Ideal) f36 (ix2 i j)

/-- The trip's load begins at its own step. -/
theorem off_eq : ∀ (k : Fin k0_t1_loop.trips) (a : Fin 3), k0_off1 k a = (![k.val, 0, 0] : Fin 3 → ℕ) a := by decide +kernel

/-- The trip's load of the tokens. -/
theorem tok_load (i : Fin 256) :
    (View.readAt (Elt Ideal) arg2.view (Rect.unit (s := S128x1x256) (k0_off1 k) S1x1x256.size (k0_off1_inb k)).toLoadRect f2) (ix3 (0 : Fin 1) (0 : Fin 1) i) = tok arg2 f2 i k.val := by
  have hk : k.val < 128 := lt_of_lt_of_eq k.isLt trips_eq
  unfold tok
  rw [dif_pos hk]
  show arg2.view.read (Elt Ideal) f2 _ = _
  congr 1
  funext a
  apply Fin.ext
  have ho := off_eq k
  match a with
  | ⟨0, _⟩ => show k0_off1 k 0 + 1 * 0 = k.val; rw [ho]; rfl
  | ⟨1, _⟩ => show k0_off1 k 1 + 1 * 0 = 0; rw [ho]; rfl
  | ⟨2, _⟩ => show k0_off1 k 2 + 1 * i.val = i.val; rw [ho]; show 0 + 1 * i.val = i.val; omega

end Cert.Proof.KernelIdeal

end
-- ==== Proof.KernelIdealPhase0.lean ====
/-
  One trip with 64 rows in play: what each load and each computed block holds, row by row.
-/
module

public import proofs.«01_k».proof.Proof.KernelIdealLoop
public import proofs.«01_k».proof.Proof.KernelIdealCells
public import proofs.«01_k».proof.Proof.PieceRead
public import proofs.«01_k».proof.Proof.KernelIdealRows

@[expose] public section

set_option maxRecDepth 65536

noncomputable section

namespace Cert.Proof.KernelIdeal

open Cert.KernelIdeal Cert.KernelIdeal.Gen
open Idealize.ShloMosaic Idealize.ShloMosaic.TcCoe
open Cert.Proof.Gru

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))
variable (k : Fin k0_t1_loop.trips) (f34 : arg34.view.ty.Contents (Elt Ideal)) (f35 : arg35.view.ty.Contents (Elt Ideal)) (f36 : arg36.view.ty.Contents (Elt Ideal))

/-- The state of layer 0 as the trip loads it. -/
theorem ld_0_0  (i : Fin 64) (j : Fin 512) :
    loopInv.sl.r_2 c arg34 f34 (ix2 i j) = (rowSt arg34 arg35 arg36 f34 f35 f36 ⟨i.val, by omega⟩).h0 j := by
  unfold loopInv.sl.r_2
  exact readAt_top arg34.view f34 _ i (by omega) j

/-- Layer 0's input beside its state. -/
theorem x_0_0  (hv : ∀ (r : Fin 128) (i : Fin 64), v48 (ix2 r i) = BitVec.ofNat 32 r.val) (i : Fin 64) (j : Fin 640) :
    loopInv.sl.v135 c arg2 arg31 arg34 v48 f2 k f34 (ix2 i j) = cat (outs := 512) rfl (onehot (tok arg2 f2 ⟨i.val, by omega⟩ k.val)) (rowSt arg34 arg35 arg36 f34 f35 f36 ⟨i.val, by omega⟩).h0 j := by
  unfold loopInv.sl.v135 loopInv.sl.H31_2
  refine (readCov_pair (ins := 128) (outs := 512) rfl _ _ _ _ _ _ [] i j).trans ?_
  refine cat_congr (α := EReal) (ins := 128) (outs := 512) rfl (fun l => ?_) (fun l => ?_) j
  · exact (oh_0 _ hv _ i l).trans (congrArg (fun w => onehot w l) (tok_load arg2 f2 k ⟨i.val, by omega⟩))
  · exact (cp_0_0 _ i l).trans (ld_0_0 c arg34 arg35 arg36 f34 f35 f36  i _)

/-- Layer 0's input beside its gated state. -/
theorem x2_0_0  (hv : ∀ (r : Fin 128) (i : Fin 64), v48 (ix2 r i) = BitVec.ofNat 32 r.val) (i : Fin 64) (j : Fin 640) :
    loopInv.sl.v164 c arg2 arg5 arg22 arg31 arg34 v48 f2 f5 f22 k f34 (ix2 i j) = cat (outs := 512) rfl (onehot (tok arg2 f2 ⟨i.val, by omega⟩ k.val)) (fun l => gate (aff (cat (outs := 512) rfl (onehot (tok arg2 f2 ⟨i.val, by omega⟩ k.val)) (rowSt arg34 arg35 arg36 f34 f35 f36 ⟨i.val, by omega⟩).h0) (net arg5 arg6 arg7 arg8 arg9 arg10 arg22 arg23 arg24 arg25 arg26 arg27 f5 f6 f7 f8 f9 f10 f22 f23 f24 f25 f26 f27).L0.G (net arg5 arg6 arg7 arg8 arg9 arg10 arg22 arg23 arg24 arg25 arg26 arg27 f5 f6 f7 f8 f9 f10 f22 f23 f24 f25 f26 f27).L0.bg (lo rfl l)) * (rowSt arg34 arg35 arg36 f34 f35 f36 ⟨i.val, by omega⟩).h0 l) j := by
  unfold loopInv.sl.v164 loopInv.sl.H31_3 loopInv.sl.H31_2
  refine (readCov_again (ins := 128) (outs := 512) rfl _ _ _ _ _ _ _ _ [] i j).trans ?_
  refine cat_congr (α := EReal) (ins := 128) (outs := 512) rfl (fun l => ?_) (fun l => ?_) j
  · exact (oh_0 _ hv _ i l).trans (congrArg (fun w => onehot w l) (tok_load arg2 f2 k ⟨i.val, by omega⟩))
  · refine (rh_0_0 _ _ _ _ i l).trans ?_
    rw [ld_0_0 c arg34 arg35 arg36 f34 f35 f36  i _, funext (x_0_0 c arg2 arg31 arg34 arg35 arg36 v48 f2 k f34 f35 f36  hv i), View.readAt_full, View.readAt_full]
    rfl

/-- Layer 0's new state. -/
theorem nw_0_0  (hv : ∀ (r : Fin 128) (i : Fin 64), v48 (ix2 r i) = BitVec.ofNat 32 r.val) (i : Fin 64) (j : Fin 512) :
    loopInv.sl.r_5 c arg2 arg5 arg6 arg22 arg23 arg31 arg34 v48 f2 f5 f6 f22 f23 k f34 (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_5 loopInv.sl.r_4
  refine (new_0_0 _ _ _ _ _ _ _ i j).trans ?_
  rw [ld_0_0 c arg34 arg35 arg36 f34 f35 f36  i _, funext (x_0_0 c arg2 arg31 arg34 arg35 arg36 v48 f2 k f34 f35 f36  hv i), funext (x2_0_0 c arg2 arg5 arg6 arg7 arg8 arg9 arg10 arg22 arg23 arg24 arg25 arg26 arg27 arg31 arg34 arg35 arg36 v48 f2 f5 f6 f7 f8 f9 f10 f22 f23 f24 f25 f26 f27 k f34 f35 f36  hv i), View.readAt_full, View.readAt_full, View.readAt_full, View.readAt_full]
  rfl

/-- The same, as layer 1 takes it. -/
theorem nb_0_0  (hv : ∀ (r : Fin 128) (i : Fin 64), v48 (ix2 r i) = BitVec.ofNat 32 r.val) (i : Fin 64) (j : Fin 512) :
    (k0_pay9 (loopInv.sl.r_2 c arg34 f34) (loopInv.sl.r_4 c arg2 arg5 arg22 arg31 arg34 v48 f2 f5 f22 k f34) (loopInv.sl.v164 c arg2 arg5 arg22 arg31 arg34 v48 f2 f5 f22 k f34) (View.readAt (Elt Ideal) arg23.view (Rect.unit ![0, 0] S640x512.size inb_S640x512_S640x512_0_0).toLoadRect f23) (View.readAt (Elt Ideal) arg6.view (Rect.unit ![0, 0] S1x512.size inb_S1x512_S1x512_0_0).toLoadRect f6)) (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_4
  refine (newb_0_0 _ _ _ _ _ _ _ i j).trans ?_
  rw [ld_0_0 c arg34 arg35 arg36 f34 f35 f36  i _, funext (x_0_0 c arg2 arg31 arg34 arg35 arg36 v48 f2 k f34 f35 f36  hv i), funext (x2_0_0 c arg2 arg5 arg6 arg7 arg8 arg9 arg10 arg22 arg23 arg24 arg25 arg26 arg27 arg31 arg34 arg35 arg36 v48 f2 f5 f6 f7 f8 f9 f10 f22 f23 f24 f25 f26 f27 k f34 f35 f36  hv i), View.readAt_full, View.readAt_full, View.readAt_full, View.readAt_full]
  rfl

/-- The state of layer 1 as the trip loads it. -/
theorem ld_0_1  (i : Fin 64) (j : Fin 1024) :
    loopInv.sl.r_6 c arg35 f35 (ix2 i j) = (rowSt arg34 arg35 arg36 f34 f35 f36 ⟨i.val, by omega⟩).h1 j := by
  unfold loopInv.sl.r_6
  exact readAt_top arg35.view f35 _ i (by omega) j

/-- Layer 1's input beside its state. -/
theorem x_0_1  (hv : ∀ (r : Fin 128) (i : Fin 64), v48 (ix2 r i) = BitVec.ofNat 32 r.val) (i : Fin 64) (j : Fin 1536) :
    loopInv.sl.v186 c arg2 arg5 arg6 arg22 arg23 arg31 arg32 arg34 arg35 v48 f2 f5 f6 f22 f23 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.v186 loopInv.sl.H32_2
  refine (readCov_pair (ins := 512) (outs := 1024) rfl _ _ _ _ _ _ [] i j).trans ?_
  refine cat_congr (α := EReal) (ins := 512) (outs := 1024) rfl (fun l => ?_) (fun l => ?_) j
  · exact nb_0_0 c arg2 arg5 arg6 arg7 arg8 arg9 arg10 arg22 arg23 arg24 arg25 arg26 arg27 arg31 arg34 arg35 arg36 v48 f2 f5 f6 f7 f8 f9 f10 f22 f23 f24 f25 f26 f27 k f34 f35 f36  hv i l
  · exact (cp_0_1 _ i l).trans (ld_0_1 c arg34 arg35 arg36 f34 f35 f36  i _)

/-- Layer 1's input beside its gated state. -/
theorem x2_0_1  (hv : ∀ (r : Fin 128) (i : Fin 64), v48 (ix2 r i) = BitVec.ofNat 32 r.val) (i : Fin 64) (j : Fin 1536) :
    loopInv.sl.v215 c arg2 arg5 arg6 arg7 arg22 arg23 arg24 arg31 arg32 arg34 arg35 v48 f2 f5 f6 f7 f22 f23 f24 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (fun l => gate (aff (cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (net arg5 arg6 arg7 arg8 arg9 arg10 arg22 arg23 arg24 arg25 arg26 arg27 f5 f6 f7 f8 f9 f10 f22 f23 f24 f25 f26 f27).L1.G (net arg5 arg6 arg7 arg8 arg9 arg10 arg22 arg23 arg24 arg25 arg26 arg27 f5 f6 f7 f8 f9 f10 f22 f23 f24 f25 f26 f27).L1.bg (lo rfl l)) * (rowSt arg34 arg35 arg36 f34 f35 f36 ⟨i.val, by omega⟩).h1 l) j := by
  unfold loopInv.sl.v215 loopInv.sl.H32_3 loopInv.sl.H32_2
  refine (readCov_again (ins := 512) (outs := 1024) rfl _ _ _ _ _ _ _ _ [] i j).trans ?_
  refine cat_congr (α := EReal) (ins := 512) (outs := 1024) rfl (fun l => ?_) (fun l => ?_) j
  · exact nb_0_0 c arg2 arg5 arg6 arg7 arg8 arg9 arg10 arg22 arg23 arg24 arg25 arg26 arg27 arg31 arg34 arg35 arg36 v48 f2 f5 f6 f7 f8 f9 f10 f22 f23 f24 f25 f26 f27 k f34 f35 f36  hv i l
  · refine (rh_0_1 _ _ _ _ i l).trans ?_
    rw [ld_0_1 c arg34 arg35 arg36 f34 f35 f36  i _, funext (x_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i), View.readAt_full, View.readAt_full]
    rfl

/-- Layer 1's new state. -/
theorem nw_0_1  (hv : ∀ (r : Fin 128) (i : Fin 64), v48 (ix2 r i) = BitVec.ofNat 32 r.val) (i : Fin 64) (j : Fin 1024) :
    loopInv.sl.r_10 c arg2 arg5 arg6 arg7 arg8 arg22 arg23 arg24 arg25 arg31 arg32 arg34 arg35 v48 f2 f5 f6 f7 f8 f22 f23 f24 f25 k f34 f35 (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_10 loopInv.sl.r_8 loopInv.sl.r_9 loopInv.sl.cst_127
  refine (new_0_1 _ _ _ _ _ _ _ i j).trans ?_
  rw [ld_0_1 c arg34 arg35 arg36 f34 f35 f36  i _, funext (x_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i), funext (x2_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i), View.readAt_full, View.readAt_full, View.readAt_full, View.readAt_full]
  rfl

/-- The same, as layer 2 takes it. -/
theorem nb_0_1  (hv : ∀ (r : Fin 128) (i : Fin 64), v48 (ix2 r i) = BitVec.ofNat 32 r.val) (i : Fin 64) (j : Fin 1024) :
    (k0_pay16 (loopInv.sl.r_6 c arg35 f35) (loopInv.sl.r_8 c arg2 arg5 arg6 arg7 arg22 arg23 arg24 arg31 arg32 arg34 arg35 v48 f2 f5 f6 f7 f22 f23 f24 k f34 f35) (loopInv.sl.v215 c arg2 arg5 arg6 arg7 arg22 arg23 arg24 arg31 arg32 arg34 arg35 v48 f2 f5 f6 f7 f22 f23 f24 k f34 f35) (loopInv.sl.r_9 arg25 f25) loopInv.sl.cst_127 (View.readAt (Elt Ideal) arg8.view (Rect.unit ![0, 0] S1x1024.size inb_S1x1024_S1x1024_0_0).toLoadRect f8)) (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_8 loopInv.sl.r_9 loopInv.sl.cst_127
  refine (newb_0_1 _ _ _ _ _ _ _ i j).trans ?_
  rw [ld_0_1 c arg34 arg35 arg36 f34 f35 f36  i _, funext (x_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i), funext (x2_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i), View.readAt_full, View.readAt_full, View.readAt_full, View.readAt_full]
  rfl

/-- The state of layer 2 as the trip loads it. -/
theorem ld_0_2  (i : Fin 64) (j : Fin 2048) :
    loopInv.sl.r_11 c arg36 f36 (ix2 i j) = (rowSt arg34 arg35 arg36 f34 f35 f36 ⟨i.val, by omega⟩).h2 j := by
  unfold loopInv.sl.r_11
  exact readAt_top arg36.view f36 _ i (by omega) j

/-- Layer 2's input beside its state. -/
theorem x_0_2  (hv : ∀ (r : Fin 128) (i : Fin 64), v48 (ix2 r i) = BitVec.ofNat 32 r.val) (i : Fin 64) (j : Fin 3072) :
    loopInv.sl.v237 c arg2 arg5 arg6 arg7 arg8 arg22 arg23 arg24 arg25 arg31 arg32 arg33 arg34 arg35 arg36 v48 f2 f5 f6 f7 f8 f22 f23 f24 f25 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.v237 loopInv.sl.H33_2
  refine (readCov_pair (ins := 1024) (outs := 2048) rfl _ _ _ _ _ _ [] i j).trans ?_
  refine cat_congr (α := EReal) (ins := 1024) (outs := 2048) rfl (fun l => ?_) (fun l => ?_) j
  · exact nb_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i l
  · exact (cp_0_2 _ i l).trans (ld_0_2 c arg34 arg35 arg36 f34 f35 f36  i _)

/-- Layer 2's input beside its gated state. -/
theorem x2_0_2  (hv : ∀ (r : Fin 128) (i : Fin 64), v48 (ix2 r i) = BitVec.ofNat 32 r.val) (i : Fin 64) (j : Fin 3072) :
    loopInv.sl.v266 c arg2 arg5 arg6 arg7 arg8 arg9 arg22 arg23 arg24 arg25 arg26 arg31 arg32 arg33 arg34 arg35 arg36 v48 f2 f5 f6 f7 f8 f9 f22 f23 f24 f25 f26 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (fun l => gate (aff (cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2) (net arg5 arg6 arg7 arg8 arg9 arg10 arg22 arg23 arg24 arg25 arg26 arg27 f5 f6 f7 f8 f9 f10 f22 f23 f24 f25 f26 f27).L2.G (net arg5 arg6 arg7 arg8 arg9 arg10 arg22 arg23 arg24 arg25 arg26 arg27 f5 f6 f7 f8 f9 f10 f22 f23 f24 f25 f26 f27).L2.bg (lo rfl l)) * (rowSt arg34 arg35 arg36 f34 f35 f36 ⟨i.val, by omega⟩).h2 l) j := by
  unfold loopInv.sl.v266 loopInv.sl.H33_3 loopInv.sl.H33_2
  refine (readCov_again (ins := 1024) (outs := 2048) rfl _ _ _ _ _ _ _ _ [] i j).trans ?_
  refine cat_congr (α := EReal) (ins := 1024) (outs := 2048) rfl (fun l => ?_) (fun l => ?_) j
  · exact nb_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv i l
  · refine (rh_0_2 _ _ _ _ i l).trans ?_
    rw [ld_0_2 c arg34 arg35 arg36 f34 f35 f36  i _, funext (x_0_2 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36  hv i), View.readAt_full, View.readAt_full]
    rfl

/-- Layer 2's new state. -/
theorem nw_0_2  (hv : ∀ (r : Fin 128) (i : Fin 64), v48 (ix2 r i) = BitVec.ofNat 32 r.val) (i : Fin 64) (j : Fin 2048) :
    loopInv.sl.r_14 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36 (ix2 i j) = cell rfl rfl (net arg5 arg6 arg7 arg8 arg9 arg10 arg22 arg23 arg24 arg25 arg26 arg27 f5 f6 f7 f8 f9 f10 f22 f23 f24 f25 f26 f27).L2 (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.r_14 loopInv.sl.r_12
  refine (new_0_2 _ _ _ _ _ _ _ i j).trans ?_
  rw [ld_0_2 c arg34 arg35 arg36 f34 f35 f36  i _, funext (x_0_2 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36  hv i), funext (x2_0_2 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36  hv i), View.readAt_full, View.readAt_full, View.readAt_full, View.readAt_full]
  rfl

end Cert.Proof.KernelIdeal

end
-- ==== Proof.KernelIdealPhase1.lean ====
/-
  One trip with 128 rows in play: what each load and each computed block holds, row by row.
-/
module

public import proofs.«01_k».proof.Proof.KernelIdealLoop
public import proofs.«01_k».proof.Proof.KernelIdealCells
public import proofs.«01_k».proof.Proof.PieceRead
public import proofs.«01_k».proof.Proof.KernelIdealRows

@[expose] public section

set_option maxRecDepth 65536

noncomputable section

namespace Cert.Proof.KernelIdeal

open Cert.KernelIdeal Cert.KernelIdeal.Gen
open Idealize.ShloMosaic Idealize.ShloMosaic.TcCoe
open Cert.Proof.Gru

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))
variable (k : Fin k0_t1_loop.trips) (f34 : arg34.view.ty.Contents (Elt Ideal)) (f35 : arg35.view.ty.Contents (Elt Ideal)) (f36 : arg36.view.ty.Contents (Elt Ideal))

/-- The state of layer 0 as the trip loads it. -/
theorem ld_1_0 (e0 : ¬ loopInv.sl.v97 arg1 f1 k = 1#1) (i : Fin 128) (j : Fin 512) :
    loopInv.sl.v129 c arg1 arg2 arg3 arg5 arg6 arg22 arg23 arg31 arg34 v48 f1 f2 f3 f5 f6 f22 f23 k f34 (ix2 i j) = (rowSt arg34 arg35 arg36 f34 f35 f36 ⟨i.val, by omega⟩).h0 j := by
  unfold loopInv.sl.v129
  rw [dif_neg e0]
  exact readAt_top arg34.view f34 _ i (by omega) j

/-- Layer 0's input beside its state. -/
theorem x_1_0 (e0 : ¬ loopInv.sl.v97 arg1 f1 k = 1#1) (hv : ∀ (r : Fin 128) (i : Fin 128), v49 (ix2 r i) = BitVec.ofNat 32 r.val) (i : Fin 128) (j : Fin 640) :
    loopInv.sl.v135_1 c arg1 arg2 arg3 arg5 arg6 arg22 arg23 arg31 arg34 v48 v49 f1 f2 f3 f5 f6 f22 f23 k f34 (ix2 i j) = cat (outs := 512) rfl (onehot (tok arg2 f2 ⟨i.val, by omega⟩ k.val)) (rowSt arg34 arg35 arg36 f34 f35 f36 ⟨i.val, by omega⟩).h0 j := by
  unfold loopInv.sl.v135_1 loopInv.sl.H31_2_1
  refine (readCov_pair (ins := 128) (outs := 512) rfl _ _ _ _ _ _ [] i j).trans ?_
  refine cat_congr (α := EReal) (ins := 128) (outs := 512) rfl (fun l => ?_) (fun l => ?_) j
  · exact (oh_1 _ hv _ i l).trans (congrArg (fun w => onehot w l) (tok_load arg2 f2 k ⟨i.val, by omega⟩))
  · exact (cp_1_0 _ i l).trans (ld_1_0 c arg1 arg2 arg3 arg5 arg6 arg22 arg23 arg31 arg34 arg35 arg36 v48 f1 f2 f3 f5 f6 f22 f23 k f34 f35 f36 e0 i _)

/-- Layer 0's input beside its gated state. -/
theorem x2_1_0 (e0 : ¬ loopInv.sl.v97 arg1 f1 k = 1#1) (hv : ∀ (r : Fin 128) (i : Fin 128), v49 (ix2 r i) = BitVec.ofNat 32 r.val) (i : Fin 128) (j : Fin 640) :
    loopInv.sl.v164_1 c arg1 arg2 arg3 arg5 arg6 arg22 arg23 arg31 arg34 v48 v49 f1 f2 f3 f5 f6 f22 f23 k f34 (ix2 i j) = cat (outs := 512) rfl (onehot (tok arg2 f2 ⟨i.val, by omega⟩ k.val)) (fun l => gate (aff (cat (outs := 512) rfl (onehot (tok arg2 f2 ⟨i.val, by omega⟩ k.val)) (rowSt arg34 arg35 arg36 f34 f35 f36 ⟨i.val, by omega⟩).h0) (net arg5 arg6 arg7 arg8 arg9 arg10 arg22 arg23 arg24 arg25 arg26 arg27 f5 f6 f7 f8 f9 f10 f22 f23 f24 f25 f26 f27).L0.G (net arg5 arg6 arg7 arg8 arg9 arg10 arg22 arg23 arg24 arg25 arg26 arg27 f5 f6 f7 f8 f9 f10 f22 f23 f24 f25 f26 f27).L0.bg (lo rfl l)) * (rowSt arg34 arg35 arg36 f34 f35 f36 ⟨i.val, by omega⟩).h0 l) j := by
  unfold loopInv.sl.v164_1 loopInv.sl.H31_3_1 loopInv.sl.H31_2_1
  refine (readCov_again (ins := 128) (outs := 512) rfl _ _ _ _ _ _ _ _ [] i j).trans ?_
  refine cat_congr (α := EReal) (ins := 128) (outs := 512) rfl (fun l => ?_) (fun l => ?_) j
  · exact (oh_1 _ hv _ i l).trans (congrArg (fun w => onehot w l) (tok_load arg2 f2 k ⟨i.val, by omega⟩))
  · refine (rh_1_0 _ _ _ _ i l).trans ?_
    rw [ld_1_0 c arg1 arg2 arg3 arg5 arg6 arg22 arg23 arg31 arg34 arg35 arg36 v48 f1 f2 f3 f5 f6 f22 f23 k f34 f35 f36 e0 i _, funext (x_1_0 c arg1 arg2 arg3 arg5 arg6 arg22 arg23 arg31 arg34 arg35 arg36 v48 v49 f1 f2 f3 f5 f6 f22 f23 k f34 f35 f36 e0 hv i), View.readAt_full, View.readAt_full]
    rfl

/-- Layer 0's new state. -/
theorem nw_1_0 (e0 : ¬ loopInv.sl.v97 arg1 f1 k = 1#1) (hv : ∀ (r : Fin 128) (i : Fin 128), v49 (ix2 r i) = BitVec.ofNat 32 r.val) (i : Fin 128) (j : Fin 512) :
    loopInv.sl.r_19 c arg1 arg2 arg3 arg5 arg6 arg22 arg23 arg31 arg34 v48 v49 f1 f2 f3 f5 f6 f22 f23 k f34 (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_19 loopInv.sl.r_18
  refine (new_1_0 _ _ _ _ _ _ _ i j).trans ?_
  rw [ld_1_0 c arg1 arg2 arg3 arg5 arg6 arg22 arg23 arg31 arg34 arg35 arg36 v48 f1 f2 f3 f5 f6 f22 f23 k f34 f35 f36 e0 i _, funext (x_1_0 c arg1 arg2 arg3 arg5 arg6 arg22 arg23 arg31 arg34 arg35 arg36 v48 v49 f1 f2 f3 f5 f6 f22 f23 k f34 f35 f36 e0 hv i), funext (x2_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv i), View.readAt_full, View.readAt_full, View.readAt_full, View.readAt_full]
  rfl

/-- The same, as layer 1 takes it. -/
theorem nb_1_0 (e0 : ¬ loopInv.sl.v97 arg1 f1 k = 1#1) (hv : ∀ (r : Fin 128) (i : Fin 128), v49 (ix2 r i) = BitVec.ofNat 32 r.val) (i : Fin 128) (j : Fin 512) :
    (k0_pay32 (loopInv.sl.v129 c arg1 arg2 arg3 arg5 arg6 arg22 arg23 arg31 arg34 v48 f1 f2 f3 f5 f6 f22 f23 k f34) (loopInv.sl.r_18 c arg1 arg2 arg3 arg5 arg6 arg22 arg23 arg31 arg34 v48 v49 f1 f2 f3 f5 f6 f22 f23 k f34) (loopInv.sl.v164_1 c arg1 arg2 arg3 arg5 arg6 arg22 arg23 arg31 arg34 v48 v49 f1 f2 f3 f5 f6 f22 f23 k f34) (View.readAt (Elt Ideal) arg23.view (Rect.unit ![0, 0] S640x512.size inb_S640x512_S640x512_0_0).toLoadRect f23) (View.readAt (Elt Ideal) arg6.view (Rect.unit ![0, 0] S1x512.size inb_S1x512_S1x512_0_0).toLoadRect f6)) (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_18
  refine (newb_1_0 _ _ _ _ _ _ _ i j).trans ?_
  rw [ld_1_0 c arg1 arg2 arg3 arg5 arg6 arg22 arg23 arg31 arg34 arg35 arg36 v48 f1 f2 f3 f5 f6 f22 f23 k f34 f35 f36 e0 i _, funext (x_1_0 c arg1 arg2 arg3 arg5 arg6 arg22 arg23 arg31 arg34 arg35 arg36 v48 v49 f1 f2 f3 f5 f6 f22 f23 k f34 f35 f36 e0 hv i), funext (x2_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv i), View.readAt_full, View.readAt_full, View.readAt_full, View.readAt_full]
  rfl

/-- The state of layer 1 as the trip loads it. -/
theorem ld_1_1 (e0 : ¬ loopInv.sl.v97 arg1 f1 k = 1#1) (i : Fin 128) (j : Fin 1024) :
    loopInv.sl.v180 c arg1 arg2 arg3 arg5 arg6 arg7 arg8 arg22 arg23 arg24 arg25 arg31 arg32 arg34 arg35 v48 f1 f2 f3 f5 f6 f7 f8 f22 f23 f24 f25 k f34 f35 (ix2 i j) = (rowSt arg34 arg35 arg36 f34 f35 f36 ⟨i.val, by omega⟩).h1 j := by
  unfold loopInv.sl.v180
  rw [dif_neg e0]
  exact readAt_top arg35.view f35 _ i (by omega) j

/-- Layer 1's input beside its state. -/
theorem x_1_1 (e0 : ¬ loopInv.sl.v97 arg1 f1 k = 1#1) (hv : ∀ (r : Fin 128) (i : Fin 128), v49 (ix2 r i) = BitVec.ofNat 32 r.val) (i : Fin 128) (j : Fin 1536) :
    loopInv.sl.v186_1 c arg1 arg2 arg3 arg5 arg6 arg7 arg8 arg22 arg23 arg24 arg25 arg31 arg32 arg34 arg35 v48 v49 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.v186_1 loopInv.sl.H32_2_1
  refine (readCov_pair (ins := 512) (outs := 1024) rfl _ _ _ _ _ _ [] i j).trans ?_
  refine cat_congr (α := EReal) (ins := 512) (outs := 1024) rfl (fun l => ?_) (fun l => ?_) j
  · exact nb_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv i l
  · exact (cp_1_1 _ i l).trans (ld_1_1 c arg1 arg2 arg3 arg5 arg6 arg7 arg8 arg22 arg23 arg24 arg25 arg31 arg32 arg34 arg35 arg36 v48 f1 f2 f3 f5 f6 f7 f8 f22 f23 f24 f25 k f34 f35 f36 e0 i _)

/-- Layer 1's input beside its gated state. -/
theorem x2_1_1 (e0 : ¬ loopInv.sl.v97 arg1 f1 k = 1#1) (hv : ∀ (r : Fin 128) (i : Fin 128), v49 (ix2 r i) = BitVec.ofNat 32 r.val) (i : Fin 128) (j : Fin 1536) :
    loopInv.sl.v215_1 c arg1 arg2 arg3 arg5 arg6 arg7 arg8 arg22 arg23 arg24 arg25 arg31 arg32 arg34 arg35 v48 v49 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (fun l => gate (aff (cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (net arg5 arg6 arg7 arg8 arg9 arg10 arg22 arg23 arg24 arg25 arg26 arg27 f5 f6 f7 f8 f9 f10 f22 f23 f24 f25 f26 f27).L1.G (net arg5 arg6 arg7 arg8 arg9 arg10 arg22 arg23 arg24 arg25 arg26 arg27 f5 f6 f7 f8 f9 f10 f22 f23 f24 f25 f26 f27).L1.bg (lo rfl l)) * (rowSt arg34 arg35 arg36 f34 f35 f36 ⟨i.val, by omega⟩).h1 l) j := by
  unfold loopInv.sl.v215_1 loopInv.sl.H32_3_1 loopInv.sl.H32_2_1
  refine (readCov_again (ins := 512) (outs := 1024) rfl _ _ _ _ _ _ _ _ [] i j).trans ?_
  refine cat_congr (α := EReal) (ins := 512) (outs := 1024) rfl (fun l => ?_) (fun l => ?_) j
  · exact nb_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv i l
  · refine (rh_1_1 _ _ _ _ i l).trans ?_
    rw [ld_1_1 c arg1 arg2 arg3 arg5 arg6 arg7 arg8 arg22 arg23 arg24 arg25 arg31 arg32 arg34 arg35 arg36 v48 f1 f2 f3 f5 f6 f7 f8 f22 f23 f24 f25 k f34 f35 f36 e0 i _, funext (x_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i), View.readAt_full, View.readAt_full]
    rfl

/-- Layer 1's new state. -/
theorem nw_1_1 (e0 : ¬ loopInv.sl.v97 arg1 f1 k = 1#1) (hv : ∀ (r : Fin 128) (i : Fin 128), v49 (ix2 r i) = BitVec.ofNat 32 r.val) (i : Fin 128) (j : Fin 1024) :
    loopInv.sl.r_22 c arg1 arg2 arg3 arg5 arg6 arg7 arg8 arg22 arg23 arg24 arg25 arg31 arg32 arg34 arg35 v48 v49 f1 f2 f3 f5 f6 f7 f8 f22 f23 f24 f25 k f34 f35 (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_22 loopInv.sl.r_21 loopInv.sl.r_9 loopInv.sl.cst_127_1
  refine (new_1_1 _ _ _ _ _ _ _ i j).trans ?_
  rw [ld_1_1 c arg1 arg2 arg3 arg5 arg6 arg7 arg8 arg22 arg23 arg24 arg25 arg31 arg32 arg34 arg35 arg36 v48 f1 f2 f3 f5 f6 f7 f8 f22 f23 f24 f25 k f34 f35 f36 e0 i _, funext (x_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i), funext (x2_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i), View.readAt_full, View.readAt_full, View.readAt_full, View.readAt_full]
  rfl

/-- The same, as layer 2 takes it. -/
theorem nb_1_1 (e0 : ¬ loopInv.sl.v97 arg1 f1 k = 1#1) (hv : ∀ (r : Fin 128) (i : Fin 128), v49 (ix2 r i) = BitVec.ofNat 32 r.val) (i : Fin 128) (j : Fin 1024) :
    (k0_pay39 (loopInv.sl.v180 c arg1 arg2 arg3 arg5 arg6 arg7 arg8 arg22 arg23 arg24 arg25 arg31 arg32 arg34 arg35 v48 f1 f2 f3 f5 f6 f7 f8 f22 f23 f24 f25 k f34 f35) (loopInv.sl.r_21 c arg1 arg2 arg3 arg5 arg6 arg7 arg8 arg22 arg23 arg24 arg25 arg31 arg32 arg34 arg35 v48 v49 f1 f2 f3 f5 f6 f7 f8 f22 f23 f24 f25 k f34 f35) (loopInv.sl.v215_1 c arg1 arg2 arg3 arg5 arg6 arg7 arg8 arg22 arg23 arg24 arg25 arg31 arg32 arg34 arg35 v48 v49 f1 f2 f3 f5 f6 f7 f8 f22 f23 f24 f25 k f34 f35) (loopInv.sl.r_9 arg25 f25) loopInv.sl.cst_127_1 (View.readAt (Elt Ideal) arg8.view (Rect.unit ![0, 0] S1x1024.size inb_S1x1024_S1x1024_0_0).toLoadRect f8)) (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_21 loopInv.sl.r_9 loopInv.sl.cst_127_1
  refine (newb_1_1 _ _ _ _ _ _ _ i j).trans ?_
  rw [ld_1_1 c arg1 arg2 arg3 arg5 arg6 arg7 arg8 arg22 arg23 arg24 arg25 arg31 arg32 arg34 arg35 arg36 v48 f1 f2 f3 f5 f6 f7 f8 f22 f23 f24 f25 k f34 f35 f36 e0 i _, funext (x_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i), funext (x2_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i), View.readAt_full, View.readAt_full, View.readAt_full, View.readAt_full]
  rfl

/-- The state of layer 2 as the trip loads it. -/
theorem ld_1_2 (e0 : ¬ loopInv.sl.v97 arg1 f1 k = 1#1) (i : Fin 128) (j : Fin 2048) :
    loopInv.sl.v231 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36 (ix2 i j) = (rowSt arg34 arg35 arg36 f34 f35 f36 ⟨i.val, by omega⟩).h2 j := by
  unfold loopInv.sl.v231
  rw [dif_neg e0]
  exact readAt_top arg36.view f36 _ i (by omega) j

/-- Layer 2's input beside its state. -/
theorem x_1_2 (e0 : ¬ loopInv.sl.v97 arg1 f1 k = 1#1) (hv : ∀ (r : Fin 128) (i : Fin 128), v49 (ix2 r i) = BitVec.ofNat 32 r.val) (i : Fin 128) (j : Fin 3072) :
    loopInv.sl.v237_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.v237_1 loopInv.sl.H33_2_1
  refine (readCov_pair (ins := 1024) (outs := 2048) rfl _ _ _ _ _ _ [] i j).trans ?_
  refine cat_congr (α := EReal) (ins := 1024) (outs := 2048) rfl (fun l => ?_) (fun l => ?_) j
  · exact nb_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i l
  · exact (cp_1_2 _ i l).trans (ld_1_2 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36 e0 i _)

/-- Layer 2's input beside its gated state. -/
theorem x2_1_2 (e0 : ¬ loopInv.sl.v97 arg1 f1 k = 1#1) (hv : ∀ (r : Fin 128) (i : Fin 128), v49 (ix2 r i) = BitVec.ofNat 32 r.val) (i : Fin 128) (j : Fin 3072) :
    loopInv.sl.v266_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (fun l => gate (aff (cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2) (net arg5 arg6 arg7 arg8 arg9 arg10 arg22 arg23 arg24 arg25 arg26 arg27 f5 f6 f7 f8 f9 f10 f22 f23 f24 f25 f26 f27).L2.G (net arg5 arg6 arg7 arg8 arg9 arg10 arg22 arg23 arg24 arg25 arg26 arg27 f5 f6 f7 f8 f9 f10 f22 f23 f24 f25 f26 f27).L2.bg (lo rfl l)) * (rowSt arg34 arg35 arg36 f34 f35 f36 ⟨i.val, by omega⟩).h2 l) j := by
  unfold loopInv.sl.v266_1 loopInv.sl.H33_3_1 loopInv.sl.H33_2_1
  refine (readCov_again (ins := 1024) (outs := 2048) rfl _ _ _ _ _ _ _ _ [] i j).trans ?_
  refine cat_congr (α := EReal) (ins := 1024) (outs := 2048) rfl (fun l => ?_) (fun l => ?_) j
  · exact nb_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i l
  · refine (rh_1_2 _ _ _ _ i l).trans ?_
    rw [ld_1_2 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36 e0 i _, funext (x_1_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv i), View.readAt_full, View.readAt_full]
    rfl

/-- Layer 2's new state. -/
theorem nw_1_2 (e0 : ¬ loopInv.sl.v97 arg1 f1 k = 1#1) (hv : ∀ (r : Fin 128) (i : Fin 128), v49 (ix2 r i) = BitVec.ofNat 32 r.val) (i : Fin 128) (j : Fin 2048) :
    loopInv.sl.r_25 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 (ix2 i j) = cell rfl rfl (net arg5 arg6 arg7 arg8 arg9 arg10 arg22 arg23 arg24 arg25 arg26 arg27 f5 f6 f7 f8 f9 f10 f22 f23 f24 f25 f26 f27).L2 (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.r_25 loopInv.sl.r_23
  refine (new_1_2 _ _ _ _ _ _ _ i j).trans ?_
  rw [ld_1_2 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36 e0 i _, funext (x_1_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv i), funext (x2_1_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv i), View.readAt_full, View.readAt_full, View.readAt_full, View.readAt_full]
  rfl

end Cert.Proof.KernelIdeal

end
-- ==== Proof.KernelIdealPhase2.lean ====
/-
  One trip with 192 rows in play: what each load and each computed block holds, row by row.
-/
module

public import proofs.«01_k».proof.Proof.KernelIdealLoop
public import proofs.«01_k».proof.Proof.KernelIdealCells
public import proofs.«01_k».proof.Proof.PieceRead
public import proofs.«01_k».proof.Proof.KernelIdealRows

@[expose] public section

set_option maxRecDepth 65536

noncomputable section

namespace Cert.Proof.KernelIdeal

open Cert.KernelIdeal Cert.KernelIdeal.Gen
open Idealize.ShloMosaic Idealize.ShloMosaic.TcCoe
open Cert.Proof.Gru

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))
variable (k : Fin k0_t1_loop.trips) (f34 : arg34.view.ty.Contents (Elt Ideal)) (f35 : arg35.view.ty.Contents (Elt Ideal)) (f36 : arg36.view.ty.Contents (Elt Ideal))

/-- The state of layer 0 as the trip loads it. -/
theorem ld_2_0 (e0 : ¬ loopInv.sl.v97 arg1 f1 k = 1#1) (e1 : ¬ loopInv.sl.v104 arg1 f1 k = 1#1) (i : Fin 192) (j : Fin 512) :
    loopInv.sl.v129_1 c arg1 arg2 arg3 arg5 arg6 arg22 arg23 arg31 arg34 v48 v49 f1 f2 f3 f5 f6 f22 f23 k f34 (ix2 i j) = (rowSt arg34 arg35 arg36 f34 f35 f36 ⟨i.val, by omega⟩).h0 j := by
  unfold loopInv.sl.v129_1
  rw [dif_neg e1, dif_neg e0]
  exact readAt_top arg34.view f34 _ i (by omega) j

/-- Layer 0's input beside its state. -/
theorem x_2_0 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 640) :
    loopInv.sl.v135_2 c arg1 arg2 arg3 arg5 arg6 arg22 arg23 arg31 arg34 v48 v49 v50 f1 f2 f3 f5 f6 f22 f23 k f34 (ix2 i j) = cat (outs := 512) rfl (onehot (tok arg2 f2 ⟨i.val, by omega⟩ k.val)) (rowSt arg34 arg35 arg36 f34 f35 f36 ⟨i.val, by omega⟩).h0 j := by
  unfold loopInv.sl.v135_2 loopInv.sl.H31_2_2
  refine (readCov_pair (ins := 128) (outs := 512) rfl _ _ _ _ _ _ [] i j).trans ?_
  refine cat_congr (α := EReal) (ins := 128) (outs := 512) rfl (fun l => ?_) (fun l => ?_) j
  · exact (oh_2 _ hv _ i l).trans (congrArg (fun w => onehot w l) (tok_load arg2 f2 k ⟨i.val, by omega⟩))
  · exact (cp_2_0 _ i l).trans (ld_2_0 c arg1 arg2 arg3 arg5 arg6 arg22 arg23 arg31 arg34 arg35 arg36 v48 v49 f1 f2 f3 f5 f6 f22 f23 k f34 f35 f36 e0 e1 i _)

/-- Layer 0's input beside its gated state. -/
theorem x2_2_0 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 640) :
    loopInv.sl.v164_2 c arg1 arg2 arg3 arg5 arg6 arg22 arg23 arg31 arg34 v48 v49 v50 f1 f2 f3 f5 f6 f22 f23 k f34 (ix2 i j) = cat (outs := 512) rfl (onehot (tok arg2 f2 ⟨i.val, by omega⟩ k.val)) (fun l => gate (aff (cat (outs := 512) rfl (onehot (tok arg2 f2 ⟨i.val, by omega⟩ k.val)) (rowSt arg34 arg35 arg36 f34 f35 f36 ⟨i.val, by omega⟩).h0) (net arg5 arg6 arg7 arg8 arg9 arg10 arg22 arg23 arg24 arg25 arg26 arg27 f5 f6 f7 f8 f9 f10 f22 f23 f24 f25 f26 f27).L0.G (net arg5 arg6 arg7 arg8 arg9 arg10 arg22 arg23 arg24 arg25 arg26 arg27 f5 f6 f7 f8 f9 f10 f22 f23 f24 f25 f26 f27).L0.bg (lo rfl l)) * (rowSt arg34 arg35 arg36 f34 f35 f36 ⟨i.val, by omega⟩).h0 l) j := by
  unfold loopInv.sl.v164_2 loopInv.sl.H31_3_2 loopInv.sl.H31_2_2
  refine (readCov_again (ins := 128) (outs := 512) rfl _ _ _ _ _ _ _ _ [] i j).trans ?_
  refine cat_congr (α := EReal) (ins := 128) (outs := 512) rfl (fun l => ?_) (fun l => ?_) j
  · exact (oh_2 _ hv _ i l).trans (congrArg (fun w => onehot w l) (tok_load arg2 f2 k ⟨i.val, by omega⟩))
  · refine (rh_2_0 _ _ _ _ i l).trans ?_
    rw [ld_2_0 c arg1 arg2 arg3 arg5 arg6 arg22 arg23 arg31 arg34 arg35 arg36 v48 v49 f1 f2 f3 f5 f6 f22 f23 k f34 f35 f36 e0 e1 i _, funext (x_2_0 c arg1 arg2 arg3 arg5 arg6 arg22 arg23 arg31 arg34 arg35 arg36 v48 v49 v50 f1 f2 f3 f5 f6 f22 f23 k f34 f35 f36 e0 e1 hv i), View.readAt_full, View.readAt_full]
    rfl

/-- Layer 0's new state. -/
theorem nw_2_0 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 512) :
    loopInv.sl.r_30 c arg1 arg2 arg3 arg5 arg6 arg22 arg23 arg31 arg34 v48 v49 v50 f1 f2 f3 f5 f6 f22 f23 k f34 (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_30 loopInv.sl.r_29
  refine (new_2_0 _ _ _ _ _ _ _ i j).trans ?_
  rw [ld_2_0 c arg1 arg2 arg3 arg5 arg6 arg22 arg23 arg31 arg34 arg35 arg36 v48 v49 f1 f2 f3 f5 f6 f22 f23 k f34 f35 f36 e0 e1 i _, funext (x_2_0 c arg1 arg2 arg3 arg5 arg6 arg22 arg23 arg31 arg34 arg35 arg36 v48 v49 v50 f1 f2 f3 f5 f6 f22 f23 k f34 f35 f36 e0 e1 hv i), funext (x2_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv i), View.readAt_full, View.readAt_full, View.readAt_full, View.readAt_full]
  rfl

/-- The same, as layer 1 takes it. -/
theorem nb_2_0 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 512) :
    (k0_pay55 (loopInv.sl.v129_1 c arg1 arg2 arg3 arg5 arg6 arg22 arg23 arg31 arg34 v48 v49 f1 f2 f3 f5 f6 f22 f23 k f34) (loopInv.sl.r_29 c arg1 arg2 arg3 arg5 arg6 arg22 arg23 arg31 arg34 v48 v49 v50 f1 f2 f3 f5 f6 f22 f23 k f34) (loopInv.sl.v164_2 c arg1 arg2 arg3 arg5 arg6 arg22 arg23 arg31 arg34 v48 v49 v50 f1 f2 f3 f5 f6 f22 f23 k f34) (View.readAt (Elt Ideal) arg23.view (Rect.unit ![0, 0] S640x512.size inb_S640x512_S640x512_0_0).toLoadRect f23) (View.readAt (Elt Ideal) arg6.view (Rect.unit ![0, 0] S1x512.size inb_S1x512_S1x512_0_0).toLoadRect f6)) (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_29
  refine (newb_2_0 _ _ _ _ _ _ _ i j).trans ?_
  rw [ld_2_0 c arg1 arg2 arg3 arg5 arg6 arg22 arg23 arg31 arg34 arg35 arg36 v48 v49 f1 f2 f3 f5 f6 f22 f23 k f34 f35 f36 e0 e1 i _, funext (x_2_0 c arg1 arg2 arg3 arg5 arg6 arg22 arg23 arg31 arg34 arg35 arg36 v48 v49 v50 f1 f2 f3 f5 f6 f22 f23 k f34 f35 f36 e0 e1 hv i), funext (x2_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv i), View.readAt_full, View.readAt_full, View.readAt_full, View.readAt_full]
  rfl

/-- The state of layer 1 as the trip loads it. -/
theorem ld_2_1 (e0 : ¬ loopInv.sl.v97 arg1 f1 k = 1#1) (e1 : ¬ loopInv.sl.v104 arg1 f1 k = 1#1) (i : Fin 192) (j : Fin 1024) :
    loopInv.sl.v180_1 c arg1 arg2 arg3 arg5 arg6 arg7 arg8 arg22 arg23 arg24 arg25 arg31 arg32 arg34 arg35 v48 v49 f1 f2 f3 f5 f6 f7 f8 f22 f23 f24 f25 k f34 f35 (ix2 i j) = (rowSt arg34 arg35 arg36 f34 f35 f36 ⟨i.val, by omega⟩).h1 j := by
  unfold loopInv.sl.v180_1
  rw [dif_neg e1, dif_neg e0]
  exact readAt_top arg35.view f35 _ i (by omega) j

/-- Layer 1's input beside its state. -/
theorem x_2_1 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 1536) :
    loopInv.sl.v186_2 c arg1 arg2 arg3 arg5 arg6 arg7 arg8 arg22 arg23 arg24 arg25 arg31 arg32 arg34 arg35 v48 v49 v50 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.v186_2 loopInv.sl.H32_2_2
  refine (readCov_pair (ins := 512) (outs := 1024) rfl _ _ _ _ _ _ [] i j).trans ?_
  refine cat_congr (α := EReal) (ins := 512) (outs := 1024) rfl (fun l => ?_) (fun l => ?_) j
  · exact nb_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv i l
  · exact (cp_2_1 _ i l).trans (ld_2_1 c arg1 arg2 arg3 arg5 arg6 arg7 arg8 arg22 arg23 arg24 arg25 arg31 arg32 arg34 arg35 arg36 v48 v49 f1 f2 f3 f5 f6 f7 f8 f22 f23 f24 f25 k f34 f35 f36 e0 e1 i _)

/-- Layer 1's input beside its gated state. -/
theorem x2_2_1 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 1536) :
    loopInv.sl.v215_2 c arg1 arg2 arg3 arg5 arg6 arg7 arg8 arg22 arg23 arg24 arg25 arg31 arg32 arg34 arg35 v48 v49 v50 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (fun l => gate (aff (cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (net arg5 arg6 arg7 arg8 arg9 arg10 arg22 arg23 arg24 arg25 arg26 arg27 f5 f6 f7 f8 f9 f10 f22 f23 f24 f25 f26 f27).L1.G (net arg5 arg6 arg7 arg8 arg9 arg10 arg22 arg23 arg24 arg25 arg26 arg27 f5 f6 f7 f8 f9 f10 f22 f23 f24 f25 f26 f27).L1.bg (lo rfl l)) * (rowSt arg34 arg35 arg36 f34 f35 f36 ⟨i.val, by omega⟩).h1 l) j := by
  unfold loopInv.sl.v215_2 loopInv.sl.H32_3_2 loopInv.sl.H32_2_2
  refine (readCov_again (ins := 512) (outs := 1024) rfl _ _ _ _ _ _ _ _ [] i j).trans ?_
  refine cat_congr (α := EReal) (ins := 512) (outs := 1024) rfl (fun l => ?_) (fun l => ?_) j
  · exact nb_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv i l
  · refine (rh_2_1 _ _ _ _ i l).trans ?_
    rw [ld_2_1 c arg1 arg2 arg3 arg5 arg6 arg7 arg8 arg22 arg23 arg24 arg25 arg31 arg32 arg34 arg35 arg36 v48 v49 f1 f2 f3 f5 f6 f7 f8 f22 f23 f24 f25 k f34 f35 f36 e0 e1 i _, funext (x_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i), View.readAt_full, View.readAt_full]
    rfl

/-- Layer 1's new state. -/
theorem nw_2_1 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 1024) :
    loopInv.sl.r_33 c arg1 arg2 arg3 arg5 arg6 arg7 arg8 arg22 arg23 arg24 arg25 arg31 arg32 arg34 arg35 v48 v49 v50 f1 f2 f3 f5 f6 f7 f8 f22 f23 f24 f25 k f34 f35 (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_33 loopInv.sl.r_32 loopInv.sl.r_9 loopInv.sl.cst_127_2
  refine (new_2_1 _ _ _ _ _ _ _ i j).trans ?_
  rw [ld_2_1 c arg1 arg2 arg3 arg5 arg6 arg7 arg8 arg22 arg23 arg24 arg25 arg31 arg32 arg34 arg35 arg36 v48 v49 f1 f2 f3 f5 f6 f7 f8 f22 f23 f24 f25 k f34 f35 f36 e0 e1 i _, funext (x_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i), funext (x2_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i), View.readAt_full, View.readAt_full, View.readAt_full, View.readAt_full]
  rfl

/-- The same, as layer 2 takes it. -/
theorem nb_2_1 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 1024) :
    (k0_pay62 (loopInv.sl.v180_1 c arg1 arg2 arg3 arg5 arg6 arg7 arg8 arg22 arg23 arg24 arg25 arg31 arg32 arg34 arg35 v48 v49 f1 f2 f3 f5 f6 f7 f8 f22 f23 f24 f25 k f34 f35) (loopInv.sl.r_32 c arg1 arg2 arg3 arg5 arg6 arg7 arg8 arg22 arg23 arg24 arg25 arg31 arg32 arg34 arg35 v48 v49 v50 f1 f2 f3 f5 f6 f7 f8 f22 f23 f24 f25 k f34 f35) (loopInv.sl.v215_2 c arg1 arg2 arg3 arg5 arg6 arg7 arg8 arg22 arg23 arg24 arg25 arg31 arg32 arg34 arg35 v48 v49 v50 f1 f2 f3 f5 f6 f7 f8 f22 f23 f24 f25 k f34 f35) (loopInv.sl.r_9 arg25 f25) loopInv.sl.cst_127_2 (View.readAt (Elt Ideal) arg8.view (Rect.unit ![0, 0] S1x1024.size inb_S1x1024_S1x1024_0_0).toLoadRect f8)) (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_32 loopInv.sl.r_9 loopInv.sl.cst_127_2
  refine (newb_2_1 _ _ _ _ _ _ _ i j).trans ?_
  rw [ld_2_1 c arg1 arg2 arg3 arg5 arg6 arg7 arg8 arg22 arg23 arg24 arg25 arg31 arg32 arg34 arg35 arg36 v48 v49 f1 f2 f3 f5 f6 f7 f8 f22 f23 f24 f25 k f34 f35 f36 e0 e1 i _, funext (x_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i), funext (x2_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i), View.readAt_full, View.readAt_full, View.readAt_full, View.readAt_full]
  rfl

/-- The state of layer 2 as the trip loads it. -/
theorem ld_2_2 (e0 : ¬ loopInv.sl.v97 arg1 f1 k = 1#1) (e1 : ¬ loopInv.sl.v104 arg1 f1 k = 1#1) (i : Fin 192) (j : Fin 2048) :
    loopInv.sl.v231_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 (ix2 i j) = (rowSt arg34 arg35 arg36 f34 f35 f36 ⟨i.val, by omega⟩).h2 j := by
  unfold loopInv.sl.v231_1
  rw [dif_neg e1, dif_neg e0]
  exact readAt_top arg36.view f36 _ i (by omega) j

/-- Layer 2's input beside its state. -/
theorem x_2_2 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 3072) :
    loopInv.sl.v237_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.v237_2 loopInv.sl.H33_2_2
  refine (readCov_pair (ins := 1024) (outs := 2048) rfl _ _ _ _ _ _ [] i j).trans ?_
  refine cat_congr (α := EReal) (ins := 1024) (outs := 2048) rfl (fun l => ?_) (fun l => ?_) j
  · exact nb_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i l
  · exact (cp_2_2 _ i l).trans (ld_2_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 e1 i _)

/-- Layer 2's input beside its gated state. -/
theorem x2_2_2 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 3072) :
    loopInv.sl.v266_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (fun l => gate (aff (cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2) (net arg5 arg6 arg7 arg8 arg9 arg10 arg22 arg23 arg24 arg25 arg26 arg27 f5 f6 f7 f8 f9 f10 f22 f23 f24 f25 f26 f27).L2.G (net arg5 arg6 arg7 arg8 arg9 arg10 arg22 arg23 arg24 arg25 arg26 arg27 f5 f6 f7 f8 f9 f10 f22 f23 f24 f25 f26 f27).L2.bg (lo rfl l)) * (rowSt arg34 arg35 arg36 f34 f35 f36 ⟨i.val, by omega⟩).h2 l) j := by
  unfold loopInv.sl.v266_2 loopInv.sl.H33_3_2 loopInv.sl.H33_2_2
  refine (readCov_again (ins := 1024) (outs := 2048) rfl _ _ _ _ _ _ _ _ [] i j).trans ?_
  refine cat_congr (α := EReal) (ins := 1024) (outs := 2048) rfl (fun l => ?_) (fun l => ?_) j
  · exact nb_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i l
  · refine (rh_2_2 _ _ _ _ i l).trans ?_
    rw [ld_2_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 e1 i _, funext (x_2_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv i), View.readAt_full, View.readAt_full]
    rfl

/-- Layer 2's new state. -/
theorem nw_2_2 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 192) (j : Fin 2048) :
    loopInv.sl.r_36 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 (ix2 i j) = cell rfl rfl (net arg5 arg6 arg7 arg8 arg9 arg10 arg22 arg23 arg24 arg25 arg26 arg27 f5 f6 f7 f8 f9 f10 f22 f23 f24 f25 f26 f27).L2 (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.r_36 loopInv.sl.r_34
  refine (new_2_2 _ _ _ _ _ _ _ i j).trans ?_
  rw [ld_2_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 e1 i _, funext (x_2_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv i), funext (x2_2_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv i), View.readAt_full, View.readAt_full, View.readAt_full, View.readAt_full]
  rfl

end Cert.Proof.KernelIdeal

end
-- ==== Proof.KernelIdealPhase3.lean ====
/-
  One trip with 256 rows in play: what each load and each computed block holds, row by row.
-/
module

public import proofs.«01_k».proof.Proof.KernelIdealLoop
public import proofs.«01_k».proof.Proof.KernelIdealCells
public import proofs.«01_k».proof.Proof.PieceRead
public import proofs.«01_k».proof.Proof.KernelIdealRows

@[expose] public section

set_option maxRecDepth 65536

noncomputable section

namespace Cert.Proof.KernelIdeal

open Cert.KernelIdeal Cert.KernelIdeal.Gen
open Idealize.ShloMosaic Idealize.ShloMosaic.TcCoe
open Cert.Proof.Gru

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))
variable (k : Fin k0_t1_loop.trips) (f34 : arg34.view.ty.Contents (Elt Ideal)) (f35 : arg35.view.ty.Contents (Elt Ideal)) (f36 : arg36.view.ty.Contents (Elt Ideal))

/-- The state of layer 0 as the trip loads it. -/
theorem ld_3_0 (e0 : ¬ loopInv.sl.v97 arg1 f1 k = 1#1) (e1 : ¬ loopInv.sl.v104 arg1 f1 k = 1#1) (e2 : ¬ loopInv.sl.v111 arg1 f1 k = 1#1) (i : Fin 256) (j : Fin 512) :
    loopInv.sl.v128 c arg1 arg2 arg3 arg5 arg6 arg22 arg23 arg31 arg34 v48 v49 v50 f1 f2 f3 f5 f6 f22 f23 k f34 (ix2 i j) = (rowSt arg34 arg35 arg36 f34 f35 f36 ⟨i.val, by omega⟩).h0 j := by
  unfold loopInv.sl.v128
  rw [dif_neg e2, dif_neg e1, dif_neg e0]
  exact readAt_top arg34.view f34 _ i (by omega) j

/-- Layer 0's input beside its state. -/
theorem x_3_0 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 640) :
    loopInv.sl.v134 c arg1 arg2 arg3 arg5 arg6 arg22 arg23 arg31 arg34 v48 v49 v50 v51 f1 f2 f3 f5 f6 f22 f23 k f34 (ix2 i j) = cat (outs := 512) rfl (onehot (tok arg2 f2 ⟨i.val, by omega⟩ k.val)) (rowSt arg34 arg35 arg36 f34 f35 f36 ⟨i.val, by omega⟩).h0 j := by
  unfold loopInv.sl.v134 loopInv.sl.H31_2_3
  refine (readCov_pair (ins := 128) (outs := 512) rfl _ _ _ _ _ _ [] i j).trans ?_
  refine cat_congr (α := EReal) (ins := 128) (outs := 512) rfl (fun l => ?_) (fun l => ?_) j
  · exact (oh_3 _ hv _ i l).trans (congrArg (fun w => onehot w l) (tok_load arg2 f2 k ⟨i.val, by omega⟩))
  · exact (cp_3_0 _ i l).trans (ld_3_0 c arg1 arg2 arg3 arg5 arg6 arg22 arg23 arg31 arg34 arg35 arg36 v48 v49 v50 f1 f2 f3 f5 f6 f22 f23 k f34 f35 f36 e0 e1 e2 i _)

/-- Layer 0's input beside its gated state. -/
theorem x2_3_0 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 640) :
    loopInv.sl.v163 c arg1 arg2 arg3 arg5 arg6 arg22 arg23 arg31 arg34 v48 v49 v50 v51 f1 f2 f3 f5 f6 f22 f23 k f34 (ix2 i j) = cat (outs := 512) rfl (onehot (tok arg2 f2 ⟨i.val, by omega⟩ k.val)) (fun l => gate (aff (cat (outs := 512) rfl (onehot (tok arg2 f2 ⟨i.val, by omega⟩ k.val)) (rowSt arg34 arg35 arg36 f34 f35 f36 ⟨i.val, by omega⟩).h0) (net arg5 arg6 arg7 arg8 arg9 arg10 arg22 arg23 arg24 arg25 arg26 arg27 f5 f6 f7 f8 f9 f10 f22 f23 f24 f25 f26 f27).L0.G (net arg5 arg6 arg7 arg8 arg9 arg10 arg22 arg23 arg24 arg25 arg26 arg27 f5 f6 f7 f8 f9 f10 f22 f23 f24 f25 f26 f27).L0.bg (lo rfl l)) * (rowSt arg34 arg35 arg36 f34 f35 f36 ⟨i.val, by omega⟩).h0 l) j := by
  unfold loopInv.sl.v163 loopInv.sl.H31_3_3 loopInv.sl.H31_2_3
  refine (readCov_again (ins := 128) (outs := 512) rfl _ _ _ _ _ _ _ _ [] i j).trans ?_
  refine cat_congr (α := EReal) (ins := 128) (outs := 512) rfl (fun l => ?_) (fun l => ?_) j
  · exact (oh_3 _ hv _ i l).trans (congrArg (fun w => onehot w l) (tok_load arg2 f2 k ⟨i.val, by omega⟩))
  · refine (rh_3_0 _ _ _ _ i l).trans ?_
    rw [ld_3_0 c arg1 arg2 arg3 arg5 arg6 arg22 arg23 arg31 arg34 arg35 arg36 v48 v49 v50 f1 f2 f3 f5 f6 f22 f23 k f34 f35 f36 e0 e1 e2 i _, funext (x_3_0 c arg1 arg2 arg3 arg5 arg6 arg22 arg23 arg31 arg34 arg35 arg36 v48 v49 v50 v51 f1 f2 f3 f5 f6 f22 f23 k f34 f35 f36 e0 e1 e2 hv i), View.readAt_full, View.readAt_full]
    rfl

/-- Layer 0's new state. -/
theorem nw_3_0 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 512) :
    loopInv.sl.r_40 c arg1 arg2 arg3 arg5 arg6 arg22 arg23 arg31 arg34 v48 v49 v50 v51 f1 f2 f3 f5 f6 f22 f23 k f34 (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_40 loopInv.sl.r_39 loopInv.sl.cst_83
  refine (new_3_0 _ _ _ _ _ _ _ i j).trans ?_
  rw [ld_3_0 c arg1 arg2 arg3 arg5 arg6 arg22 arg23 arg31 arg34 arg35 arg36 v48 v49 v50 f1 f2 f3 f5 f6 f22 f23 k f34 f35 f36 e0 e1 e2 i _, funext (x_3_0 c arg1 arg2 arg3 arg5 arg6 arg22 arg23 arg31 arg34 arg35 arg36 v48 v49 v50 v51 f1 f2 f3 f5 f6 f22 f23 k f34 f35 f36 e0 e1 e2 hv i), funext (x2_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv i), View.readAt_full, View.readAt_full, View.readAt_full, View.readAt_full]
  rfl

/-- The same, as layer 1 takes it. -/
theorem nb_3_0 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 512) :
    (k0_pay78 (loopInv.sl.v128 c arg1 arg2 arg3 arg5 arg6 arg22 arg23 arg31 arg34 v48 v49 v50 f1 f2 f3 f5 f6 f22 f23 k f34) (loopInv.sl.r_39 c arg1 arg2 arg3 arg5 arg6 arg22 arg23 arg31 arg34 v48 v49 v50 v51 f1 f2 f3 f5 f6 f22 f23 k f34) loopInv.sl.cst_83 (loopInv.sl.v163 c arg1 arg2 arg3 arg5 arg6 arg22 arg23 arg31 arg34 v48 v49 v50 v51 f1 f2 f3 f5 f6 f22 f23 k f34) (View.readAt (Elt Ideal) arg23.view (Rect.unit ![0, 0] S640x512.size inb_S640x512_S640x512_0_0).toLoadRect f23) (View.readAt (Elt Ideal) arg6.view (Rect.unit ![0, 0] S1x512.size inb_S1x512_S1x512_0_0).toLoadRect f6)) (ix2 i j) = cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0 j := by
  unfold loopInv.sl.r_39 loopInv.sl.cst_83
  refine (newb_3_0 _ _ _ _ _ _ _ i j).trans ?_
  rw [ld_3_0 c arg1 arg2 arg3 arg5 arg6 arg22 arg23 arg31 arg34 arg35 arg36 v48 v49 v50 f1 f2 f3 f5 f6 f22 f23 k f34 f35 f36 e0 e1 e2 i _, funext (x_3_0 c arg1 arg2 arg3 arg5 arg6 arg22 arg23 arg31 arg34 arg35 arg36 v48 v49 v50 v51 f1 f2 f3 f5 f6 f22 f23 k f34 f35 f36 e0 e1 e2 hv i), funext (x2_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv i), View.readAt_full, View.readAt_full, View.readAt_full, View.readAt_full]
  rfl

/-- The state of layer 1 as the trip loads it. -/
theorem ld_3_1 (e0 : ¬ loopInv.sl.v97 arg1 f1 k = 1#1) (e1 : ¬ loopInv.sl.v104 arg1 f1 k = 1#1) (e2 : ¬ loopInv.sl.v111 arg1 f1 k = 1#1) (i : Fin 256) (j : Fin 1024) :
    loopInv.sl.v179 c arg1 arg2 arg3 arg5 arg6 arg7 arg8 arg22 arg23 arg24 arg25 arg31 arg32 arg34 arg35 v48 v49 v50 f1 f2 f3 f5 f6 f7 f8 f22 f23 f24 f25 k f34 f35 (ix2 i j) = (rowSt arg34 arg35 arg36 f34 f35 f36 ⟨i.val, by omega⟩).h1 j := by
  unfold loopInv.sl.v179
  rw [dif_neg e2, dif_neg e1, dif_neg e0]
  exact readAt_top arg35.view f35 _ i (by omega) j

/-- Layer 1's input beside its state. -/
theorem x_3_1 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 1536) :
    loopInv.sl.v185 c arg1 arg2 arg3 arg5 arg6 arg7 arg8 arg22 arg23 arg24 arg25 arg31 arg32 arg34 arg35 v48 v49 v50 v51 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.v185 loopInv.sl.H32_2_3
  refine (readCov_pair (ins := 512) (outs := 1024) rfl _ _ _ _ _ _ [] i j).trans ?_
  refine cat_congr (α := EReal) (ins := 512) (outs := 1024) rfl (fun l => ?_) (fun l => ?_) j
  · exact nb_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv i l
  · exact (cp_3_1 _ i l).trans (ld_3_1 c arg1 arg2 arg3 arg5 arg6 arg7 arg8 arg22 arg23 arg24 arg25 arg31 arg32 arg34 arg35 arg36 v48 v49 v50 f1 f2 f3 f5 f6 f7 f8 f22 f23 f24 f25 k f34 f35 f36 e0 e1 e2 i _)

/-- Layer 1's input beside its gated state. -/
theorem x2_3_1 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 1536) :
    loopInv.sl.v214 c arg1 arg2 arg3 arg5 arg6 arg7 arg8 arg22 arg23 arg24 arg25 arg31 arg32 arg34 arg35 v48 v49 v50 v51 f1 f2 f3 f5 f6 f7 f8 f22 f23 f24 f25 k f34 f35 (ix2 i j) = cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (fun l => gate (aff (cat (outs := 1024) rfl (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (net arg5 arg6 arg7 arg8 arg9 arg10 arg22 arg23 arg24 arg25 arg26 arg27 f5 f6 f7 f8 f9 f10 f22 f23 f24 f25 f26 f27).L1.G (net arg5 arg6 arg7 arg8 arg9 arg10 arg22 arg23 arg24 arg25 arg26 arg27 f5 f6 f7 f8 f9 f10 f22 f23 f24 f25 f26 f27).L1.bg (lo rfl l)) * (rowSt arg34 arg35 arg36 f34 f35 f36 ⟨i.val, by omega⟩).h1 l) j := by
  unfold loopInv.sl.v214 loopInv.sl.H32_3_3 loopInv.sl.H32_2_3
  refine (readCov_again (ins := 512) (outs := 1024) rfl _ _ _ _ _ _ _ _ [] i j).trans ?_
  refine cat_congr (α := EReal) (ins := 512) (outs := 1024) rfl (fun l => ?_) (fun l => ?_) j
  · exact nb_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv i l
  · refine (rh_3_1 _ _ _ _ i l).trans ?_
    rw [ld_3_1 c arg1 arg2 arg3 arg5 arg6 arg7 arg8 arg22 arg23 arg24 arg25 arg31 arg32 arg34 arg35 arg36 v48 v49 v50 f1 f2 f3 f5 f6 f7 f8 f22 f23 f24 f25 k f34 f35 f36 e0 e1 e2 i _, funext (x_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i), View.readAt_full, View.readAt_full]
    rfl

/-- Layer 1's new state. -/
theorem nw_3_1 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 1024) :
    loopInv.sl.r_44 c arg1 arg2 arg3 arg5 arg6 arg7 arg8 arg22 arg23 arg24 arg25 arg31 arg32 arg34 arg35 v48 v49 v50 v51 f1 f2 f3 f5 f6 f7 f8 f22 f23 f24 f25 k f34 f35 (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_44 loopInv.sl.r_42 loopInv.sl.r_43
  refine (new_3_1 _ _ _ _ _ _ _ i j).trans ?_
  rw [ld_3_1 c arg1 arg2 arg3 arg5 arg6 arg7 arg8 arg22 arg23 arg24 arg25 arg31 arg32 arg34 arg35 arg36 v48 v49 v50 f1 f2 f3 f5 f6 f7 f8 f22 f23 f24 f25 k f34 f35 f36 e0 e1 e2 i _, funext (x_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i), funext (x2_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i), View.readAt_full, View.readAt_full, View.readAt_full, View.readAt_full]
  rfl

/-- The same, as layer 2 takes it. -/
theorem nb_3_1 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 1024) :
    (k0_pay86 (loopInv.sl.v179 c arg1 arg2 arg3 arg5 arg6 arg7 arg8 arg22 arg23 arg24 arg25 arg31 arg32 arg34 arg35 v48 v49 v50 f1 f2 f3 f5 f6 f7 f8 f22 f23 f24 f25 k f34 f35) (loopInv.sl.r_42 c arg1 arg2 arg3 arg5 arg6 arg7 arg8 arg22 arg23 arg24 arg25 arg31 arg32 arg34 arg35 v48 v49 v50 v51 f1 f2 f3 f5 f6 f7 f8 f22 f23 f24 f25 k f34 f35) (loopInv.sl.r_43 c arg1 arg2 arg3 arg5 arg6 arg7 arg8 arg22 arg23 arg24 arg25 arg31 arg32 arg34 arg35 v48 v49 v50 v51 f1 f2 f3 f5 f6 f7 f8 f22 f23 f24 f25 k f34 f35) (View.readAt (Elt Ideal) arg8.view (Rect.unit ![0, 0] S1x1024.size inb_S1x1024_S1x1024_0_0).toLoadRect f8)) (ix2 i j) = cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1 j := by
  unfold loopInv.sl.r_42 loopInv.sl.r_43
  refine (newb_3_1 _ _ _ _ _ _ _ i j).trans ?_
  rw [ld_3_1 c arg1 arg2 arg3 arg5 arg6 arg7 arg8 arg22 arg23 arg24 arg25 arg31 arg32 arg34 arg35 arg36 v48 v49 v50 f1 f2 f3 f5 f6 f7 f8 f22 f23 f24 f25 k f34 f35 f36 e0 e1 e2 i _, funext (x_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i), funext (x2_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i), View.readAt_full, View.readAt_full, View.readAt_full, View.readAt_full]
  rfl

/-- The state of layer 2 as the trip loads it. -/
theorem ld_3_2 (e0 : ¬ loopInv.sl.v97 arg1 f1 k = 1#1) (e1 : ¬ loopInv.sl.v104 arg1 f1 k = 1#1) (e2 : ¬ loopInv.sl.v111 arg1 f1 k = 1#1) (i : Fin 256) (j : Fin 2048) :
    loopInv.sl.v230 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 (ix2 i j) = (rowSt arg34 arg35 arg36 f34 f35 f36 ⟨i.val, by omega⟩).h2 j := by
  unfold loopInv.sl.v230
  rw [dif_neg e2, dif_neg e1, dif_neg e0]
  exact readAt_top arg36.view f36 _ i (by omega) j

/-- Layer 2's input beside its state. -/
theorem x_3_2 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 3072) :
    loopInv.sl.v236 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.v236 loopInv.sl.H33_2_3
  refine (readCov_pair (ins := 1024) (outs := 2048) rfl _ _ _ _ _ _ [] i j).trans ?_
  refine cat_congr (α := EReal) (ins := 1024) (outs := 2048) rfl (fun l => ?_) (fun l => ?_) j
  · exact nb_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i l
  · exact (cp_3_2 _ i l).trans (ld_3_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 e2 i _)

/-- Layer 2's input beside its gated state. -/
theorem x2_3_2 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 3072) :
    loopInv.sl.v265 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 (ix2 i j) = cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (fun l => gate (aff (cat (outs := 2048) rfl (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2) (net arg5 arg6 arg7 arg8 arg9 arg10 arg22 arg23 arg24 arg25 arg26 arg27 f5 f6 f7 f8 f9 f10 f22 f23 f24 f25 f26 f27).L2.G (net arg5 arg6 arg7 arg8 arg9 arg10 arg22 arg23 arg24 arg25 arg26 arg27 f5 f6 f7 f8 f9 f10 f22 f23 f24 f25 f26 f27).L2.bg (lo rfl l)) * (rowSt arg34 arg35 arg36 f34 f35 f36 ⟨i.val, by omega⟩).h2 l) j := by
  unfold loopInv.sl.v265 loopInv.sl.H33_3_3 loopInv.sl.H33_2_3
  refine (readCov_again (ins := 1024) (outs := 2048) rfl _ _ _ _ _ _ _ _ [] i j).trans ?_
  refine cat_congr (α := EReal) (ins := 1024) (outs := 2048) rfl (fun l => ?_) (fun l => ?_) j
  · exact nb_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i l
  · refine (rh_3_2 _ _ _ _ i l).trans ?_
    rw [ld_3_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 e2 i _, funext (x_3_2 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv i), View.readAt_full, View.readAt_full]
    rfl

/-- Layer 2's new state. -/
theorem nw_3_2 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 2048) :
    loopInv.sl.r_47 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 (ix2 i j) = cell rfl rfl (net arg5 arg6 arg7 arg8 arg9 arg10 arg22 arg23 arg24 arg25 arg26 arg27 f5 f6 f7 f8 f9 f10 f22 f23 f24 f25 f26 f27).L2 (cell rfl rfl (net arg5 arg6 arg7 arg8 arg9 arg10 arg22 arg23 arg24 arg25 arg26 arg27 f5 f6 f7 f8 f9 f10 f22 f23 f24 f25 f26 f27).L1 (cell rfl rfl (net arg5 arg6 arg7 arg8 arg9 arg10 arg22 arg23 arg24 arg25 arg26 arg27 f5 f6 f7 f8 f9 f10 f22 f23 f24 f25 f26 f27).L0 (onehot (tok arg2 f2 ⟨i.val, by omega⟩ k.val)) (rowSt arg34 arg35 arg36 f34 f35 f36 ⟨i.val, by omega⟩).h0) (rowSt arg34 arg35 arg36 f34 f35 f36 ⟨i.val, by omega⟩).h1) (rowSt arg34 arg35 arg36 f34 f35 f36 ⟨i.val, by omega⟩).h2 j := by
  unfold loopInv.sl.r_47 loopInv.sl.r_45
  refine (new_3_2 _ _ _ _ _ _ _ i j).trans ?_
  rw [ld_3_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 e2 i _, funext (x_3_2 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv i), funext (x2_3_2 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv i), View.readAt_full, View.readAt_full, View.readAt_full, View.readAt_full]
  rfl

end Cert.Proof.KernelIdeal

end
-- ==== Proof.KernelIdealTrip.lean ====
/-
  One trip of the time loop on the state: every row still inside its length takes one step of the network, every other row
  keeps its state.
-/
module

public import proofs.«01_k».proof.Proof.KernelIdealLoop
public import proofs.«01_k».proof.Proof.KernelIdealCells
public import proofs.«01_k».proof.Proof.PieceRead
public import proofs.«01_k».proof.Proof.KernelIdealPhase0
public import proofs.«01_k».proof.Proof.KernelIdealPhase1
public import proofs.«01_k».proof.Proof.KernelIdealPhase2
public import proofs.«01_k».proof.Proof.KernelIdealPhase3
@[expose] public section

set_option maxHeartbeats 2000000
set_option maxRecDepth 65536

noncomputable section

namespace Cert.Proof.KernelIdeal

open Cert.KernelIdeal Cert.KernelIdeal.Gen
open Idealize.ShloMosaic Idealize.ShloMosaic.TcCoe
open Cert.Proof.Gru

/-- A phase's guard, in numbers. -/
theorem guard_iff (t a b : BitVec 32) :
    Scalar.cmpi .ne (Scalar.extui (Scalar.andi (Scalar.cmpi .slt t a) (Scalar.cmpi .sge t b))) 0#32 = 1#1
      ↔ t.toInt < a.toInt ∧ b.toInt ≤ t.toInt := by
  have h1 : t.slt a = decide (t.toInt < a.toInt) := by rw [BitVec.slt_eq_decide]
  have h2 : b.sle t = decide (b.toInt ≤ t.toInt) := by rw [BitVec.sle_eq_decide]
  unfold Scalar.cmpi Scalar.extui Scalar.andi IntOp.cmpi
  simp only [h1, h2]
  by_cases c1 : t.toInt < a.toInt <;> by_cases c2 : b.toInt ≤ t.toInt <;> simp [c1, c2] <;> decide

/-- The last phase's guard, in numbers. -/
theorem guard_last_iff (t a : BitVec 32) :
    Scalar.cmpi .ne (Scalar.extui (Scalar.andi (Scalar.cmpi .slt t a) 1#1)) 0#32 = 1#1 ↔ t.toInt < a.toInt := by
  have h1 : t.slt a = decide (t.toInt < a.toInt) := by rw [BitVec.slt_eq_decide]
  unfold Scalar.cmpi Scalar.extui Scalar.andi IntOp.cmpi
  simp only [h1]
  by_cases c1 : t.toInt < a.toInt <;> simp [c1] <;> decide

variable (c : Dev nD) (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg31 : Memref sig .tc .vmem S256x640 .bf16) (arg32 : Memref sig .tc .vmem S256x1536 .bf16) (arg33 : Memref sig .tc .vmem S256x3072 .bf16) (arg34 : Memref sig .tc .vmem S256x512 .f32) (arg35 : Memref sig .tc .vmem S256x1024 .f32) (arg36 : Memref sig .tc .vmem S256x2048 .f32)
variable (v48 : IVec S128x64 32) (v49 : IVec S128x128 32) (v50 : IVec S128x192 32) (v51 : IVec S128x256 32)
variable (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f31 : arg31.view.ty.Contents (Elt Ideal)) (f32 : arg32.view.ty.Contents (Elt Ideal)) (f33 : arg33.view.ty.Contents (Elt Ideal))
variable (k : Fin k0_t1_loop.trips) (f34 : arg34.view.ty.Contents (Elt Ideal)) (f35 : arg35.view.ty.Contents (Elt Ideal)) (f36 : arg36.view.ty.Contents (Elt Ideal))

/-- Phase `q`'s bound. -/
def thr (q : Fin 4) : BitVec 32 := arg1.view.read (Elt Ideal) f1 (ix2 q (0 : Fin 1))

/-- The bounds fall, and the rows from `64 * q` on are no longer than bound `q`. -/
structure Falling : Prop where
  down : ∀ q q' : Fin 4, q ≤ q' → (thr arg1 f1 q').toInt ≤ (thr arg1 f1 q).toInt
  below : ∀ (q : Fin 4) (i : Fin 256), 64 * q.val ≤ i.val → (len arg3 f3 i).toInt ≤ (thr arg1 f1 q).toInt

/-- The step word of a trip. -/
theorem iv_eq : ∀ k : Fin k0_t1_loop.trips, Scf.iv 0#32 1#32 k.val = BitVec.ofNat 32 k.val := by decide +kernel

theorem step_word : loopInv.sl.arg38 k = BitVec.ofNat 32 k.val := by
  unfold loopInv.sl.arg38
  exact iv_eq k

theorem thr_0 : loopInv.sl.r arg1 f1 = thr arg1 f1 0 := by
  unfold loopInv.sl.r thr
  show arg1.view.read (Elt Ideal) f1 _ = _
  congr 1
  funext a
  apply Fin.ext
  match a with
  | ⟨0, _⟩ => rfl
  | ⟨1, _⟩ => rfl

theorem thr_1 : loopInv.sl.r_1 arg1 f1 = thr arg1 f1 1 := by
  unfold loopInv.sl.r_1 thr
  show arg1.view.read (Elt Ideal) f1 _ = _
  congr 1
  funext a
  apply Fin.ext
  match a with
  | ⟨0, _⟩ => rfl
  | ⟨1, _⟩ => rfl

theorem thr_2 : loopInv.sl.r_16 arg1 f1 = thr arg1 f1 2 := by
  unfold loopInv.sl.r_16 thr
  show arg1.view.read (Elt Ideal) f1 _ = _
  congr 1
  funext a
  apply Fin.ext
  match a with
  | ⟨0, _⟩ => rfl
  | ⟨1, _⟩ => rfl

theorem thr_3 : loopInv.sl.r_27 arg1 f1 = thr arg1 f1 3 := by
  unfold loopInv.sl.r_27 thr
  show arg1.view.read (Elt Ideal) f1 _ = _
  congr 1
  funext a
  apply Fin.ext
  match a with
  | ⟨0, _⟩ => rfl
  | ⟨1, _⟩ => rfl

/-- When phase 0 runs. -/
theorem guard_0 : loopInv.sl.v97 arg1 f1 k = 1#1 ↔ (BitVec.ofNat 32 k.val).toInt < (thr arg1 f1 0).toInt ∧ (thr arg1 f1 1).toInt ≤ (BitVec.ofNat 32 k.val).toInt := by
  unfold loopInv.sl.v97 loopInv.sl.v96 loopInv.sl.v95 loopInv.sl.v92 loopInv.sl.v94
  rw [step_word, thr_0 arg1 f1, thr_1 arg1 f1]
  exact guard_iff _ _ _

/-- When phase 1 runs. -/
theorem guard_1 : loopInv.sl.v104 arg1 f1 k = 1#1 ↔ (BitVec.ofNat 32 k.val).toInt < (thr arg1 f1 1).toInt ∧ (thr arg1 f1 2).toInt ≤ (BitVec.ofNat 32 k.val).toInt := by
  unfold loopInv.sl.v104 loopInv.sl.v103 loopInv.sl.v102 loopInv.sl.v99 loopInv.sl.v101
  rw [step_word, thr_1 arg1 f1, thr_2 arg1 f1]
  exact guard_iff _ _ _

/-- When phase 2 runs. -/
theorem guard_2 : loopInv.sl.v111 arg1 f1 k = 1#1 ↔ (BitVec.ofNat 32 k.val).toInt < (thr arg1 f1 2).toInt ∧ (thr arg1 f1 3).toInt ≤ (BitVec.ofNat 32 k.val).toInt := by
  unfold loopInv.sl.v111 loopInv.sl.v110 loopInv.sl.v109 loopInv.sl.v106 loopInv.sl.v108
  rw [step_word, thr_2 arg1 f1, thr_3 arg1 f1]
  exact guard_iff _ _ _

/-- When phase 3 runs. -/
theorem guard_3 : loopInv.sl.v116 arg1 f1 k = 1#1 ↔ (BitVec.ofNat 32 k.val).toInt < (thr arg1 f1 3).toInt := by
  unfold loopInv.sl.v116 loopInv.sl.v115 loopInv.sl.v114 loopInv.sl.v113
  rw [step_word, thr_3 arg1 f1]
  exact guard_last_iff _ _

/-- What layer 0's state buffer holds after a trip with 64 rows in play. -/
theorem trip_0_0  (hv : ∀ (r : Fin 128) (i : Fin 64), v48 (ix2 r i) = BitVec.ofNat 32 r.val) (i : Fin 256) (j : Fin 512) :
    arg34.view.read (Elt Ideal) (arg34.view.writes (Elt Ideal) f34 [⟨Rect.unit (s := S256x512) ![0, 0] S64x512.size inb_S256x512_S64x512_0_0, k0_pay24 (loopInv.sl.arg38 k) (loopInv.sl.r_5 c arg2 arg5 arg6 arg22 arg23 arg31 arg34 v48 f2 f5 f6 f22 f23 k f34) (View.readAt (Elt Ideal) arg3.view (Rect.unit (s := S256x1) ![0, 0] S64x1.size inb_S256x1_S64x1_0_0).toLoadRect f3) (View.readAt (Elt Ideal) arg34.view (Rect.unit (s := S256x512) ![0, 0] S64x512.size inb_S256x512_S64x512_0_0).toLoadRect f34)⟩]) (ix2 i j)
      = if i.val < 64 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h0 j else (rowSt arg34 arg35 arg36 f34 f35 f36 i).h0 j := by
  refine (read_top arg34.view f34 _ _ i j).trans ?_
  by_cases hi : i.val < 64
  · have hl : (View.readAt (Elt Ideal) arg3.view (Rect.unit (s := S256x1) ![0, 0] S64x1.size inb_S256x1_S64x1_0_0).toLoadRect f3) (ix2 (⟨i.val, hi⟩ : Fin 64) (0 : Fin 1)) = len arg3 f3 i := readAt_top arg3.view f3 _ (⟨i.val, hi⟩ : Fin 64) i.isLt 0
    rw [dif_pos hi]
    simp only [hi, true_and]
    refine (sel_0_0 _ _ _ _ (⟨i.val, hi⟩ : Fin 64) j).trans ?_
    rw [hl, step_word]
    exact congrArg₂ (fun a b : EReal => if (BitVec.ofNat 32 k.val).slt (len arg3 f3 i) = true then a else b) (nw_0_0 c arg2 arg5 arg6 arg7 arg8 arg9 arg10 arg22 arg23 arg24 arg25 arg26 arg27 arg31 arg34 arg35 arg36 v48 f2 f5 f6 f7 f8 f9 f10 f22 f23 f24 f25 f26 f27 k f34 f35 f36  hv (⟨i.val, hi⟩ : Fin 64) j) (readAt_top arg34.view f34 _ (⟨i.val, hi⟩ : Fin 64) i.isLt j)
  · rw [dif_neg hi, if_neg fun h => hi h.1]
    rfl

/-- What layer 1's state buffer holds after a trip with 64 rows in play. -/
theorem trip_0_1  (hv : ∀ (r : Fin 128) (i : Fin 64), v48 (ix2 r i) = BitVec.ofNat 32 r.val) (i : Fin 256) (j : Fin 1024) :
    arg35.view.read (Elt Ideal) (arg35.view.writes (Elt Ideal) f35 [⟨Rect.unit (s := S256x1024) ![0, 0] S64x1024.size inb_S256x1024_S64x1024_0_0, k0_pay98 (loopInv.sl.r_10 c arg2 arg5 arg6 arg7 arg8 arg22 arg23 arg24 arg25 arg31 arg32 arg34 arg35 v48 f2 f5 f6 f7 f8 f22 f23 f24 f25 k f34 f35) (loopInv.sl.r_15 arg3 f3 k) (View.readAt (Elt Ideal) arg35.view (Rect.unit (s := S256x1024) ![0, 0] S64x1024.size inb_S256x1024_S64x1024_0_0).toLoadRect f35)⟩]) (ix2 i j)
      = if i.val < 64 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h1 j else (rowSt arg34 arg35 arg36 f34 f35 f36 i).h1 j := by
  refine (read_top arg35.view f35 _ _ i j).trans ?_
  by_cases hi : i.val < 64
  · have hl : (View.readAt (Elt Ideal) arg3.view (Rect.unit (s := S256x1) ![0, 0] S64x1.size inb_S256x1_S64x1_0_0).toLoadRect f3) (ix2 (⟨i.val, hi⟩ : Fin 64) (0 : Fin 1)) = len arg3 f3 i := readAt_top arg3.view f3 _ (⟨i.val, hi⟩ : Fin 64) i.isLt 0
    rw [dif_pos hi]
    simp only [hi, true_and]
    unfold loopInv.sl.r_15
    refine (sel_0_1 _ _ _ _ (⟨i.val, hi⟩ : Fin 64) j).trans ?_
    rw [hl, step_word]
    exact congrArg₂ (fun a b : EReal => if (BitVec.ofNat 32 k.val).slt (len arg3 f3 i) = true then a else b) (nw_0_1 c arg2 arg5 arg6 arg7 arg8 arg9 arg10 arg22 arg23 arg24 arg25 arg26 arg27 arg31 arg32 arg34 arg35 arg36 v48 f2 f5 f6 f7 f8 f9 f10 f22 f23 f24 f25 f26 f27 k f34 f35 f36  hv (⟨i.val, hi⟩ : Fin 64) j) (readAt_top arg35.view f35 _ (⟨i.val, hi⟩ : Fin 64) i.isLt j)
  · rw [dif_neg hi, if_neg fun h => hi h.1]
    rfl

/-- What layer 2's state buffer holds after a trip with 64 rows in play. -/
theorem trip_0_2  (hv : ∀ (r : Fin 128) (i : Fin 64), v48 (ix2 r i) = BitVec.ofNat 32 r.val) (i : Fin 256) (j : Fin 2048) :
    arg36.view.read (Elt Ideal) (arg36.view.writes (Elt Ideal) f36 [⟨Rect.unit (s := S256x2048) ![0, 0] S64x2048.size inb_S256x2048_S64x2048_0_0, k0_pay99 (loopInv.sl.r_14 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36) (loopInv.sl.r_15 arg3 f3 k) (View.readAt (Elt Ideal) arg36.view (Rect.unit (s := S256x2048) ![0, 0] S64x2048.size inb_S256x2048_S64x2048_0_0).toLoadRect f36)⟩]) (ix2 i j)
      = if i.val < 64 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h2 j else (rowSt arg34 arg35 arg36 f34 f35 f36 i).h2 j := by
  refine (read_top arg36.view f36 _ _ i j).trans ?_
  by_cases hi : i.val < 64
  · have hl : (View.readAt (Elt Ideal) arg3.view (Rect.unit (s := S256x1) ![0, 0] S64x1.size inb_S256x1_S64x1_0_0).toLoadRect f3) (ix2 (⟨i.val, hi⟩ : Fin 64) (0 : Fin 1)) = len arg3 f3 i := readAt_top arg3.view f3 _ (⟨i.val, hi⟩ : Fin 64) i.isLt 0
    rw [dif_pos hi]
    simp only [hi, true_and]
    unfold loopInv.sl.r_15
    refine (sel_0_2 _ _ _ _ (⟨i.val, hi⟩ : Fin 64) j).trans ?_
    rw [hl, step_word]
    exact congrArg₂ (fun a b : EReal => if (BitVec.ofNat 32 k.val).slt (len arg3 f3 i) = true then a else b) (nw_0_2 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36  hv (⟨i.val, hi⟩ : Fin 64) j) (readAt_top arg36.view f36 _ (⟨i.val, hi⟩ : Fin 64) i.isLt j)
  · rw [dif_neg hi, if_neg fun h => hi h.1]
    rfl

/-- A trip with 64 rows in play. -/
theorem trip_0  (hv : ∀ (r : Fin 128) (i : Fin 64), v48 (ix2 r i) = BitVec.ofNat 32 r.val)
    (g34 : arg34.view.ty.Contents (Elt Ideal)) (h34 : g34 = arg34.view.writes (Elt Ideal) f34 [⟨Rect.unit (s := S256x512) ![0, 0] S64x512.size inb_S256x512_S64x512_0_0, k0_pay24 (loopInv.sl.arg38 k) (loopInv.sl.r_5 c arg2 arg5 arg6 arg22 arg23 arg31 arg34 v48 f2 f5 f6 f22 f23 k f34) (View.readAt (Elt Ideal) arg3.view (Rect.unit (s := S256x1) ![0, 0] S64x1.size inb_S256x1_S64x1_0_0).toLoadRect f3) (View.readAt (Elt Ideal) arg34.view (Rect.unit (s := S256x512) ![0, 0] S64x512.size inb_S256x512_S64x512_0_0).toLoadRect f34)⟩]) (g35 : arg35.view.ty.Contents (Elt Ideal)) (h35 : g35 = arg35.view.writes (Elt Ideal) f35 [⟨Rect.unit (s := S256x1024) ![0, 0] S64x1024.size inb_S256x1024_S64x1024_0_0, k0_pay98 (loopInv.sl.r_10 c arg2 arg5 arg6 arg7 arg8 arg22 arg23 arg24 arg25 arg31 arg32 arg34 arg35 v48 f2 f5 f6 f7 f8 f22 f23 f24 f25 k f34 f35) (loopInv.sl.r_15 arg3 f3 k) (View.readAt (Elt Ideal) arg35.view (Rect.unit (s := S256x1024) ![0, 0] S64x1024.size inb_S256x1024_S64x1024_0_0).toLoadRect f35)⟩]) (g36 : arg36.view.ty.Contents (Elt Ideal)) (h36 : g36 = arg36.view.writes (Elt Ideal) f36 [⟨Rect.unit (s := S256x2048) ![0, 0] S64x2048.size inb_S256x2048_S64x2048_0_0, k0_pay99 (loopInv.sl.r_14 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36) (loopInv.sl.r_15 arg3 f3 k) (View.readAt (Elt Ideal) arg36.view (Rect.unit (s := S256x2048) ![0, 0] S64x2048.size inb_S256x2048_S64x2048_0_0).toLoadRect f36)⟩]) (i : Fin 256) :
    rowSt arg34 arg35 arg36 g34 g35 g36 i
      = if i.val < 64 ∧ (BitVec.ofNat 32 k.val).slt (len arg3 f3 i) = true then (net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i) else (rowSt arg34 arg35 arg36 f34 f35 f36 i) := by
  have s0 : ∀ j, (rowSt arg34 arg35 arg36 g34 g35 g36 i).h0 j = _ := fun j => (congrArg (fun z => arg34.view.read (Elt Ideal) z (ix2 i j)) h34).trans (trip_0_0 c arg2 arg3 arg5 arg6 arg7 arg8 arg9 arg10 arg22 arg23 arg24 arg25 arg26 arg27 arg31 arg34 arg35 arg36 v48 f2 f3 f5 f6 f7 f8 f9 f10 f22 f23 f24 f25 f26 f27 k f34 f35 f36  hv i j)
  have s1 : ∀ j, (rowSt arg34 arg35 arg36 g34 g35 g36 i).h1 j = _ := fun j => (congrArg (fun z => arg35.view.read (Elt Ideal) z (ix2 i j)) h35).trans (trip_0_1 c arg2 arg3 arg5 arg6 arg7 arg8 arg9 arg10 arg22 arg23 arg24 arg25 arg26 arg27 arg31 arg32 arg34 arg35 arg36 v48 f2 f3 f5 f6 f7 f8 f9 f10 f22 f23 f24 f25 f26 f27 k f34 f35 f36  hv i j)
  have s2 : ∀ j, (rowSt arg34 arg35 arg36 g34 g35 g36 i).h2 j = _ := fun j => (congrArg (fun z => arg36.view.read (Elt Ideal) z (ix2 i j)) h36).trans (trip_0_2 c arg2 arg3 arg5 arg6 arg7 arg8 arg9 arg10 arg22 arg23 arg24 arg25 arg26 arg27 arg31 arg32 arg33 arg34 arg35 arg36 v48 f2 f3 f5 f6 f7 f8 f9 f10 f22 f23 f24 f25 f26 f27 k f34 f35 f36  hv i j)
  by_cases ha : i.val < 64 ∧ (BitVec.ofNat 32 k.val).slt (len arg3 f3 i) = true
  · simp only [if_pos ha] at s0 s1 s2 ⊢
    exact St.ext (funext s0) (funext s1) (funext s2)
  · simp only [if_neg ha] at s0 s1 s2 ⊢
    exact St.ext (funext s0) (funext s1) (funext s2)

/-- What layer 0's state buffer holds after a trip with 128 rows in play. -/
theorem trip_1_0 (e0 : ¬ loopInv.sl.v97 arg1 f1 k = 1#1) (hv : ∀ (r : Fin 128) (i : Fin 128), v49 (ix2 r i) = BitVec.ofNat 32 r.val) (i : Fin 256) (j : Fin 512) :
    arg34.view.read (Elt Ideal) (arg34.view.writes (Elt Ideal) f34 [⟨Rect.unit (s := S256x512) ![0, 0] S128x512.size inb_S256x512_S128x512_0_0, k0_pay47 (loopInv.sl.arg38 k) (loopInv.sl.r_19 c arg1 arg2 arg3 arg5 arg6 arg22 arg23 arg31 arg34 v48 v49 f1 f2 f3 f5 f6 f22 f23 k f34) (View.readAt (Elt Ideal) arg3.view (Rect.unit (s := S256x1) ![0, 0] S128x1.size inb_S256x1_S128x1_0_0).toLoadRect f3) (loopInv.sl.v129 c arg1 arg2 arg3 arg5 arg6 arg22 arg23 arg31 arg34 v48 f1 f2 f3 f5 f6 f22 f23 k f34)⟩]) (ix2 i j)
      = if i.val < 128 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h0 j else (rowSt arg34 arg35 arg36 f34 f35 f36 i).h0 j := by
  refine (read_top arg34.view f34 _ _ i j).trans ?_
  by_cases hi : i.val < 128
  · have hl : (View.readAt (Elt Ideal) arg3.view (Rect.unit (s := S256x1) ![0, 0] S128x1.size inb_S256x1_S128x1_0_0).toLoadRect f3) (ix2 (⟨i.val, hi⟩ : Fin 128) (0 : Fin 1)) = len arg3 f3 i := readAt_top arg3.view f3 _ (⟨i.val, hi⟩ : Fin 128) i.isLt 0
    rw [dif_pos hi]
    simp only [hi, true_and]
    refine (sel_1_0 _ _ _ _ (⟨i.val, hi⟩ : Fin 128) j).trans ?_
    rw [hl, step_word]
    exact congrArg₂ (fun a b : EReal => if (BitVec.ofNat 32 k.val).slt (len arg3 f3 i) = true then a else b) (nw_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv (⟨i.val, hi⟩ : Fin 128) j) (ld_1_0 c arg1 arg2 arg3 arg5 arg6 arg22 arg23 arg31 arg34 arg35 arg36 v48 f1 f2 f3 f5 f6 f22 f23 k f34 f35 f36 e0 (⟨i.val, hi⟩ : Fin 128) j)
  · rw [dif_neg hi, if_neg fun h => hi h.1]
    rfl

/-- What layer 1's state buffer holds after a trip with 128 rows in play. -/
theorem trip_1_1 (e0 : ¬ loopInv.sl.v97 arg1 f1 k = 1#1) (hv : ∀ (r : Fin 128) (i : Fin 128), v49 (ix2 r i) = BitVec.ofNat 32 r.val) (i : Fin 256) (j : Fin 1024) :
    arg35.view.read (Elt Ideal) (arg35.view.writes (Elt Ideal) f35 [⟨Rect.unit (s := S256x1024) ![0, 0] S128x1024.size inb_S256x1024_S128x1024_0_0, k0_pay100 (loopInv.sl.r_22 c arg1 arg2 arg3 arg5 arg6 arg7 arg8 arg22 arg23 arg24 arg25 arg31 arg32 arg34 arg35 v48 v49 f1 f2 f3 f5 f6 f7 f8 f22 f23 f24 f25 k f34 f35) (loopInv.sl.r_26 arg3 f3 k) (loopInv.sl.v180 c arg1 arg2 arg3 arg5 arg6 arg7 arg8 arg22 arg23 arg24 arg25 arg31 arg32 arg34 arg35 v48 f1 f2 f3 f5 f6 f7 f8 f22 f23 f24 f25 k f34 f35)⟩]) (ix2 i j)
      = if i.val < 128 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h1 j else (rowSt arg34 arg35 arg36 f34 f35 f36 i).h1 j := by
  refine (read_top arg35.view f35 _ _ i j).trans ?_
  by_cases hi : i.val < 128
  · have hl : (View.readAt (Elt Ideal) arg3.view (Rect.unit (s := S256x1) ![0, 0] S128x1.size inb_S256x1_S128x1_0_0).toLoadRect f3) (ix2 (⟨i.val, hi⟩ : Fin 128) (0 : Fin 1)) = len arg3 f3 i := readAt_top arg3.view f3 _ (⟨i.val, hi⟩ : Fin 128) i.isLt 0
    rw [dif_pos hi]
    simp only [hi, true_and]
    unfold loopInv.sl.r_26
    refine (sel_1_1 _ _ _ _ (⟨i.val, hi⟩ : Fin 128) j).trans ?_
    rw [hl, step_word]
    exact congrArg₂ (fun a b : EReal => if (BitVec.ofNat 32 k.val).slt (len arg3 f3 i) = true then a else b) (nw_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv (⟨i.val, hi⟩ : Fin 128) j) (ld_1_1 c arg1 arg2 arg3 arg5 arg6 arg7 arg8 arg22 arg23 arg24 arg25 arg31 arg32 arg34 arg35 arg36 v48 f1 f2 f3 f5 f6 f7 f8 f22 f23 f24 f25 k f34 f35 f36 e0 (⟨i.val, hi⟩ : Fin 128) j)
  · rw [dif_neg hi, if_neg fun h => hi h.1]
    rfl

/-- What layer 2's state buffer holds after a trip with 128 rows in play. -/
theorem trip_1_2 (e0 : ¬ loopInv.sl.v97 arg1 f1 k = 1#1) (hv : ∀ (r : Fin 128) (i : Fin 128), v49 (ix2 r i) = BitVec.ofNat 32 r.val) (i : Fin 256) (j : Fin 2048) :
    arg36.view.read (Elt Ideal) (arg36.view.writes (Elt Ideal) f36 [⟨Rect.unit (s := S256x2048) ![0, 0] S128x2048.size inb_S256x2048_S128x2048_0_0, k0_pay101 (loopInv.sl.r_25 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36) (loopInv.sl.r_26 arg3 f3 k) (loopInv.sl.v231 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36)⟩]) (ix2 i j)
      = if i.val < 128 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h2 j else (rowSt arg34 arg35 arg36 f34 f35 f36 i).h2 j := by
  refine (read_top arg36.view f36 _ _ i j).trans ?_
  by_cases hi : i.val < 128
  · have hl : (View.readAt (Elt Ideal) arg3.view (Rect.unit (s := S256x1) ![0, 0] S128x1.size inb_S256x1_S128x1_0_0).toLoadRect f3) (ix2 (⟨i.val, hi⟩ : Fin 128) (0 : Fin 1)) = len arg3 f3 i := readAt_top arg3.view f3 _ (⟨i.val, hi⟩ : Fin 128) i.isLt 0
    rw [dif_pos hi]
    simp only [hi, true_and]
    unfold loopInv.sl.r_26
    refine (sel_1_2 _ _ _ _ (⟨i.val, hi⟩ : Fin 128) j).trans ?_
    rw [hl, step_word]
    exact congrArg₂ (fun a b : EReal => if (BitVec.ofNat 32 k.val).slt (len arg3 f3 i) = true then a else b) (nw_1_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv (⟨i.val, hi⟩ : Fin 128) j) (ld_1_2 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36 e0 (⟨i.val, hi⟩ : Fin 128) j)
  · rw [dif_neg hi, if_neg fun h => hi h.1]
    rfl

/-- A trip with 128 rows in play. -/
theorem trip_1 (e0 : ¬ loopInv.sl.v97 arg1 f1 k = 1#1) (hv : ∀ (r : Fin 128) (i : Fin 128), v49 (ix2 r i) = BitVec.ofNat 32 r.val)
    (g34 : arg34.view.ty.Contents (Elt Ideal)) (h34 : g34 = arg34.view.writes (Elt Ideal) f34 [⟨Rect.unit (s := S256x512) ![0, 0] S128x512.size inb_S256x512_S128x512_0_0, k0_pay47 (loopInv.sl.arg38 k) (loopInv.sl.r_19 c arg1 arg2 arg3 arg5 arg6 arg22 arg23 arg31 arg34 v48 v49 f1 f2 f3 f5 f6 f22 f23 k f34) (View.readAt (Elt Ideal) arg3.view (Rect.unit (s := S256x1) ![0, 0] S128x1.size inb_S256x1_S128x1_0_0).toLoadRect f3) (loopInv.sl.v129 c arg1 arg2 arg3 arg5 arg6 arg22 arg23 arg31 arg34 v48 f1 f2 f3 f5 f6 f22 f23 k f34)⟩]) (g35 : arg35.view.ty.Contents (Elt Ideal)) (h35 : g35 = arg35.view.writes (Elt Ideal) f35 [⟨Rect.unit (s := S256x1024) ![0, 0] S128x1024.size inb_S256x1024_S128x1024_0_0, k0_pay100 (loopInv.sl.r_22 c arg1 arg2 arg3 arg5 arg6 arg7 arg8 arg22 arg23 arg24 arg25 arg31 arg32 arg34 arg35 v48 v49 f1 f2 f3 f5 f6 f7 f8 f22 f23 f24 f25 k f34 f35) (loopInv.sl.r_26 arg3 f3 k) (loopInv.sl.v180 c arg1 arg2 arg3 arg5 arg6 arg7 arg8 arg22 arg23 arg24 arg25 arg31 arg32 arg34 arg35 v48 f1 f2 f3 f5 f6 f7 f8 f22 f23 f24 f25 k f34 f35)⟩]) (g36 : arg36.view.ty.Contents (Elt Ideal)) (h36 : g36 = arg36.view.writes (Elt Ideal) f36 [⟨Rect.unit (s := S256x2048) ![0, 0] S128x2048.size inb_S256x2048_S128x2048_0_0, k0_pay101 (loopInv.sl.r_25 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36) (loopInv.sl.r_26 arg3 f3 k) (loopInv.sl.v231 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36)⟩]) (i : Fin 256) :
    rowSt arg34 arg35 arg36 g34 g35 g36 i
      = if i.val < 128 ∧ (BitVec.ofNat 32 k.val).slt (len arg3 f3 i) = true then (net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i) else (rowSt arg34 arg35 arg36 f34 f35 f36 i) := by
  have s0 : ∀ j, (rowSt arg34 arg35 arg36 g34 g35 g36 i).h0 j = _ := fun j => (congrArg (fun z => arg34.view.read (Elt Ideal) z (ix2 i j)) h34).trans (trip_1_0 c arg1 arg2 arg3 arg5 arg6 arg7 arg8 arg9 arg10 arg22 arg23 arg24 arg25 arg26 arg27 arg31 arg34 arg35 arg36 v48 v49 f1 f2 f3 f5 f6 f7 f8 f9 f10 f22 f23 f24 f25 f26 f27 k f34 f35 f36 e0 hv i j)
  have s1 : ∀ j, (rowSt arg34 arg35 arg36 g34 g35 g36 i).h1 j = _ := fun j => (congrArg (fun z => arg35.view.read (Elt Ideal) z (ix2 i j)) h35).trans (trip_1_1 c arg1 arg2 arg3 arg5 arg6 arg7 arg8 arg9 arg10 arg22 arg23 arg24 arg25 arg26 arg27 arg31 arg32 arg34 arg35 arg36 v48 v49 f1 f2 f3 f5 f6 f7 f8 f9 f10 f22 f23 f24 f25 f26 f27 k f34 f35 f36 e0 hv i j)
  have s2 : ∀ j, (rowSt arg34 arg35 arg36 g34 g35 g36 i).h2 j = _ := fun j => (congrArg (fun z => arg36.view.read (Elt Ideal) z (ix2 i j)) h36).trans (trip_1_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv i j)
  by_cases ha : i.val < 128 ∧ (BitVec.ofNat 32 k.val).slt (len arg3 f3 i) = true
  · simp only [if_pos ha] at s0 s1 s2 ⊢
    exact St.ext (funext s0) (funext s1) (funext s2)
  · simp only [if_neg ha] at s0 s1 s2 ⊢
    exact St.ext (funext s0) (funext s1) (funext s2)

/-- What layer 0's state buffer holds after a trip with 192 rows in play. -/
theorem trip_2_0 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 256) (j : Fin 512) :
    arg34.view.read (Elt Ideal) (arg34.view.writes (Elt Ideal) f34 [⟨Rect.unit (s := S256x512) ![0, 0] S192x512.size inb_S256x512_S192x512_0_0, k0_pay70 (loopInv.sl.arg38 k) (loopInv.sl.r_30 c arg1 arg2 arg3 arg5 arg6 arg22 arg23 arg31 arg34 v48 v49 v50 f1 f2 f3 f5 f6 f22 f23 k f34) (View.readAt (Elt Ideal) arg3.view (Rect.unit (s := S256x1) ![0, 0] S192x1.size inb_S256x1_S192x1_0_0).toLoadRect f3) (loopInv.sl.v129_1 c arg1 arg2 arg3 arg5 arg6 arg22 arg23 arg31 arg34 v48 v49 f1 f2 f3 f5 f6 f22 f23 k f34)⟩]) (ix2 i j)
      = if i.val < 192 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h0 j else (rowSt arg34 arg35 arg36 f34 f35 f36 i).h0 j := by
  refine (read_top arg34.view f34 _ _ i j).trans ?_
  by_cases hi : i.val < 192
  · have hl : (View.readAt (Elt Ideal) arg3.view (Rect.unit (s := S256x1) ![0, 0] S192x1.size inb_S256x1_S192x1_0_0).toLoadRect f3) (ix2 (⟨i.val, hi⟩ : Fin 192) (0 : Fin 1)) = len arg3 f3 i := readAt_top arg3.view f3 _ (⟨i.val, hi⟩ : Fin 192) i.isLt 0
    rw [dif_pos hi]
    simp only [hi, true_and]
    refine (sel_2_0 _ _ _ _ (⟨i.val, hi⟩ : Fin 192) j).trans ?_
    rw [hl, step_word]
    exact congrArg₂ (fun a b : EReal => if (BitVec.ofNat 32 k.val).slt (len arg3 f3 i) = true then a else b) (nw_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv (⟨i.val, hi⟩ : Fin 192) j) (ld_2_0 c arg1 arg2 arg3 arg5 arg6 arg22 arg23 arg31 arg34 arg35 arg36 v48 v49 f1 f2 f3 f5 f6 f22 f23 k f34 f35 f36 e0 e1 (⟨i.val, hi⟩ : Fin 192) j)
  · rw [dif_neg hi, if_neg fun h => hi h.1]
    rfl

/-- What layer 1's state buffer holds after a trip with 192 rows in play. -/
theorem trip_2_1 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 256) (j : Fin 1024) :
    arg35.view.read (Elt Ideal) (arg35.view.writes (Elt Ideal) f35 [⟨Rect.unit (s := S256x1024) ![0, 0] S192x1024.size inb_S256x1024_S192x1024_0_0, k0_pay102 (loopInv.sl.r_33 c arg1 arg2 arg3 arg5 arg6 arg7 arg8 arg22 arg23 arg24 arg25 arg31 arg32 arg34 arg35 v48 v49 v50 f1 f2 f3 f5 f6 f7 f8 f22 f23 f24 f25 k f34 f35) (loopInv.sl.r_37 arg3 f3 k) (loopInv.sl.v180_1 c arg1 arg2 arg3 arg5 arg6 arg7 arg8 arg22 arg23 arg24 arg25 arg31 arg32 arg34 arg35 v48 v49 f1 f2 f3 f5 f6 f7 f8 f22 f23 f24 f25 k f34 f35)⟩]) (ix2 i j)
      = if i.val < 192 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h1 j else (rowSt arg34 arg35 arg36 f34 f35 f36 i).h1 j := by
  refine (read_top arg35.view f35 _ _ i j).trans ?_
  by_cases hi : i.val < 192
  · have hl : (View.readAt (Elt Ideal) arg3.view (Rect.unit (s := S256x1) ![0, 0] S192x1.size inb_S256x1_S192x1_0_0).toLoadRect f3) (ix2 (⟨i.val, hi⟩ : Fin 192) (0 : Fin 1)) = len arg3 f3 i := readAt_top arg3.view f3 _ (⟨i.val, hi⟩ : Fin 192) i.isLt 0
    rw [dif_pos hi]
    simp only [hi, true_and]
    unfold loopInv.sl.r_37
    refine (sel_2_1 _ _ _ _ (⟨i.val, hi⟩ : Fin 192) j).trans ?_
    rw [hl, step_word]
    exact congrArg₂ (fun a b : EReal => if (BitVec.ofNat 32 k.val).slt (len arg3 f3 i) = true then a else b) (nw_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv (⟨i.val, hi⟩ : Fin 192) j) (ld_2_1 c arg1 arg2 arg3 arg5 arg6 arg7 arg8 arg22 arg23 arg24 arg25 arg31 arg32 arg34 arg35 arg36 v48 v49 f1 f2 f3 f5 f6 f7 f8 f22 f23 f24 f25 k f34 f35 f36 e0 e1 (⟨i.val, hi⟩ : Fin 192) j)
  · rw [dif_neg hi, if_neg fun h => hi h.1]
    rfl

/-- What layer 2's state buffer holds after a trip with 192 rows in play. -/
theorem trip_2_2 (e0 : ¬ loopInv.sl.v97 arg1 f1 k = 1#1) (e1 : ¬ loopInv.sl.v104 arg1 f1 k = 1#1) (hv : ∀ (r : Fin 128) (i : Fin 192), v50 (ix2 r i) = BitVec.ofNat 32 r.val) (i : Fin 256) (j : Fin 2048) :
    arg36.view.read (Elt Ideal) (arg36.view.writes (Elt Ideal) f36 [⟨Rect.unit (s := S256x2048) ![0, 0] S192x2048.size inb_S256x2048_S192x2048_0_0, k0_pay103 (loopInv.sl.r_36 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36) (loopInv.sl.r_37 arg3 f3 k) (loopInv.sl.v231_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36)⟩]) (ix2 i j)
      = if i.val < 192 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h2 j else (rowSt arg34 arg35 arg36 f34 f35 f36 i).h2 j := by
  refine (read_top arg36.view f36 _ _ i j).trans ?_
  by_cases hi : i.val < 192
  · have hl : (View.readAt (Elt Ideal) arg3.view (Rect.unit (s := S256x1) ![0, 0] S192x1.size inb_S256x1_S192x1_0_0).toLoadRect f3) (ix2 (⟨i.val, hi⟩ : Fin 192) (0 : Fin 1)) = len arg3 f3 i := readAt_top arg3.view f3 _ (⟨i.val, hi⟩ : Fin 192) i.isLt 0
    rw [dif_pos hi]
    simp only [hi, true_and]
    unfold loopInv.sl.r_37
    refine (sel_2_2 _ _ _ _ (⟨i.val, hi⟩ : Fin 192) j).trans ?_
    rw [hl, step_word]
    exact congrArg₂ (fun a b : EReal => if (BitVec.ofNat 32 k.val).slt (len arg3 f3 i) = true then a else b) (nw_2_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv (⟨i.val, hi⟩ : Fin 192) j) (ld_2_2 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 e1 (⟨i.val, hi⟩ : Fin 192) j)
  · rw [dif_neg hi, if_neg fun h => hi h.1]
    rfl

/-- A trip with 192 rows in play. -/
theorem trip_2 (e0 : ¬ loopInv.sl.v97 arg1 f1 k = 1#1) (e1 : ¬ loopInv.sl.v104 arg1 f1 k = 1#1) (hv : ∀ (r : Fin 128) (i : Fin 192), v50 (ix2 r i) = BitVec.ofNat 32 r.val)
    (g34 : arg34.view.ty.Contents (Elt Ideal)) (h34 : g34 = arg34.view.writes (Elt Ideal) f34 [⟨Rect.unit (s := S256x512) ![0, 0] S192x512.size inb_S256x512_S192x512_0_0, k0_pay70 (loopInv.sl.arg38 k) (loopInv.sl.r_30 c arg1 arg2 arg3 arg5 arg6 arg22 arg23 arg31 arg34 v48 v49 v50 f1 f2 f3 f5 f6 f22 f23 k f34) (View.readAt (Elt Ideal) arg3.view (Rect.unit (s := S256x1) ![0, 0] S192x1.size inb_S256x1_S192x1_0_0).toLoadRect f3) (loopInv.sl.v129_1 c arg1 arg2 arg3 arg5 arg6 arg22 arg23 arg31 arg34 v48 v49 f1 f2 f3 f5 f6 f22 f23 k f34)⟩]) (g35 : arg35.view.ty.Contents (Elt Ideal)) (h35 : g35 = arg35.view.writes (Elt Ideal) f35 [⟨Rect.unit (s := S256x1024) ![0, 0] S192x1024.size inb_S256x1024_S192x1024_0_0, k0_pay102 (loopInv.sl.r_33 c arg1 arg2 arg3 arg5 arg6 arg7 arg8 arg22 arg23 arg24 arg25 arg31 arg32 arg34 arg35 v48 v49 v50 f1 f2 f3 f5 f6 f7 f8 f22 f23 f24 f25 k f34 f35) (loopInv.sl.r_37 arg3 f3 k) (loopInv.sl.v180_1 c arg1 arg2 arg3 arg5 arg6 arg7 arg8 arg22 arg23 arg24 arg25 arg31 arg32 arg34 arg35 v48 v49 f1 f2 f3 f5 f6 f7 f8 f22 f23 f24 f25 k f34 f35)⟩]) (g36 : arg36.view.ty.Contents (Elt Ideal)) (h36 : g36 = arg36.view.writes (Elt Ideal) f36 [⟨Rect.unit (s := S256x2048) ![0, 0] S192x2048.size inb_S256x2048_S192x2048_0_0, k0_pay103 (loopInv.sl.r_36 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36) (loopInv.sl.r_37 arg3 f3 k) (loopInv.sl.v231_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36)⟩]) (i : Fin 256) :
    rowSt arg34 arg35 arg36 g34 g35 g36 i
      = if i.val < 192 ∧ (BitVec.ofNat 32 k.val).slt (len arg3 f3 i) = true then (net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i) else (rowSt arg34 arg35 arg36 f34 f35 f36 i) := by
  have s0 : ∀ j, (rowSt arg34 arg35 arg36 g34 g35 g36 i).h0 j = _ := fun j => (congrArg (fun z => arg34.view.read (Elt Ideal) z (ix2 i j)) h34).trans (trip_2_0 c arg1 arg2 arg3 arg5 arg6 arg7 arg8 arg9 arg10 arg22 arg23 arg24 arg25 arg26 arg27 arg31 arg34 arg35 arg36 v48 v49 v50 f1 f2 f3 f5 f6 f7 f8 f9 f10 f22 f23 f24 f25 f26 f27 k f34 f35 f36 e0 e1 hv i j)
  have s1 : ∀ j, (rowSt arg34 arg35 arg36 g34 g35 g36 i).h1 j = _ := fun j => (congrArg (fun z => arg35.view.read (Elt Ideal) z (ix2 i j)) h35).trans (trip_2_1 c arg1 arg2 arg3 arg5 arg6 arg7 arg8 arg9 arg10 arg22 arg23 arg24 arg25 arg26 arg27 arg31 arg32 arg34 arg35 arg36 v48 v49 v50 f1 f2 f3 f5 f6 f7 f8 f9 f10 f22 f23 f24 f25 f26 f27 k f34 f35 f36 e0 e1 hv i j)
  have s2 : ∀ j, (rowSt arg34 arg35 arg36 g34 g35 g36 i).h2 j = _ := fun j => (congrArg (fun z => arg36.view.read (Elt Ideal) z (ix2 i j)) h36).trans (trip_2_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv i j)
  by_cases ha : i.val < 192 ∧ (BitVec.ofNat 32 k.val).slt (len arg3 f3 i) = true
  · simp only [if_pos ha] at s0 s1 s2 ⊢
    exact St.ext (funext s0) (funext s1) (funext s2)
  · simp only [if_neg ha] at s0 s1 s2 ⊢
    exact St.ext (funext s0) (funext s1) (funext s2)

/-- What layer 0's state buffer holds after a trip with 256 rows in play. -/
theorem trip_3_0 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 512) :
    arg34.view.read (Elt Ideal) (arg34.view.writes (Elt Ideal) f34 [⟨Rect.unit (s := S256x512) ![0, 0] S256x512.size inb_S256x512_S256x512_0_0, k0_pay93 (loopInv.sl.arg38 k) (loopInv.sl.r_40 c arg1 arg2 arg3 arg5 arg6 arg22 arg23 arg31 arg34 v48 v49 v50 v51 f1 f2 f3 f5 f6 f22 f23 k f34) (View.readAt (Elt Ideal) arg3.view (Rect.unit (s := S256x1) ![0, 0] S256x1.size inb_S256x1_S256x1_0_0).toLoadRect f3) (loopInv.sl.v128 c arg1 arg2 arg3 arg5 arg6 arg22 arg23 arg31 arg34 v48 v49 v50 f1 f2 f3 f5 f6 f22 f23 k f34)⟩]) (ix2 i j)
      = if i.val < 256 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h0 j else (rowSt arg34 arg35 arg36 f34 f35 f36 i).h0 j := by
  refine (read_top arg34.view f34 _ _ i j).trans ?_
  by_cases hi : i.val < 256
  · have hl : (View.readAt (Elt Ideal) arg3.view (Rect.unit (s := S256x1) ![0, 0] S256x1.size inb_S256x1_S256x1_0_0).toLoadRect f3) (ix2 (⟨i.val, hi⟩ : Fin 256) (0 : Fin 1)) = len arg3 f3 i := readAt_top arg3.view f3 _ (⟨i.val, hi⟩ : Fin 256) i.isLt 0
    rw [dif_pos hi]
    simp only [hi, true_and]
    refine (sel_3_0 _ _ _ _ (⟨i.val, hi⟩ : Fin 256) j).trans ?_
    rw [hl, step_word]
    exact congrArg₂ (fun a b : EReal => if (BitVec.ofNat 32 k.val).slt (len arg3 f3 i) = true then a else b) (nw_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv (⟨i.val, hi⟩ : Fin 256) j) (ld_3_0 c arg1 arg2 arg3 arg5 arg6 arg22 arg23 arg31 arg34 arg35 arg36 v48 v49 v50 f1 f2 f3 f5 f6 f22 f23 k f34 f35 f36 e0 e1 e2 (⟨i.val, hi⟩ : Fin 256) j)
  · rw [dif_neg hi, if_neg fun h => hi h.1]
    rfl

/-- What layer 1's state buffer holds after a trip with 256 rows in play. -/
theorem trip_3_1 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 1024) :
    arg35.view.read (Elt Ideal) (arg35.view.writes (Elt Ideal) f35 [⟨Rect.unit (s := S256x1024) ![0, 0] S256x1024.size inb_S256x1024_S256x1024_0_0, k0_pay104 (loopInv.sl.r_44 c arg1 arg2 arg3 arg5 arg6 arg7 arg8 arg22 arg23 arg24 arg25 arg31 arg32 arg34 arg35 v48 v49 v50 v51 f1 f2 f3 f5 f6 f7 f8 f22 f23 f24 f25 k f34 f35) (loopInv.sl.r_48 arg3 f3 k) (loopInv.sl.v179 c arg1 arg2 arg3 arg5 arg6 arg7 arg8 arg22 arg23 arg24 arg25 arg31 arg32 arg34 arg35 v48 v49 v50 f1 f2 f3 f5 f6 f7 f8 f22 f23 f24 f25 k f34 f35)⟩]) (ix2 i j)
      = if i.val < 256 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h1 j else (rowSt arg34 arg35 arg36 f34 f35 f36 i).h1 j := by
  refine (read_top arg35.view f35 _ _ i j).trans ?_
  by_cases hi : i.val < 256
  · have hl : (View.readAt (Elt Ideal) arg3.view (Rect.unit (s := S256x1) ![0, 0] S256x1.size inb_S256x1_S256x1_0_0).toLoadRect f3) (ix2 (⟨i.val, hi⟩ : Fin 256) (0 : Fin 1)) = len arg3 f3 i := readAt_top arg3.view f3 _ (⟨i.val, hi⟩ : Fin 256) i.isLt 0
    rw [dif_pos hi]
    simp only [hi, true_and]
    unfold loopInv.sl.r_48
    refine (sel_3_1 _ _ _ _ (⟨i.val, hi⟩ : Fin 256) j).trans ?_
    rw [hl, step_word]
    exact congrArg₂ (fun a b : EReal => if (BitVec.ofNat 32 k.val).slt (len arg3 f3 i) = true then a else b) (nw_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv (⟨i.val, hi⟩ : Fin 256) j) (ld_3_1 c arg1 arg2 arg3 arg5 arg6 arg7 arg8 arg22 arg23 arg24 arg25 arg31 arg32 arg34 arg35 arg36 v48 v49 v50 f1 f2 f3 f5 f6 f7 f8 f22 f23 f24 f25 k f34 f35 f36 e0 e1 e2 (⟨i.val, hi⟩ : Fin 256) j)
  · rw [dif_neg hi, if_neg fun h => hi h.1]
    rfl

/-- What layer 2's state buffer holds after a trip with 256 rows in play. -/
theorem trip_3_2 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val) (i : Fin 256) (j : Fin 2048) :
    arg36.view.read (Elt Ideal) (arg36.view.writes (Elt Ideal) f36 [⟨Rect.unit (s := S256x2048) ![0, 0] S256x2048.size inb_S256x2048_S256x2048_0_0, k0_pay105 (loopInv.sl.r_47 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36) (loopInv.sl.r_48 arg3 f3 k) (loopInv.sl.v230 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36)⟩]) (ix2 i j)
      = if i.val < 256 ∧ (BitVec.ofNat 32 k.val).slt (len arg3 f3 i) = true then ((net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)).h2 j else (rowSt arg34 arg35 arg36 f34 f35 f36 i).h2 j := by
  refine (read_top arg36.view f36 _ _ i j).trans ?_
  by_cases hi : i.val < 256
  · have hl : (View.readAt (Elt Ideal) arg3.view (Rect.unit (s := S256x1) ![0, 0] S256x1.size inb_S256x1_S256x1_0_0).toLoadRect f3) (ix2 (⟨i.val, hi⟩ : Fin 256) (0 : Fin 1)) = len arg3 f3 i := readAt_top arg3.view f3 _ (⟨i.val, hi⟩ : Fin 256) i.isLt 0
    rw [dif_pos hi]
    simp only [hi, true_and]
    unfold loopInv.sl.r_48
    refine (sel_3_2 _ _ _ _ (⟨i.val, hi⟩ : Fin 256) j).trans ?_
    rw [hl, step_word]
    exact congrArg₂ (fun a b : EReal => if (BitVec.ofNat 32 k.val).slt (len arg3 f3 i) = true then a else b) (nw_3_2 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv (⟨i.val, hi⟩ : Fin 256) j) (ld_3_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 e2 (⟨i.val, hi⟩ : Fin 256) j)
  · rw [dif_neg hi, if_neg fun h => hi h.1]
    rfl

/-- A trip with 256 rows in play. -/
theorem trip_3 (e0 : ¬ loopInv.sl.v97 arg1 f1 k = 1#1) (e1 : ¬ loopInv.sl.v104 arg1 f1 k = 1#1) (e2 : ¬ loopInv.sl.v111 arg1 f1 k = 1#1) (hv : ∀ (r : Fin 128) (i : Fin 256), v51 (ix2 r i) = BitVec.ofNat 32 r.val)
    (g34 : arg34.view.ty.Contents (Elt Ideal)) (h34 : g34 = arg34.view.writes (Elt Ideal) f34 [⟨Rect.unit (s := S256x512) ![0, 0] S256x512.size inb_S256x512_S256x512_0_0, k0_pay93 (loopInv.sl.arg38 k) (loopInv.sl.r_40 c arg1 arg2 arg3 arg5 arg6 arg22 arg23 arg31 arg34 v48 v49 v50 v51 f1 f2 f3 f5 f6 f22 f23 k f34) (View.readAt (Elt Ideal) arg3.view (Rect.unit (s := S256x1) ![0, 0] S256x1.size inb_S256x1_S256x1_0_0).toLoadRect f3) (loopInv.sl.v128 c arg1 arg2 arg3 arg5 arg6 arg22 arg23 arg31 arg34 v48 v49 v50 f1 f2 f3 f5 f6 f22 f23 k f34)⟩]) (g35 : arg35.view.ty.Contents (Elt Ideal)) (h35 : g35 = arg35.view.writes (Elt Ideal) f35 [⟨Rect.unit (s := S256x1024) ![0, 0] S256x1024.size inb_S256x1024_S256x1024_0_0, k0_pay104 (loopInv.sl.r_44 c arg1 arg2 arg3 arg5 arg6 arg7 arg8 arg22 arg23 arg24 arg25 arg31 arg32 arg34 arg35 v48 v49 v50 v51 f1 f2 f3 f5 f6 f7 f8 f22 f23 f24 f25 k f34 f35) (loopInv.sl.r_48 arg3 f3 k) (loopInv.sl.v179 c arg1 arg2 arg3 arg5 arg6 arg7 arg8 arg22 arg23 arg24 arg25 arg31 arg32 arg34 arg35 v48 v49 v50 f1 f2 f3 f5 f6 f7 f8 f22 f23 f24 f25 k f34 f35)⟩]) (g36 : arg36.view.ty.Contents (Elt Ideal)) (h36 : g36 = arg36.view.writes (Elt Ideal) f36 [⟨Rect.unit (s := S256x2048) ![0, 0] S256x2048.size inb_S256x2048_S256x2048_0_0, k0_pay105 (loopInv.sl.r_47 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36) (loopInv.sl.r_48 arg3 f3 k) (loopInv.sl.v230 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36)⟩]) (i : Fin 256) :
    rowSt arg34 arg35 arg36 g34 g35 g36 i
      = if i.val < 256 ∧ (BitVec.ofNat 32 k.val).slt (len arg3 f3 i) = true then (net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i) else (rowSt arg34 arg35 arg36 f34 f35 f36 i) := by
  have s0 : ∀ j, (rowSt arg34 arg35 arg36 g34 g35 g36 i).h0 j = _ := fun j => (congrArg (fun z => arg34.view.read (Elt Ideal) z (ix2 i j)) h34).trans (trip_3_0 c arg1 arg2 arg3 arg5 arg6 arg7 arg8 arg9 arg10 arg22 arg23 arg24 arg25 arg26 arg27 arg31 arg34 arg35 arg36 v48 v49 v50 v51 f1 f2 f3 f5 f6 f7 f8 f9 f10 f22 f23 f24 f25 f26 f27 k f34 f35 f36 e0 e1 e2 hv i j)
  have s1 : ∀ j, (rowSt arg34 arg35 arg36 g34 g35 g36 i).h1 j = _ := fun j => (congrArg (fun z => arg35.view.read (Elt Ideal) z (ix2 i j)) h35).trans (trip_3_1 c arg1 arg2 arg3 arg5 arg6 arg7 arg8 arg9 arg10 arg22 arg23 arg24 arg25 arg26 arg27 arg31 arg32 arg34 arg35 arg36 v48 v49 v50 v51 f1 f2 f3 f5 f6 f7 f8 f9 f10 f22 f23 f24 f25 f26 f27 k f34 f35 f36 e0 e1 e2 hv i j)
  have s2 : ∀ j, (rowSt arg34 arg35 arg36 g34 g35 g36 i).h2 j = _ := fun j => (congrArg (fun z => arg36.view.read (Elt Ideal) z (ix2 i j)) h36).trans (trip_3_2 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv i j)
  by_cases ha : i.val < 256 ∧ (BitVec.ofNat 32 k.val).slt (len arg3 f3 i) = true
  · simp only [if_pos ha] at s0 s1 s2 ⊢
    exact St.ext (funext s0) (funext s1) (funext s2)
  · simp only [if_neg ha] at s0 s1 s2 ⊢
    exact St.ext (funext s0) (funext s1) (funext s2)

/-- The whole trip: each row takes one step of the network while the step is below its length. -/
theorem trip (hv0 : ∀ (r : Fin 128) (i : Fin 64), v48 (ix2 r i) = BitVec.ofNat 32 r.val) (hv1 : ∀ (r : Fin 128) (i : Fin 128), v49 (ix2 r i) = BitVec.ofNat 32 r.val) (hv2 : ∀ (r : Fin 128) (i : Fin 192), v50 (ix2 r i) = BitVec.ofNat 32 r.val) (hv3 : ∀ (r : Fin 128) (i : Fin 256), v51 (ix2 r i) = BitVec.ofNat 32 r.val) (hf : Falling arg1 arg3 f1 f3)
    (g34_0 : arg34.view.ty.Contents (Elt Ideal)) (h34_0 : g34_0 = if hc : loopInv.sl.v97 arg1 f1 k = 1#1 then arg34.view.writes (Elt Ideal) f34 [⟨Rect.unit (s := S256x512) ![0, 0] S64x512.size inb_S256x512_S64x512_0_0, k0_pay24 (loopInv.sl.arg38 k) (loopInv.sl.r_5 c arg2 arg5 arg6 arg22 arg23 arg31 arg34 v48 f2 f5 f6 f22 f23 k f34) (View.readAt (Elt Ideal) arg3.view (Rect.unit (s := S256x1) ![0, 0] S64x1.size inb_S256x1_S64x1_0_0).toLoadRect f3) (View.readAt (Elt Ideal) arg34.view (Rect.unit (s := S256x512) ![0, 0] S64x512.size inb_S256x512_S64x512_0_0).toLoadRect f34)⟩] else f34)
    (g35_0 : arg35.view.ty.Contents (Elt Ideal)) (h35_0 : g35_0 = if hc : loopInv.sl.v97 arg1 f1 k = 1#1 then arg35.view.writes (Elt Ideal) f35 [⟨Rect.unit (s := S256x1024) ![0, 0] S64x1024.size inb_S256x1024_S64x1024_0_0, k0_pay98 (loopInv.sl.r_10 c arg2 arg5 arg6 arg7 arg8 arg22 arg23 arg24 arg25 arg31 arg32 arg34 arg35 v48 f2 f5 f6 f7 f8 f22 f23 f24 f25 k f34 f35) (loopInv.sl.r_15 arg3 f3 k) (View.readAt (Elt Ideal) arg35.view (Rect.unit (s := S256x1024) ![0, 0] S64x1024.size inb_S256x1024_S64x1024_0_0).toLoadRect f35)⟩] else f35)
    (g36_0 : arg36.view.ty.Contents (Elt Ideal)) (h36_0 : g36_0 = if hc : loopInv.sl.v97 arg1 f1 k = 1#1 then arg36.view.writes (Elt Ideal) f36 [⟨Rect.unit (s := S256x2048) ![0, 0] S64x2048.size inb_S256x2048_S64x2048_0_0, k0_pay99 (loopInv.sl.r_14 c arg2 arg5 arg6 arg7 arg8 arg9 arg10 arg22 arg23 arg24 arg25 arg26 arg27 arg31 arg32 arg33 arg34 arg35 arg36 v48 f2 f5 f6 f7 f8 f9 f10 f22 f23 f24 f25 f26 f27 k f34 f35 f36) (loopInv.sl.r_15 arg3 f3 k) (View.readAt (Elt Ideal) arg36.view (Rect.unit (s := S256x2048) ![0, 0] S64x2048.size inb_S256x2048_S64x2048_0_0).toLoadRect f36)⟩] else f36)
    (g34_1 : arg34.view.ty.Contents (Elt Ideal)) (h34_1 : g34_1 = if hc : loopInv.sl.v104 arg1 f1 k = 1#1 then arg34.view.writes (Elt Ideal) g34_0 [⟨Rect.unit (s := S256x512) ![0, 0] S128x512.size inb_S256x512_S128x512_0_0, k0_pay47 (loopInv.sl.arg38 k) (loopInv.sl.r_19 c arg1 arg2 arg3 arg5 arg6 arg22 arg23 arg31 arg34 v48 v49 f1 f2 f3 f5 f6 f22 f23 k f34) (View.readAt (Elt Ideal) arg3.view (Rect.unit (s := S256x1) ![0, 0] S128x1.size inb_S256x1_S128x1_0_0).toLoadRect f3) (loopInv.sl.v129 c arg1 arg2 arg3 arg5 arg6 arg22 arg23 arg31 arg34 v48 f1 f2 f3 f5 f6 f22 f23 k f34)⟩] else g34_0)
    (g35_1 : arg35.view.ty.Contents (Elt Ideal)) (h35_1 : g35_1 = if hc : loopInv.sl.v104 arg1 f1 k = 1#1 then arg35.view.writes (Elt Ideal) g35_0 [⟨Rect.unit (s := S256x1024) ![0, 0] S128x1024.size inb_S256x1024_S128x1024_0_0, k0_pay100 (loopInv.sl.r_22 c arg1 arg2 arg3 arg5 arg6 arg7 arg8 arg22 arg23 arg24 arg25 arg31 arg32 arg34 arg35 v48 v49 f1 f2 f3 f5 f6 f7 f8 f22 f23 f24 f25 k f34 f35) (loopInv.sl.r_26 arg3 f3 k) (loopInv.sl.v180 c arg1 arg2 arg3 arg5 arg6 arg7 arg8 arg22 arg23 arg24 arg25 arg31 arg32 arg34 arg35 v48 f1 f2 f3 f5 f6 f7 f8 f22 f23 f24 f25 k f34 f35)⟩] else g35_0)
    (g36_1 : arg36.view.ty.Contents (Elt Ideal)) (h36_1 : g36_1 = if hc : loopInv.sl.v104 arg1 f1 k = 1#1 then arg36.view.writes (Elt Ideal) g36_0 [⟨Rect.unit (s := S256x2048) ![0, 0] S128x2048.size inb_S256x2048_S128x2048_0_0, k0_pay101 (loopInv.sl.r_25 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36) (loopInv.sl.r_26 arg3 f3 k) (loopInv.sl.v231 c arg1 arg2 arg3 arg5 arg6 arg7 arg8 arg9 arg10 arg22 arg23 arg24 arg25 arg26 arg27 arg31 arg32 arg33 arg34 arg35 arg36 v48 f1 f2 f3 f5 f6 f7 f8 f9 f10 f22 f23 f24 f25 f26 f27 k f34 f35 f36)⟩] else g36_0)
    (g34_2 : arg34.view.ty.Contents (Elt Ideal)) (h34_2 : g34_2 = if hc : loopInv.sl.v111 arg1 f1 k = 1#1 then arg34.view.writes (Elt Ideal) g34_1 [⟨Rect.unit (s := S256x512) ![0, 0] S192x512.size inb_S256x512_S192x512_0_0, k0_pay70 (loopInv.sl.arg38 k) (loopInv.sl.r_30 c arg1 arg2 arg3 arg5 arg6 arg22 arg23 arg31 arg34 v48 v49 v50 f1 f2 f3 f5 f6 f22 f23 k f34) (View.readAt (Elt Ideal) arg3.view (Rect.unit (s := S256x1) ![0, 0] S192x1.size inb_S256x1_S192x1_0_0).toLoadRect f3) (loopInv.sl.v129_1 c arg1 arg2 arg3 arg5 arg6 arg22 arg23 arg31 arg34 v48 v49 f1 f2 f3 f5 f6 f22 f23 k f34)⟩] else g34_1)
    (g35_2 : arg35.view.ty.Contents (Elt Ideal)) (h35_2 : g35_2 = if hc : loopInv.sl.v111 arg1 f1 k = 1#1 then arg35.view.writes (Elt Ideal) g35_1 [⟨Rect.unit (s := S256x1024) ![0, 0] S192x1024.size inb_S256x1024_S192x1024_0_0, k0_pay102 (loopInv.sl.r_33 c arg1 arg2 arg3 arg5 arg6 arg7 arg8 arg22 arg23 arg24 arg25 arg31 arg32 arg34 arg35 v48 v49 v50 f1 f2 f3 f5 f6 f7 f8 f22 f23 f24 f25 k f34 f35) (loopInv.sl.r_37 arg3 f3 k) (loopInv.sl.v180_1 c arg1 arg2 arg3 arg5 arg6 arg7 arg8 arg22 arg23 arg24 arg25 arg31 arg32 arg34 arg35 v48 v49 f1 f2 f3 f5 f6 f7 f8 f22 f23 f24 f25 k f34 f35)⟩] else g35_1)
    (g36_2 : arg36.view.ty.Contents (Elt Ideal)) (h36_2 : g36_2 = if hc : loopInv.sl.v111 arg1 f1 k = 1#1 then arg36.view.writes (Elt Ideal) g36_1 [⟨Rect.unit (s := S256x2048) ![0, 0] S192x2048.size inb_S256x2048_S192x2048_0_0, k0_pay103 (loopInv.sl.r_36 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36) (loopInv.sl.r_37 arg3 f3 k) (loopInv.sl.v231_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36)⟩] else g36_1)
    (g34_3 : arg34.view.ty.Contents (Elt Ideal)) (h34_3 : g34_3 = if hc : loopInv.sl.v116 arg1 f1 k = 1#1 then arg34.view.writes (Elt Ideal) g34_2 [⟨Rect.unit (s := S256x512) ![0, 0] S256x512.size inb_S256x512_S256x512_0_0, k0_pay93 (loopInv.sl.arg38 k) (loopInv.sl.r_40 c arg1 arg2 arg3 arg5 arg6 arg22 arg23 arg31 arg34 v48 v49 v50 v51 f1 f2 f3 f5 f6 f22 f23 k f34) (View.readAt (Elt Ideal) arg3.view (Rect.unit (s := S256x1) ![0, 0] S256x1.size inb_S256x1_S256x1_0_0).toLoadRect f3) (loopInv.sl.v128 c arg1 arg2 arg3 arg5 arg6 arg22 arg23 arg31 arg34 v48 v49 v50 f1 f2 f3 f5 f6 f22 f23 k f34)⟩] else g34_2)
    (g35_3 : arg35.view.ty.Contents (Elt Ideal)) (h35_3 : g35_3 = if hc : loopInv.sl.v116 arg1 f1 k = 1#1 then arg35.view.writes (Elt Ideal) g35_2 [⟨Rect.unit (s := S256x1024) ![0, 0] S256x1024.size inb_S256x1024_S256x1024_0_0, k0_pay104 (loopInv.sl.r_44 c arg1 arg2 arg3 arg5 arg6 arg7 arg8 arg22 arg23 arg24 arg25 arg31 arg32 arg34 arg35 v48 v49 v50 v51 f1 f2 f3 f5 f6 f7 f8 f22 f23 f24 f25 k f34 f35) (loopInv.sl.r_48 arg3 f3 k) (loopInv.sl.v179 c arg1 arg2 arg3 arg5 arg6 arg7 arg8 arg22 arg23 arg24 arg25 arg31 arg32 arg34 arg35 v48 v49 v50 f1 f2 f3 f5 f6 f7 f8 f22 f23 f24 f25 k f34 f35)⟩] else g35_2)
    (g36_3 : arg36.view.ty.Contents (Elt Ideal)) (h36_3 : g36_3 = if hc : loopInv.sl.v116 arg1 f1 k = 1#1 then arg36.view.writes (Elt Ideal) g36_2 [⟨Rect.unit (s := S256x2048) ![0, 0] S256x2048.size inb_S256x2048_S256x2048_0_0, k0_pay105 (loopInv.sl.r_47 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36) (loopInv.sl.r_48 arg3 f3 k) (loopInv.sl.v230 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36)⟩] else g36_2)
    (i : Fin 256) :
    rowSt arg34 arg35 arg36 g34_3 g35_3 g36_3 i
      = if (BitVec.ofNat 32 k.val).slt (len arg3 f3 i) = true then (net arg5 arg6 arg7 arg8 arg9 arg10 arg22 arg23 arg24 arg25 arg26 arg27 f5 f6 f7 f8 f9 f10 f22 f23 f24 f25 f26 f27).next (onehot (tok arg2 f2 i k.val)) (rowSt arg34 arg35 arg36 f34 f35 f36 i)
        else rowSt arg34 arg35 arg36 f34 f35 f36 i := by
  have hs : (BitVec.ofNat 32 k.val).slt (len arg3 f3 i) = true ↔ (BitVec.ofNat 32 k.val).toInt < (len arg3 f3 i).toInt := by
    rw [BitVec.slt_eq_decide, decide_eq_true_iff]
  have d01 := hf.down 0 1 (by decide)
  have d12 := hf.down 1 2 (by decide)
  have d23 := hf.down 2 3 (by decide)
  have b0 := hf.below 0 i (Nat.zero_le _)
  have b1 := hf.below 1 i
  have b2 := hf.below 2 i
  have b3 := hf.below 3 i
  have c0 := guard_0 arg1 f1 k
  have c1 := guard_1 arg1 f1 k
  have c2 := guard_2 arg1 f1 k
  have c3 := guard_3 arg1 f1 k
  by_cases e0 : loopInv.sl.v97 arg1 f1 k = 1#1
  · have e1 : ¬ loopInv.sl.v104 arg1 f1 k = 1#1 := fun h => by have := c0.mp e0; have := c1.mp h; omega
    have e2 : ¬ loopInv.sl.v111 arg1 f1 k = 1#1 := fun h => by have := c0.mp e0; have := c2.mp h; omega
    have e3 : ¬ loopInv.sl.v116 arg1 f1 k = 1#1 := fun h => by have := c0.mp e0; have := c3.mp h; omega
    refine (trip_0 c arg2 arg3 arg5 arg6 arg7 arg8 arg9 arg10 arg22 arg23 arg24 arg25 arg26 arg27 arg31 arg32 arg33 arg34 arg35 arg36 v48 f2 f3 f5 f6 f7 f8 f9 f10 f22 f23 f24 f25 f26 f27 k f34 f35 f36  hv0 _ ((h34_3.trans (dif_neg e3)).trans ((h34_2.trans (dif_neg e2)).trans ((h34_1.trans (dif_neg e1)).trans (h34_0.trans (dif_pos e0))))) _ ((h35_3.trans (dif_neg e3)).trans ((h35_2.trans (dif_neg e2)).trans ((h35_1.trans (dif_neg e1)).trans (h35_0.trans (dif_pos e0))))) _ ((h36_3.trans (dif_neg e3)).trans ((h36_2.trans (dif_neg e2)).trans ((h36_1.trans (dif_neg e1)).trans (h36_0.trans (dif_pos e0))))) i).trans ?_
    by_cases hi : i.val < 64
    · simp only [hi, true_and]
    · rw [if_neg fun h => hi h.1, if_neg]
      intro h
      have := hs.mp h
      have := c0.mp e0
      have := b1 (by show 64 * 1 ≤ i.val; omega)
      omega
  by_cases e1 : loopInv.sl.v104 arg1 f1 k = 1#1
  · have e2 : ¬ loopInv.sl.v111 arg1 f1 k = 1#1 := fun h => by have := c1.mp e1; have := c2.mp h; omega
    have e3 : ¬ loopInv.sl.v116 arg1 f1 k = 1#1 := fun h => by have := c1.mp e1; have := c3.mp h; omega
    refine (trip_1 c arg1 arg2 arg3 arg5 arg6 arg7 arg8 arg9 arg10 arg22 arg23 arg24 arg25 arg26 arg27 arg31 arg32 arg33 arg34 arg35 arg36 v48 v49 f1 f2 f3 f5 f6 f7 f8 f9 f10 f22 f23 f24 f25 f26 f27 k f34 f35 f36 e0 hv1 _ ((h34_3.trans (dif_neg e3)).trans ((h34_2.trans (dif_neg e2)).trans ((h34_1.trans (dif_pos e1)).trans (congrArg (fun z => arg34.view.writes (Elt Ideal) z _) (h34_0.trans (dif_neg e0)))))) _ ((h35_3.trans (dif_neg e3)).trans ((h35_2.trans (dif_neg e2)).trans ((h35_1.trans (dif_pos e1)).trans (congrArg (fun z => arg35.view.writes (Elt Ideal) z _) (h35_0.trans (dif_neg e0)))))) _ ((h36_3.trans (dif_neg e3)).trans ((h36_2.trans (dif_neg e2)).trans ((h36_1.trans (dif_pos e1)).trans (congrArg (fun z => arg36.view.writes (Elt Ideal) z _) (h36_0.trans (dif_neg e0)))))) i).trans ?_
    by_cases hi : i.val < 128
    · simp only [hi, true_and]
    · rw [if_neg fun h => hi h.1, if_neg]
      intro h
      have := hs.mp h
      have := c1.mp e1
      have := b2 (by show 64 * 2 ≤ i.val; omega)
      omega
  by_cases e2 : loopInv.sl.v111 arg1 f1 k = 1#1
  · have e3 : ¬ loopInv.sl.v116 arg1 f1 k = 1#1 := fun h => by have := c2.mp e2; have := c3.mp h; omega
    refine (trip_2 c arg1 arg2 arg3 arg5 arg6 arg7 arg8 arg9 arg10 arg22 arg23 arg24 arg25 arg26 arg27 arg31 arg32 arg33 arg34 arg35 arg36 v48 v49 v50 f1 f2 f3 f5 f6 f7 f8 f9 f10 f22 f23 f24 f25 f26 f27 k f34 f35 f36 e0 e1 hv2 _ ((h34_3.trans (dif_neg e3)).trans ((h34_2.trans (dif_pos e2)).trans (congrArg (fun z => arg34.view.writes (Elt Ideal) z _) ((h34_1.trans (dif_neg e1)).trans (h34_0.trans (dif_neg e0)))))) _ ((h35_3.trans (dif_neg e3)).trans ((h35_2.trans (dif_pos e2)).trans (congrArg (fun z => arg35.view.writes (Elt Ideal) z _) ((h35_1.trans (dif_neg e1)).trans (h35_0.trans (dif_neg e0)))))) _ ((h36_3.trans (dif_neg e3)).trans ((h36_2.trans (dif_pos e2)).trans (congrArg (fun z => arg36.view.writes (Elt Ideal) z _) ((h36_1.trans (dif_neg e1)).trans (h36_0.trans (dif_neg e0)))))) i).trans ?_
    by_cases hi : i.val < 192
    · simp only [hi, true_and]
    · rw [if_neg fun h => hi h.1, if_neg]
      intro h
      have := hs.mp h
      have := c2.mp e2
      have := b3 (by show 64 * 3 ≤ i.val; omega)
      omega
  by_cases e3 : loopInv.sl.v116 arg1 f1 k = 1#1
  · refine (trip_3 c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 e0 e1 e2 hv3 _ ((h34_3.trans (dif_pos e3)).trans (congrArg (fun z => arg34.view.writes (Elt Ideal) z _) ((h34_2.trans (dif_neg e2)).trans ((h34_1.trans (dif_neg e1)).trans (h34_0.trans (dif_neg e0)))))) _ ((h35_3.trans (dif_pos e3)).trans (congrArg (fun z => arg35.view.writes (Elt Ideal) z _) ((h35_2.trans (dif_neg e2)).trans ((h35_1.trans (dif_neg e1)).trans (h35_0.trans (dif_neg e0)))))) _ ((h36_3.trans (dif_pos e3)).trans (congrArg (fun z => arg36.view.writes (Elt Ideal) z _) ((h36_2.trans (dif_neg e2)).trans ((h36_1.trans (dif_neg e1)).trans (h36_0.trans (dif_neg e0)))))) i).trans ?_
    simp only [i.isLt, true_and]
  · rw [((h34_3.trans (dif_neg e3)).trans ((h34_2.trans (dif_neg e2)).trans ((h34_1.trans (dif_neg e1)).trans (h34_0.trans (dif_neg e0))))), ((h35_3.trans (dif_neg e3)).trans ((h35_2.trans (dif_neg e2)).trans ((h35_1.trans (dif_neg e1)).trans (h35_0.trans (dif_neg e0))))), ((h36_3.trans (dif_neg e3)).trans ((h36_2.trans (dif_neg e2)).trans ((h36_1.trans (dif_neg e1)).trans (h36_0.trans (dif_neg e0)))))]
    rw [if_neg]
    intro h
    have := hs.mp h
    have n0 := mt c0.mpr e0
    have n1 := mt c1.mpr e1
    have n2 := mt c2.mpr e2
    have n3 := mt c3.mpr e3
    omega

end Cert.Proof.KernelIdeal

end
-- ==== Proof.KernelIdealLoopValue.lean ====
/-
  The time loop, with the state it leaves: after `k` trips every row holds the network's state after `k` steps.
-/
module

public import proofs.«01_k».proof.Proof.KernelIdealTrip

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Gru

/-- The proof's user algebra: the pipeline library's beside the transfers' counters. -/
local notation "𝕄" => MT nD τ sig Unit (Elt Ideal) ℕ (Pipeline.UD sig nD τ) ℕ

/-- The four row-number blocks hold their row numbers. -/
structure RowNumbers (v48 : IVec S128x64 32) (v49 : IVec S128x128 32) (v50 : IVec S128x192 32) (v51 : IVec S128x256 32) : Prop where
  r0 : ∀ (r : Fin 128) (i : Fin 64), v48 (ix2 r i) = BitVec.ofNat 32 r.val
  r1 : ∀ (r : Fin 128) (i : Fin 128), v49 (ix2 r i) = BitVec.ofNat 32 r.val
  r2 : ∀ (r : Fin 128) (i : Fin 192), v50 (ix2 r i) = BitVec.ofNat 32 r.val
  r3 : ∀ (r : Fin 128) (i : Fin 256), v51 (ix2 r i) = BitVec.ofNat 32 r.val

/-- After `t` trips every row of the state buffers holds the network's state after `t` steps. -/
structure StateAt (arg1 : Memref sig .tc .smem S4x1 .i32) (arg2 : Memref sig .tc .vmem S128x1x256 .i32) (arg3 : Memref sig .tc .vmem S256x1 .i32) (arg5 : Memref sig .tc .vmem S1x1024 .f32) (arg6 : Memref sig .tc .vmem S1x512 .f32) (arg7 : Memref sig .tc .vmem S1x2048 .f32) (arg8 : Memref sig .tc .vmem S1x1024 .f32) (arg9 : Memref sig .tc .vmem S1x4096 .f32) (arg10 : Memref sig .tc .vmem S1x2048 .f32) (arg22 : Memref sig .tc .vmem S640x1024 .bf16) (arg23 : Memref sig .tc .vmem S640x512 .bf16) (arg24 : Memref sig .tc .vmem S1536x2048 .bf16) (arg25 : Memref sig .tc .vmem S1536x1024 .bf16) (arg26 : Memref sig .tc .vmem S3072x4096 .bf16) (arg27 : Memref sig .tc .vmem S3072x2048 .bf16) (arg34 : Memref sig .tc .vmem S256x512 .f32) (arg35 : Memref sig .tc .vmem S256x1024 .f32) (arg36 : Memref sig .tc .vmem S256x2048 .f32) (v48 : IVec S128x64 32) (v49 : IVec S128x128 32) (v50 : IVec S128x192 32) (v51 : IVec S128x256 32)
    (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (t : ℕ)
    (f34 : arg34.view.ty.Contents (Elt Ideal)) (f35 : arg35.view.ty.Contents (Elt Ideal)) (f36 : arg36.view.ty.Contents (Elt Ideal)) : Prop where
  out : RowNumbers v48 v49 v50 v51 → Falling arg1 arg3 f1 f3 → ∀ i, rowSt arg34 arg35 arg36 f34 f35 f36 i
    = (net arg5 arg6 arg7 arg8 arg9 arg10 arg22 arg23 arg24 arg25 arg26 arg27 f5 f6 f7 f8 f9 f10 f22 f23 f24 f25 f26 f27).st (tok arg2 f2 i) (len arg3 f3 i) t

/-- The time loop's invariant: the buffers a trip only reads keep their contents, the state buffers hold the network's state. -/
@[sl_loop, instance_reducible] def loopVal (c : Dev nD) (i : grid0.Coords) (arg1 : Memref sig .tc .smem S4x1 .i32) (harg1 : arg1.IsWhole) (arg2 : Memref sig .tc .vmem S128x1x256 .i32) (harg2 : arg2.IsWhole) (arg3 : Memref sig .tc .vmem S256x1 .i32) (harg3 : arg3.IsWhole) (arg4 : Memref sig .tc .vmem S1x256 .i32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x512 .f32) (harg11 : arg11.IsWhole) (arg12 : Memref sig .tc .hbm S640x1024 .bf16) (harg12 : arg12.IsWhole) (arg13 : Memref sig .tc .hbm S640x512 .bf16) (harg13 : arg13.IsWhole) (arg14 : Memref sig .tc .hbm S1536x2048 .bf16) (harg14 : arg14.IsWhole) (arg15 : Memref sig .tc .hbm S1536x1024 .bf16) (harg15 : arg15.IsWhole) (arg16 : Memref sig .tc .hbm S3072x4096 .bf16) (harg16 : arg16.IsWhole) (arg17 : Memref sig .tc .hbm S3072x2048 .bf16) (harg17 : arg17.IsWhole) (arg18 : Memref sig .tc .hbm S512x512 .bf16) (harg18 : arg18.IsWhole) (arg19 : Memref sig .tc .hbm S1024x512 .bf16) (harg19 : arg19.IsWhole) (arg20 : Memref sig .tc .hbm S2048x512 .bf16) (harg20 : arg20.IsWhole) (arg21 : Memref sig .tc .vmem S256x512 .f32) (harg21 : arg21.IsWhole) (arg22 : Memref sig .tc .vmem S640x1024 .bf16) (harg22 : arg22.IsWhole) (arg23 : Memref sig .tc .vmem S640x512 .bf16) (harg23 : arg23.IsWhole) (arg24 : Memref sig .tc .vmem S1536x2048 .bf16) (harg24 : arg24.IsWhole) (arg25 : Memref sig .tc .vmem S1536x1024 .bf16) (harg25 : arg25.IsWhole) (arg26 : Memref sig .tc .vmem S3072x4096 .bf16) (harg26 : arg26.IsWhole) (arg27 : Memref sig .tc .vmem S3072x2048 .bf16) (harg27 : arg27.IsWhole) (arg28 : Memref sig .tc .vmem S512x512 .bf16) (harg28 : arg28.IsWhole) (arg29 : Memref sig .tc .vmem S1024x512 .bf16) (harg29 : arg29.IsWhole) (arg30 : Memref sig .tc .vmem S2048x512 .bf16) (harg30 : arg30.IsWhole) (arg31 : Memref sig .tc .vmem S256x640 .bf16) (harg31 : arg31.IsWhole) (arg32 : Memref sig .tc .vmem S256x1536 .bf16) (harg32 : arg32.IsWhole) (arg33 : Memref sig .tc .vmem S256x3072 .bf16) (harg33 : arg33.IsWhole) (arg34 : Memref sig .tc .vmem S256x512 .f32) (harg34 : arg34.IsWhole) (arg35 : Memref sig .tc .vmem S256x1024 .f32) (harg35 : arg35.IsWhole) (arg36 : Memref sig .tc .vmem S256x2048 .f32) (harg36 : arg36.IsWhole) (arg37 : DmaSems sig S9) (v48 : IVec S128x64 32) (v49 : IVec S128x128 32) (v50 : IVec S128x192 32) (v51 : IVec S128x256 32)
    (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) :
    LoopInvTy_k0_t1 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 v48 v49 v50 v51 where
  inv := fun k _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (∃ f, arg31.view.loc (c : Thread nD τ) ↦[arg31.view.set]{fullShare} f) ∗ (∃ f, arg32.view.loc (c : Thread nD τ) ↦[arg32.view.set]{fullShare} f) ∗ (∃ f, arg33.view.loc (c : Thread nD τ) ↦[arg33.view.set]{fullShare} f) ∗ (∃ f34, ∃ f35, ∃ f36, (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36) ∗ ⌜StateAt arg1 arg2 arg3 arg5 arg6 arg7 arg8 arg9 arg10 arg22 arg23 arg24 arg25 arg26 arg27 arg34 arg35 arg36 v48 v49 v50 v51 f1 f2 f3 f5 f6 f7 f8 f9 f10 f22 f23 f24 f25 f26 f27 k f34 f35 f36⌝))
  step := fun k acc => by
    unfold k0_t1_body
    iintro ⟨H1, H2, H3, H5, H6, H7, H8, H9, H10, H22, H23, H24, H25, H26, H27, ⟨%f31, H31⟩, ⟨%f32, H32⟩, ⟨%f33, H33⟩, ⟨%f34, %f35, %f36, H34, H35, H36, %hst⟩⟩
    sl_exec
    sl_step
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H22]; · iexact H22
    isplitl [H23]; · iexact H23
    isplitl [H24]; · iexact H24
    isplitl [H25]; · iexact H25
    isplitl [H26]; · iexact H26
    isplitl [H27]; · iexact H27
    isplitl [H31]; · iexists _; iexact H31
    isplitl [H32]; · iexists _; iexact H32
    isplitl [H33]; · iexists _; iexact H33
    iexists _; iexists _; iexists _
    isplitl [H34]; · iexact H34
    isplitl [H35]; · iexact H35
    isplitl [H36]; · iexact H36
    ipureintro
    refine ⟨fun hr hf i => ?_⟩
    have hi := hst.out hr hf i
    refine (trip c arg1 arg2 arg3 arg5 arg6 arg7 arg8 arg9 arg10 arg22 arg23 arg24 arg25 arg26 arg27 arg31 arg32 arg33 arg34 arg35 arg36 v48 v49 v50 v51 f1 f2 f3 f5 f6 f7 f8 f9 f10 f22 f23 f24 f25 f26 f27 k f34 f35 f36 hr.r0 hr.r1 hr.r2 hr.r3 hf _ rfl _ rfl _ rfl _ rfl _ rfl _ rfl _ rfl _ rfl _ rfl _ rfl _ rfl _ rfl i).trans ?_
    rw [hi]
    rfl

end Cert.Proof.KernelIdeal

end
-- ==== Proof.KernelIdealOut.lean ====
/-
  The result block as a function of what the body reads: the last layer, the permutation's one-hot block, the zero states.
-/
module

public import proofs.«01_k».proof.Proof.KernelIdealFrame
public import proofs.«01_k».proof.Proof.KernelIdealLoopValue

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Gru

/-- The proof's user algebra: the pipeline library's beside the transfers' counters. -/
local notation "𝕄" => MT nD τ sig Unit (Elt Ideal) ℕ (Pipeline.UD sig nD τ) ℕ

/-- The permutation's one-hot row `i` times a column over the rows. -/
def pick (perm : Fin 256 → BitVec 32) (f : Fin 256 → EReal) (i : Fin 256) : EReal :=
  ∑ a : Fin 256, (if perm a = BitVec.ofNat 32 i.val then 1 else 0) * f a

/-- The result at a row and a column, from the final states and the last layer's weights. -/
def outAt (S : Fin 256 → St) (perm : Fin 256 → BitVec 32) (w0 : Fin 512 → Fin 512 → EReal) (w1 : Fin 1024 → Fin 512 → EReal)
    (w2 : Fin 2048 → Fin 512 → EReal) (b : Fin 512 → EReal) (i : Fin 256) (j : Fin 512) : EReal :=
  Ideal.tanh ((((∑ k, pick perm (fun a => (S a).h0 k) i * w0 k j) + ∑ k, pick perm (fun a => (S a).h1 k) i * w1 k j)
    + ∑ k, pick perm (fun a => (S a).h2 k) i * w2 k j) + b j)

/-- The network of the given weight blocks. -/
def netOf (g0 : FVec Ideal S640x1024 .bf16) (x5 : FVec Ideal S1x1024 .f32) (c0 : FVec Ideal S640x512 .bf16) (x6 : FVec Ideal S1x512 .f32)
    (g1 : FVec Ideal S1536x2048 .bf16) (x7 : FVec Ideal S1x2048 .f32) (c1 : FVec Ideal S1536x1024 .bf16) (x8 : FVec Ideal S1x1024 .f32)
    (g2 : FVec Ideal S3072x4096 .bf16) (x9 : FVec Ideal S1x4096 .f32) (c2 : FVec Ideal S3072x2048 .bf16) (x10 : FVec Ideal S1x2048 .f32) : Net where
  L0 := ⟨mat (e := .bf16) g0, row (e := .f32) x5, mat (e := .bf16) c0, row (e := .f32) x6⟩
  L1 := ⟨mat (e := .bf16) g1, row (e := .f32) x7, mat (e := .bf16) c1, row (e := .f32) x8⟩
  L2 := ⟨mat (e := .bf16) g2, row (e := .f32) x9, mat (e := .bf16) c2, row (e := .f32) x10⟩

/-- The tokens of a row in the token block. -/
def tokOf (x2 : IVec S128x1x256 32) (i : Fin 256) (t : ℕ) : BitVec 32 := if h : t < 128 then x2 (ix3 ⟨t, h⟩ (0 : Fin 1) i) else 0#32

/-- The bounds fall, and the rows from `64 * q` on are no longer than bound `q`. -/
structure Sorted (x1 : IVec S4x1 32) (x3 : IVec S256x1 32) : Prop where
  down : ∀ q q' : Fin 4, q ≤ q' → (x1 (ix2 q' (0 : Fin 1))).toInt ≤ (x1 (ix2 q (0 : Fin 1))).toInt
  below : ∀ (q : Fin 4) (i : Fin 256), 64 * q.val ≤ i.val → (x3 (ix2 i (0 : Fin 1))).toInt ≤ (x1 (ix2 q (0 : Fin 1))).toInt

/-- The result block the body leaves, from the blocks and arrays it reads. -/
def outBlk (x2 : IVec S128x1x256 32) (x3 : IVec S256x1 32) (x4 : IVec S1x256 32) (N : Net) (w0 : FVec Ideal S512x512 .bf16)
    (w1 : FVec Ideal S1024x512 .bf16) (w2 : FVec Ideal S2048x512 .bf16) (x11 : FVec Ideal S1x512 .f32) : FVec Ideal S256x512 .f32 :=
  fun y => outAt (fun a => N.st (tokOf x2 a) (x3 (ix2 a (0 : Fin 1))) 128) (fun a => x4 (ix2 (0 : Fin 1) a)) (mat (e := .bf16) w0) (mat (e := .bf16) w1) (mat (e := .bf16) w2)
    (row (e := .f32) x11) (y 0) (y 1)

/-- The permutation's one-hot block, at an index. -/
theorem perm_at (x4 : Vec Ideal S1x256 .i32) (i a : Fin 256) : k0_pay106 (F := Ideal) x4 (ix2 i a) = if x4 (ix2 0 a) = BitVec.ofNat 32 i.val then 1 else 0 := by
  pointwise [k0_pay106]
  rw [select_eq]

/-- The last layer, at an index. -/
theorem last_at (P : Vec Ideal S256x256 .bf16) (h0 : Vec Ideal S256x512 .f32) (h1 : Vec Ideal S256x1024 .f32) (h2 : Vec Ideal S256x2048 .f32) (w0 : Vec Ideal S512x512 .bf16)
    (w1 : Vec Ideal S1024x512 .bf16) (w2 : Vec Ideal S2048x512 .bf16) (b : Vec Ideal S1x512 .f32) (i : Fin 256) (j : Fin 512) :
    k0_pay1 P h0 h1 h2 w0 w1 w2 b (ix2 i j)
      = Ideal.tanh ((((∑ k, (∑ a, P (ix2 i a) * h0 (ix2 a k)) * w0 (ix2 k j)) + ∑ k, (∑ a, P (ix2 i a) * h1 (ix2 a k)) * w1 (ix2 k j))
        + ∑ k, (∑ a, P (ix2 i a) * h2 (ix2 a k)) * w2 (ix2 k j)) + b (ix2 0 j)) := by
  pointwise [k0_pay1]

/-- The last layer of the final states, as the result's rows. -/
theorem last_eq (x4 : Vec Ideal S1x256 .i32) (h0 : Vec Ideal S256x512 .f32) (h1 : Vec Ideal S256x1024 .f32) (h2 : Vec Ideal S256x2048 .f32) (w0 : Vec Ideal S512x512 .bf16)
    (w1 : Vec Ideal S1024x512 .bf16) (w2 : Vec Ideal S2048x512 .bf16) (b : Vec Ideal S1x512 .f32) (S : Fin 256 → St)
    (e : ∀ a, (⟨fun k => h0 (ix2 a k), fun k => h1 (ix2 a k), fun k => h2 (ix2 a k)⟩ : St) = S a) (i : Fin 256) (j : Fin 512) :
    k0_pay1 (k0_pay106 x4) h0 h1 h2 w0 w1 w2 b (ix2 i j)
      = outAt S (fun a => x4 (ix2 (0 : Fin 1) a)) (mat (e := .bf16) w0) (mat (e := .bf16) w1) (mat (e := .bf16) w2) (row (e := .f32) b) i j := by
  rw [last_at, show S = _ from funext fun a => (e a).symm]
  simp only [perm_at]
  rfl

/-- Contents whose every row reads zero are the state before any step. -/
theorem stateAt_zero {arg1 : Memref sig .tc .smem S4x1 .i32} {arg2 : Memref sig .tc .vmem S128x1x256 .i32} {arg3 : Memref sig .tc .vmem S256x1 .i32} {arg5 : Memref sig .tc .vmem S1x1024 .f32} {arg6 : Memref sig .tc .vmem S1x512 .f32} {arg7 : Memref sig .tc .vmem S1x2048 .f32} {arg8 : Memref sig .tc .vmem S1x1024 .f32} {arg9 : Memref sig .tc .vmem S1x4096 .f32} {arg10 : Memref sig .tc .vmem S1x2048 .f32} {arg22 : Memref sig .tc .vmem S640x1024 .bf16} {arg23 : Memref sig .tc .vmem S640x512 .bf16} {arg24 : Memref sig .tc .vmem S1536x2048 .bf16} {arg25 : Memref sig .tc .vmem S1536x1024 .bf16} {arg26 : Memref sig .tc .vmem S3072x4096 .bf16} {arg27 : Memref sig .tc .vmem S3072x2048 .bf16} {arg34 : Memref sig .tc .vmem S256x512 .f32} {arg35 : Memref sig .tc .vmem S256x1024 .f32} {arg36 : Memref sig .tc .vmem S256x2048 .f32}
    (v48 : IVec S128x64 32) (v49 : IVec S128x128 32) (v50 : IVec S128x192 32) (v51 : IVec S128x256 32) (f1 : arg1.view.ty.Contents (Elt Ideal)) (f2 : arg2.view.ty.Contents (Elt Ideal)) (f3 : arg3.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f22 : arg22.view.ty.Contents (Elt Ideal)) (f23 : arg23.view.ty.Contents (Elt Ideal)) (f24 : arg24.view.ty.Contents (Elt Ideal)) (f25 : arg25.view.ty.Contents (Elt Ideal)) (f26 : arg26.view.ty.Contents (Elt Ideal)) (f27 : arg27.view.ty.Contents (Elt Ideal)) (f34 : arg34.view.ty.Contents (Elt Ideal)) (f35 : arg35.view.ty.Contents (Elt Ideal)) (f36 : arg36.view.ty.Contents (Elt Ideal))
    (z0 : ∀ i j, arg34.view.read (Elt Ideal) f34 (ix2 i j) = (0 : EReal)) (z1 : ∀ i j, arg35.view.read (Elt Ideal) f35 (ix2 i j) = (0 : EReal)) (z2 : ∀ i j, arg36.view.read (Elt Ideal) f36 (ix2 i j) = (0 : EReal)) :
    StateAt arg1 arg2 arg3 arg5 arg6 arg7 arg8 arg9 arg10 arg22 arg23 arg24 arg25 arg26 arg27 arg34 arg35 arg36 v48 v49 v50 v51 f1 f2 f3 f5 f6 f7 f8 f9 f10 f22 f23 f24 f25 f26 f27 0 f34 f35 f36 :=
  ⟨fun _ _ i => St.ext (funext (z0 i)) (funext (z1 i)) (funext (z2 i))⟩

/-- The zero blocks the state buffers begin with. -/
theorem zero_0 (i : Fin 256) (j : Fin 512) : k0_pay94 (F := Ideal) (ix2 i j) = (0 : EReal) := by
  pointwise [k0_pay94]
theorem zero_1 (i : Fin 256) (j : Fin 1024) : k0_pay95 (F := Ideal) (ix2 i j) = (0 : EReal) := by
  pointwise [k0_pay95]
theorem zero_2 (i : Fin 256) (j : Fin 2048) : k0_pay96 (F := Ideal) (ix2 i j) = (0 : EReal) := by
  pointwise [k0_pay96]

/-- The row-number blocks. -/
theorem rowNumbers : RowNumbers body_run.sl.v48 body_run.sl.v49 body_run.sl.v50 body_run.sl.v51 where
  r0 r i := by unfold body_run.sl.v48; pointwise []
  r1 r i := by unfold body_run.sl.v49; pointwise []
  r2 r i := by unfold body_run.sl.v50; pointwise []
  r3 r i := by unfold body_run.sl.v51; pointwise []

end Cert.Proof.KernelIdeal

end
-- ==== Proof.KernelIdealBody.lean ====
/-
  The kernel body with the block it leaves.
-/
module

public import proofs.«01_k».proof.Proof.KernelIdealFrame
public import proofs.«01_k».proof.Proof.KernelIdealOut

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Gru

/-- The proof's user algebra: the pipeline library's beside the transfers' counters. -/
local notation "𝕄" => MT nD τ sig Unit (Elt Ideal) ℕ (Pipeline.UD sig nD τ) ℕ
set_option maxHeartbeats 1600000 in
/-- On the windows' staging memrefs at the blocks `x1 … x11`, the result's at anything, the scratch at anything, the counters at zero and the
    weights in HBM at `f12 … f20`, the body runs to its end with all of them back, the result's at the network's output. -/
theorem body_val (c : Dev nD) (i : grid0.Coords) (arg1 : Memref sig .tc .smem S4x1 .i32) (harg1 : arg1.IsWhole) (arg2 : Memref sig .tc .vmem S128x1x256 .i32) (harg2 : arg2.IsWhole) (arg3 : Memref sig .tc .vmem S256x1 .i32) (harg3 : arg3.IsWhole) (arg4 : Memref sig .tc .vmem S1x256 .i32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x512 .f32) (harg11 : arg11.IsWhole) (arg21 : Memref sig .tc .vmem S256x512 .f32) (harg21 : arg21.IsWhole)
    (x1 : Vec Ideal S4x1 .i32) (x2 : Vec Ideal S128x1x256 .i32) (x3 : Vec Ideal S256x1 .i32) (x4 : Vec Ideal S1x256 .i32) (x5 : Vec Ideal S1x1024 .f32) (x6 : Vec Ideal S1x512 .f32) (x7 : Vec Ideal S1x2048 .f32) (x8 : Vec Ideal S1x1024 .f32) (x9 : Vec Ideal S1x4096 .f32) (x10 : Vec Ideal S1x2048 .f32) (x11 : Vec Ideal S1x512 .f32)
    (f12 : Buf (Elt Ideal) (hbM12.view.loc (c : Thread nD τ))) (f13 : Buf (Elt Ideal) (hbM13.view.loc (c : Thread nD τ))) (f14 : Buf (Elt Ideal) (hbM14.view.loc (c : Thread nD τ))) (f15 : Buf (Elt Ideal) (hbM15.view.loc (c : Thread nD τ))) (f16 : Buf (Elt Ideal) (hbM16.view.loc (c : Thread nD τ))) (f17 : Buf (Elt Ideal) (hbM17.view.loc (c : Thread nD τ))) (f18 : Buf (Elt Ideal) (hbM18.view.loc (c : Thread nD τ))) (f19 : Buf (Elt Ideal) (hbM19.view.loc (c : Thread nD τ))) (f20 : Buf (Elt Ideal) (hbM20.view.loc (c : Thread nD τ))) (hs : Sorted x1 x3) (W : Waits sig Unit) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11) ∗ (∃ d, owns (c : Thread nD τ) arg21 fullShare d)
        ∗ ((∃ d, owns (c : Thread nD τ) scM22 fullShare d) ∗ (∃ d, owns (c : Thread nD τ) scM23 fullShare d) ∗ (∃ d, owns (c : Thread nD τ) scM24 fullShare d) ∗ (∃ d, owns (c : Thread nD τ) scM25 fullShare d) ∗ (∃ d, owns (c : Thread nD τ) scM26 fullShare d) ∗ (∃ d, owns (c : Thread nD τ) scM27 fullShare d) ∗ (∃ d, owns (c : Thread nD τ) scM28 fullShare d) ∗ (∃ d, owns (c : Thread nD τ) scM29 fullShare d) ∗ (∃ d, owns (c : Thread nD τ) scM30 fullShare d) ∗ (∃ d, owns (c : Thread nD τ) scM31 fullShare d) ∗ (∃ d, owns (c : Thread nD τ) scM32 fullShare d) ∗ (∃ d, owns (c : Thread nD τ) scM33 fullShare d) ∗ (∃ d, owns (c : Thread nD τ) scM34 fullShare d) ∗ (∃ d, owns (c : Thread nD τ) scM35 fullShare d) ∗ (∃ d, owns (c : Thread nD τ) scM36 fullShare d))
        ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
        ∗ (wholePt c hbM12 f12 ∗ wholePt c hbM13 f13 ∗ wholePt c hbM14 f14 ∗ wholePt c hbM15 f15 ∗ wholePt c hbM16 f16 ∗ wholePt c hbM17 f17 ∗ wholePt c hbM18 f18 ∗ wholePt c hbM19 f19 ∗ wholePt c hbM20 f20)
        ∗ owes (c : Thread nD τ) 0 W
        ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11) ∗ owns (c : Thread nD τ) arg21 fullShare (outBlk x2 x3 x4 (netOf (hbM12.view.read (Elt Ideal) f12) x5 (hbM13.view.read (Elt Ideal) f13) x6 (hbM14.view.read (Elt Ideal) f14) x7 (hbM15.view.read (Elt Ideal) f15) x8 (hbM16.view.read (Elt Ideal) f16) x9 (hbM17.view.read (Elt Ideal) f17) x10) (hbM18.view.read (Elt Ideal) f18) (hbM19.view.read (Elt Ideal) f19) (hbM20.view.read (Elt Ideal) f20) x11)
            ∗ ((∃ d, owns (c : Thread nD τ) scM22 fullShare d) ∗ (∃ d, owns (c : Thread nD τ) scM23 fullShare d) ∗ (∃ d, owns (c : Thread nD τ) scM24 fullShare d) ∗ (∃ d, owns (c : Thread nD τ) scM25 fullShare d) ∗ (∃ d, owns (c : Thread nD τ) scM26 fullShare d) ∗ (∃ d, owns (c : Thread nD τ) scM27 fullShare d) ∗ (∃ d, owns (c : Thread nD τ) scM28 fullShare d) ∗ (∃ d, owns (c : Thread nD τ) scM29 fullShare d) ∗ (∃ d, owns (c : Thread nD τ) scM30 fullShare d) ∗ (∃ d, owns (c : Thread nD τ) scM31 fullShare d) ∗ (∃ d, owns (c : Thread nD τ) scM32 fullShare d) ∗ (∃ d, owns (c : Thread nD τ) scM33 fullShare d) ∗ (∃ d, owns (c : Thread nD τ) scM34 fullShare d) ∗ (∃ d, owns (c : Thread nD τ) scM35 fullShare d) ∗ (∃ d, owns (c : Thread nD τ) scM36 fullShare d))
            ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
            ∗ (wholePt c hbM12 f12 ∗ wholePt c hbM13 f13 ∗ wholePt c hbM14 f14 ∗ wholePt c hbM15 f15 ∗ wholePt c hbM16 f16 ∗ wholePt c hbM17 f17 ∗ wholePt c hbM18 f18 ∗ wholePt c hbM19 f19 ∗ wholePt c hbM20 f20)
            ∗ (∃ W', owes (c : Thread nD τ) 0 W')) -∗ K ⟨⟩))
      ⊢ wp frame (wpE (defs₀ (F := Ideal)) Variants.none c none) Set.univ
          (cc0_mini_cddd_gru i arg1 harg1 arg2 harg2 arg3 harg3 arg4 harg4 arg5 harg5 arg6 harg6 arg7 harg7 arg8 harg8 arg9 harg9 arg10 harg10 arg11 harg11 hbM12 (Memref.isWhole_whole _) hbM13 (Memref.isWhole_whole _) hbM14 (Memref.isWhole_whole _) hbM15 (Memref.isWhole_whole _) hbM16 (Memref.isWhole_whole _) hbM17 (Memref.isWhole_whole _) hbM18 (Memref.isWhole_whole _) hbM19 (Memref.isWhole_whole _) hbM20 (Memref.isWhole_whole _) arg21 harg21 scM22 (Memref.isWhole_whole _) scM23 (Memref.isWhole_whole _) scM24 (Memref.isWhole_whole _) scM25 (Memref.isWhole_whole _) scM26 (Memref.isWhole_whole _) scM27 (Memref.isWhole_whole _) scM28 (Memref.isWhole_whole _) scM29 (Memref.isWhole_whole _) scM30 (Memref.isWhole_whole _) scM31 (Memref.isWhole_whole _) scM32 (Memref.isWhole_whole _) scM33 (Memref.isWhole_whole _) scM34 (Memref.isWhole_whole _) scM35 (Memref.isWhole_whole _) scM36 (Memref.isWhole_whole _) cc0_scratch15) K := by
  simp only [cc0_mini_cddd_gru_eq_skeleton]; unfold cc0_mini_cddd_gru_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, ⟨%d21, %f21, -, H21⟩, ⟨⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩⟩, ⟨Hq0, Hq1, Hq2, Hq3, Hq4, Hq5, Hq6, Hq7, Hq8⟩, ⟨H12, H13, H14, H15, H16, H17, H18, H19, H20⟩, HW, Hk⟩
  have h0 : StateAt arg1 arg2 arg3 arg5 arg6 arg7 arg8 arg9 arg10 scM22 scM23 scM24 scM25 scM26 scM27 scM34 scM35 scM36 body_run.sl.v48 body_run.sl.v49 body_run.sl.v50 body_run.sl.v51 f1 f2 f3 f5 f6 f7 f8 f9 f10 (scM22.view.writes (Elt Ideal) scM22.view.junk [⟨Rect.whole S640x1024, body_run.sl.dma0 c f12⟩]) (scM23.view.writes (Elt Ideal) scM23.view.junk [⟨Rect.whole S640x512, body_run.sl.dma0_1 c f13⟩]) (scM24.view.writes (Elt Ideal) scM24.view.junk [⟨Rect.whole S1536x2048, body_run.sl.dma0_2 c f14⟩]) (scM25.view.writes (Elt Ideal) scM25.view.junk [⟨Rect.whole S1536x1024, body_run.sl.dma0_3 c f15⟩]) (scM26.view.writes (Elt Ideal) scM26.view.junk [⟨Rect.whole S3072x4096, body_run.sl.dma0_4 c f16⟩]) (scM27.view.writes (Elt Ideal) scM27.view.junk [⟨Rect.whole S3072x2048, body_run.sl.dma0_5 c f17⟩]) 0 (scM34.view.writes (Elt Ideal) scM34.view.junk body_run.sl.H34_1) (scM35.view.writes (Elt Ideal) scM35.view.junk body_run.sl.H35_1) (scM36.view.writes (Elt Ideal) scM36.view.junk body_run.sl.H36_1) := stateAt_zero _ _ _ _ _ _ _ _ _ _ _ _ _ _ _ _ _ _ _ _ _ _
    (fun i j => (read_top scM34.view _ _ _ i j).trans ((dif_pos i.isLt).trans (zero_0 i j)))
    (fun i j => (read_top scM35.view _ _ _ i j).trans ((dif_pos i.isLt).trans (zero_1 i j)))
    (fun i j => (read_top scM36.view _ _ _ i j).trans ((dif_pos i.isLt).trans (zero_2 i j)))
  sl_exec
  sl_step
  iapply Hk
  isplitl [H1 H2 H3 H4 H5 H6 H7 H8 H9 H10 H11]
  · isplitl [H1]
    · iexists _; isplitr; swap; · iexact H1
      ipureintro; assumption
    isplitl [H2]
    · iexists _; isplitr; swap; · iexact H2
      ipureintro; assumption
    isplitl [H3]
    · iexists _; isplitr; swap; · iexact H3
      ipureintro; assumption
    isplitl [H4]
    · iexists _; isplitr; swap; · iexact H4
      ipureintro; assumption
    isplitl [H5]
    · iexists _; isplitr; swap; · iexact H5
      ipureintro; assumption
    isplitl [H6]
    · iexists _; isplitr; swap; · iexact H6
      ipureintro; assumption
    isplitl [H7]
    · iexists _; isplitr; swap; · iexact H7
      ipureintro; assumption
    isplitl [H8]
    · iexists _; isplitr; swap; · iexact H8
      ipureintro; assumption
    isplitl [H9]
    · iexists _; isplitr; swap; · iexact H9
      ipureintro; assumption
    isplitl [H10]
    · iexists _; isplitr; swap; · iexact H10
      ipureintro; assumption
    iexists _; isplitr; swap; · iexact H11
    ipureintro; assumption
  isplitl [H21]
  · iexists _; isplitr; swap; · iexact H21
    ipureintro
    subst e1 e2 e3 e4 e5 e6 e7 e8 e9 e10 e11
    have hst := hL21.out rowNumbers ⟨hs.down, hs.below⟩
    have hN : net arg5 arg6 arg7 arg8 arg9 arg10 scM22 scM23 scM24 scM25 scM26 scM27 f5 f6 f7 f8 f9 f10
        (scM22.view.writes (Elt Ideal) scM22.view.junk [⟨Rect.whole S640x1024, body_val.sl.dma0 c f12⟩])
        (scM23.view.writes (Elt Ideal) scM23.view.junk [⟨Rect.whole S640x512, body_val.sl.dma0_1 c f13⟩])
        (scM24.view.writes (Elt Ideal) scM24.view.junk [⟨Rect.whole S1536x2048, body_val.sl.dma0_2 c f14⟩])
        (scM25.view.writes (Elt Ideal) scM25.view.junk [⟨Rect.whole S1536x1024, body_val.sl.dma0_3 c f15⟩])
        (scM26.view.writes (Elt Ideal) scM26.view.junk [⟨Rect.whole S3072x4096, body_val.sl.dma0_4 c f16⟩])
        (scM27.view.writes (Elt Ideal) scM27.view.junk [⟨Rect.whole S3072x2048, body_val.sl.dma0_5 c f17⟩]) = netOf (hbM12.view.read (Elt Ideal) f12) (arg5.view.read (Elt Ideal) f5) (hbM13.view.read (Elt Ideal) f13) (arg6.view.read (Elt Ideal) f6) (hbM14.view.read (Elt Ideal) f14) (arg7.view.read (Elt Ideal) f7) (hbM15.view.read (Elt Ideal) f15) (arg8.view.read (Elt Ideal) f8) (hbM16.view.read (Elt Ideal) f16) (arg9.view.read (Elt Ideal) f9) (hbM17.view.read (Elt Ideal) f17) (arg10.view.read (Elt Ideal) f10) := by
      unfold net netOf
      simp only [View.read_writes_whole]
      rfl
    rw [hN] at hst
    have hS : ∀ a, _ = (netOf (hbM12.view.read (Elt Ideal) f12) (arg5.view.read (Elt Ideal) f5) (hbM13.view.read (Elt Ideal) f13) (arg6.view.read (Elt Ideal) f6) (hbM14.view.read (Elt Ideal) f14) (arg7.view.read (Elt Ideal) f7) (hbM15.view.read (Elt Ideal) f15) (arg8.view.read (Elt Ideal) f8) (hbM16.view.read (Elt Ideal) f16) (arg9.view.read (Elt Ideal) f9) (hbM17.view.read (Elt Ideal) f17) (arg10.view.read (Elt Ideal) f10)).st _ _ 128 := fun a => (hst a).trans (congrArg _ trips_eq)
    funext y
    obtain ⟨i, j, rfl⟩ : ∃ (i : Fin 256) (j : Fin 512), y = ix2 i j := ⟨y 0, y 1, funext (Fin.forall_fin_two.mpr ⟨rfl, rfl⟩)⟩
    refine (read_top arg21.view f21 _ _ i j).trans ((dif_pos i.isLt).trans ?_)
    refine (last_eq (View.readAt (Elt Ideal) arg4.view (Rect.unit (s := S1x256) ![0, 0] S1x256.size inb_S1x256_S1x256_0_0).toLoadRect f4) _ _ _ _ _ _ _ (S := (fun a => (netOf (hbM12.view.read (Elt Ideal) f12) (arg5.view.read (Elt Ideal) f5) (hbM13.view.read (Elt Ideal) f13) (arg6.view.read (Elt Ideal) f6) (hbM14.view.read (Elt Ideal) f14) (arg7.view.read (Elt Ideal) f7) (hbM15.view.read (Elt Ideal) f15) (arg8.view.read (Elt Ideal) f8) (hbM16.view.read (Elt Ideal) f16) (arg9.view.read (Elt Ideal) f9) (hbM17.view.read (Elt Ideal) f17) (arg10.view.read (Elt Ideal) f10)).st (tokOf (arg2.view.read (Elt Ideal) f2) a) (arg3.view.read (Elt Ideal) f3 (ix2 a (0 : Fin 1))) 128)) (fun a => ?_) i j).trans ?_
    · refine Eq.trans ?_ (hS a)
      exact St.ext (funext fun k => readAt_top scM34.view f34L3 _ a a.isLt k) (funext fun k => readAt_top scM35.view f35L4 _ a a.isLt k) (funext fun k => readAt_top scM36.view f36L5 _ a a.isLt k)
    · have hp : (fun a : Fin 256 => View.readAt (Elt Ideal) arg4.view (Rect.unit (s := S1x256) ![0, 0] S1x256.size inb_S1x256_S1x256_0_0).toLoadRect f4 (ix2 (0 : Fin 1) a)) = fun a => arg4.view.read (Elt Ideal) f4 (ix2 (0 : Fin 1) a) :=
        funext fun a => readAt_top arg4.view f4 _ (0 : Fin 1) (by decide) a
      have hb : row (e := .f32) (View.readAt (Elt Ideal) arg11.view (Rect.unit (s := S1x512) ![0, 0] S1x512.size inb_S1x512_S1x512_0_0).toLoadRect f11) = row (e := .f32) (arg11.view.read (Elt Ideal) f11) :=
        funext fun a => readAt_top arg11.view f11 _ (0 : Fin 1) (by decide) a
      have h72 : mat (e := .bf16) (body_val.sl.v72 c f18) = mat (e := .bf16) (hbM18.view.read (Elt Ideal) f18) := by
        funext k j; unfold mat body_val.sl.v72; exact (readAt_top scM28.view _ _ k k.isLt j).trans (congrFun (View.read_writes_whole scM28.view _ _) _)
      have h75 : mat (e := .bf16) (body_val.sl.v75 c f19) = mat (e := .bf16) (hbM19.view.read (Elt Ideal) f19) := by
        funext k j; unfold mat body_val.sl.v75; exact (readAt_top scM29.view _ _ k k.isLt j).trans (congrFun (View.read_writes_whole scM29.view _ _) _)
      have h79 : mat (e := .bf16) (body_val.sl.v79 c f20) = mat (e := .bf16) (hbM20.view.read (Elt Ideal) f20) := by
        funext k j; unfold mat body_val.sl.v79; exact (readAt_top scM30.view _ _ k k.isLt j).trans (congrFun (View.read_writes_whole scM30.view _ _) _)
      rw [hp, hb, h72, h75, h79]
      rfl

  isplitl [H22 H23 H24 H25 H26 H27 H28 H29 H30 H31 H32 H33 H34 H35 H36]
  · isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    iexists _, _; isplitr; swap; · iexact H36
    ipureintro; rfl
  isplitl [Hq0 Hq1 Hq2 Hq3 Hq4 Hq5 Hq6 Hq7 Hq8]
  · isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    iexact Hq8
  isplitl [H12 H13 H14 H15 H16 H17 H18 H19 H20]
  · isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iexact H20
  iexists _; iexact HW

end Cert.Proof.KernelIdeal

end
-- ==== Proof.KernelIdealLaunchValue.lean ====
/-
  The launch with the value: the result array of the program is the block the network leaves, given that the lengths come in falling order.
-/
module

public import proofs.«01_k».proof.Proof.KernelIdealBody
public import Idealize.ShloMosaic.Lib.Pipeline.ValueKit

@[expose] public section

set_option maxRecDepth 65536

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The proof's user algebra: the pipeline library's beside the transfers' counters. -/
local notation "𝕄" => MT nD τ sig Unit (Elt Ideal) ℕ (Pipeline.UD sig nD τ) ℕ

variable (m : (ℓ : Loc nD τ sig) → Buf (Elt Ideal) ℓ) (ρ : Dev nD → PrngReg)

/-- The block the body leaves in the result's window: the network over the operands as the region finds them. -/
def blk11 (c : Dev nD) (t : Fin cfg0.N) : Vec Ideal S256x512 .f32 :=
  outBlk (iblk m c 1 t) (iblk m c 2 t) (iblk m c 3 t) (netOf ((hbM12).view.read (Elt Ideal) (V m c main_v7)) (iblk m c 4 t) ((hbM13).view.read (Elt Ideal) (V m c main_v15)) (iblk m c 5 t) ((hbM14).view.read (Elt Ideal) (V m c main_v16)) (iblk m c 6 t) ((hbM15).view.read (Elt Ideal) (V m c main_v17)) (iblk m c 7 t) ((hbM16).view.read (Elt Ideal) (V m c main_v18)) (iblk m c 8 t) ((hbM17).view.read (Elt Ideal) (V m c main_v19)) (iblk m c 9 t)) ((hbM18).view.read (Elt Ideal) (V m c main_v22)) ((hbM19).view.read (Elt Ideal) (V m c main_v24)) ((hbM20).view.read (Elt Ideal) (V m c main_v26)) (iblk m c 10 t)

/-- The proof data: every input window holds its block, the result's window holds the block the network leaves. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blk11 m c t
  Φ _ := Pipeline.ΦD osem0 spec0 H0 (V m) c
  q _ := fullShare
  owed _ := 0

theorem A_eq (c : Dev nD) (w : Fin cfg0.W) : (datsV m 0 c).A w = V m c (Pipeline.arrRef spec0 w) := by
  dsimp only [datsV]
theorem after0_0 (c : Dev nD) (t : Fin cfg0.N) : (datsV m 0 c).after 0 t = iblk m c 0 t := by dsimp only [datsV]
theorem before0_0 (c : Dev nD) (t : Fin cfg0.N) (d) : (datsV m 0 c).before 0 t d = iblk m c 0 t :=
  ((datsV m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (datsV m 0 c).after 1 t = iblk m c 1 t := by dsimp only [datsV]
theorem before0_1 (c : Dev nD) (t : Fin cfg0.N) (d) : (datsV m 0 c).before 1 t d = iblk m c 1 t :=
  ((datsV m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (datsV m 0 c).after 2 t = iblk m c 2 t := by dsimp only [datsV]
theorem before0_2 (c : Dev nD) (t : Fin cfg0.N) (d) : (datsV m 0 c).before 2 t d = iblk m c 2 t :=
  ((datsV m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (datsV m 0 c).after 3 t = iblk m c 3 t := by dsimp only [datsV]
theorem before0_3 (c : Dev nD) (t : Fin cfg0.N) (d) : (datsV m 0 c).before 3 t d = iblk m c 3 t :=
  ((datsV m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (datsV m 0 c).after 4 t = iblk m c 4 t := by dsimp only [datsV]
theorem before0_4 (c : Dev nD) (t : Fin cfg0.N) (d) : (datsV m 0 c).before 4 t d = iblk m c 4 t :=
  ((datsV m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (datsV m 0 c).after 5 t = iblk m c 5 t := by dsimp only [datsV]
theorem before0_5 (c : Dev nD) (t : Fin cfg0.N) (d) : (datsV m 0 c).before 5 t d = iblk m c 5 t :=
  ((datsV m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (datsV m 0 c).after 6 t = iblk m c 6 t := by dsimp only [datsV]
theorem before0_6 (c : Dev nD) (t : Fin cfg0.N) (d) : (datsV m 0 c).before 6 t d = iblk m c 6 t :=
  ((datsV m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (datsV m 0 c).after 7 t = iblk m c 7 t := by dsimp only [datsV]
theorem before0_7 (c : Dev nD) (t : Fin cfg0.N) (d) : (datsV m 0 c).before 7 t d = iblk m c 7 t :=
  ((datsV m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (datsV m 0 c).after 8 t = iblk m c 8 t := by dsimp only [datsV]
theorem before0_8 (c : Dev nD) (t : Fin cfg0.N) (d) : (datsV m 0 c).before 8 t d = iblk m c 8 t :=
  ((datsV m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (datsV m 0 c).after 9 t = iblk m c 9 t := by dsimp only [datsV]
theorem before0_9 (c : Dev nD) (t : Fin cfg0.N) (d) : (datsV m 0 c).before 9 t d = iblk m c 9 t :=
  ((datsV m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (datsV m 0 c).after 10 t = iblk m c 10 t := by dsimp only [datsV]
theorem before0_10 (c : Dev nD) (t : Fin cfg0.N) (d) : (datsV m 0 c).before 10 t d = iblk m c 10 t :=
  ((datsV m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

theorem after0_11 (c : Dev nD) (t : Fin cfg0.N) : (datsV m 0 c).after 11 t = blk11 m c t := by dsimp only [datsV]

def bodyPre (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)) ∗ (∃ d, owns (c : Thread nD τ) (st0_3 t) fullShare ((datsV m 0 c).before 3 t d)) ∗ (∃ d, owns (c : Thread nD τ) (st0_4 t) fullShare ((datsV m 0 c).before 4 t d)) ∗ (∃ d, owns (c : Thread nD τ) (st0_5 t) fullShare ((datsV m 0 c).before 5 t d)) ∗ (∃ d, owns (c : Thread nD τ) (st0_6 t) fullShare ((datsV m 0 c).before 6 t d)) ∗ (∃ d, owns (c : Thread nD τ) (st0_7 t) fullShare ((datsV m 0 c).before 7 t d)) ∗ (∃ d, owns (c : Thread nD τ) (st0_8 t) fullShare ((datsV m 0 c).before 8 t d)) ∗ (∃ d, owns (c : Thread nD τ) (st0_9 t) fullShare ((datsV m 0 c).before 9 t d)) ∗ (∃ d, owns (c : Thread nD τ) (st0_10 t) fullShare ((datsV m 0 c).before 10 t d)) ∗ (∃ d, owns (c : Thread nD τ) (st0_11 t) fullShare ((datsV m 0 c).before 11 t d)))
def bodyPost (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t) ∗ owns (c : Thread nD τ) (st0_3 t) fullShare ((datsV m 0 c).after 3 t) ∗ owns (c : Thread nD τ) (st0_4 t) fullShare ((datsV m 0 c).after 4 t) ∗ owns (c : Thread nD τ) (st0_5 t) fullShare ((datsV m 0 c).after 5 t) ∗ owns (c : Thread nD τ) (st0_6 t) fullShare ((datsV m 0 c).after 6 t) ∗ owns (c : Thread nD τ) (st0_7 t) fullShare ((datsV m 0 c).after 7 t) ∗ owns (c : Thread nD τ) (st0_8 t) fullShare ((datsV m 0 c).after 8 t) ∗ owns (c : Thread nD τ) (st0_9 t) fullShare ((datsV m 0 c).after 9 t) ∗ owns (c : Thread nD τ) (st0_10 t) fullShare ((datsV m 0 c).after 10 t) ∗ owns (c : Thread nD τ) (st0_11 t) fullShare ((datsV m 0 c).after 11 t))

/-- The body at the point, from what the pipeline hands it to what the pipeline takes back. -/
theorem sound_body (hs : ∀ c t, Sorted (iblk m c 0 t) (iblk m c 2 t)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (datsV m 0 c).Φ t.succ = (datsV m 0 c).Φ t.castSucc from rfl]
  rw [show (datsV m 0 c).Φ t.castSucc = Pipeline.ΦD osem0 spec0 H0 (V m) c from rfl, Phi0_eq]
  unfold Dat.owesAt Pipeline.owesWithin
  rw [show (datsV m 0 c).owed t.castSucc = 0 from rfl, show (datsV m 0 c).owed t.succ = 0 from rfl]
  simp only [before0_0, before0_1, before0_2, before0_3, before0_4, before0_5, before0_6, before0_7, before0_8, before0_9, before0_10, after0_0, after0_1, after0_2, after0_3, after0_4, after0_5, after0_6, after0_7, after0_8, after0_9, after0_10, after0_11]
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_val c _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v7) (V m c main_v15) (V m c main_v16) (V m c main_v17) (V m c main_v18) (V m c main_v19) (V m c main_v22) (V m c main_v24) (V m c main_v26) (hs c t) W _)
  isplitl [H0 H1 H2 H3 H4 H5 H6 H7 H8 H9 H10]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]; · iexists _; iexact H11
  isplitl [HS]; · iexact HS
  isplitl [Hq]; · iexact Hq
  isplitl [Hh]; · iexact Hh
  isplitl [HW]; · iexact HW
  iintro ⟨⟨H0, H1, H2, H3, H4, H5, H6, H7, H8, H9, H10⟩, H11, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the data. -/
theorem body_obligation (hs : ∀ c t, Sorted (iblk m c 0 t) (iblk m c 2 t)) (c : Dev nD) : Pipeline.BodyObligationLoose (datsV m 0 c) (defs₀ (F := Ideal)) Variants.none () Set.univ := fun t => by
  rw [bigSep_W0, bigSep_W0, defs₀_row]
  exact triple_restated (sound_body m hs c t) rfl .rfl fun _ => .rfl

set_option backward.isDefEq.respectTransparency.types false in
/-- The whole program runs to the exact post of the data. -/
theorem run_main (hs : ∀ c t, Sorted (iblk m c 0 t) (iblk m c 2 t)) :
    θ_run defs (onTc (τ := τ) (main (F := Ideal))) (s₀ m ρ) (Pipeline.FramePost (U' := Pipeline.UD sig nD τ) cfgs (datsV m) (0 : Fin 1) (V m)) :=
  Pipeline.θ_run_frame_dma cfgs (datsV m) (0 : Fin 1) launch0 osem0 defs₀ Variants.none ownSemFacts0 H0 H0_sub m ρ main
    (hbody := fun c => body_obligation m hs c)
    (hshare := fun c => (datsV m 0 c).share_full fun _ => rfl)
    (howed := fun _ _ => rfl)
    (V := V m)
    (hmain := hmainD m Variants.none)
    (hA := fun c w => A_eq m c w)
    (hin := fun _ => .rfl)
    (hout := fun _ => .rfl)

/-- The result array after the run is the block. -/
theorem final (m : (ℓ : Loc nD τ sig) → Buf (Elt Ideal) ℓ) (c : Dev nD) : (datsV m 0 c).arrAt 11 cfg0.N = blk11 m c t0_0 := by
  refine (datsV m 0 c).arrAt_eq_of_after_last 11 t0_0 (by decide +kernel) _ fun j => ?_
  rw [after0_11]
  blk_simp
  rfl

/-- The result array is the block, and the arguments are as they were. -/
theorem value_main (hs : ∀ c t, Sorted (iblk m c 0 t) (iblk m c 2 t)) :
    θ_run defs (onTc (τ := τ) (main (F := Ideal))) ⟨m, fun _ => 0, ρ⟩ (fun r => ∀ c : Dev nD,
      r.2.mem ((c.tc : Thread nD τ).loc main_v44) = blk11 m c t0_0 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 11).trans (final m c), ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) (run_main m ρ hs)

end Cert.Proof.KernelIdeal.Value

end
-- ==== Proof.KernelIdealSort.lean ====
/-
  The rows in the order of their lengths, longest first: the order's permutation, and the two gathers that follow it.
-/
module

public import proofs.«01_k».proof.Proof.KernelIdealOut
public import Idealize.ShloMosaic.Lib.SortFacts
public import Idealize.ShloMosaic.Lib.ReduceAll
public import Idealize.ShloMosaic.Lib.WordCmp
public import Idealize.ShloMosaic.Lib.Routing.OpsPair
public import Idealize.ShloMosaic.Lib.Routing.OpsSet
public import Idealize.ShloMosaic.Lib.Routing.Ops

@[expose] public section

set_option maxRecDepth 65536

noncomputable section

namespace Cert.Proof.KernelIdeal.Value

open Cert.KernelIdeal Cert.KernelIdeal.Gen
open Idealize.ShloMosaic

/-- The row numbers in the order of the sort. -/
def order (x : IVec S256 32) : IVec S256 32 := (Host.sort2 S256 0 comparator_i32_i32_d0 (negi x) (iotaInDim S256 32 0)).2

/-- Row `a` is strictly longer than row `b`, in the words the sort compares. -/
def before (x : IVec S256 32) (a b : Fin 256) : Bool := IntOp.cmpi .slt (negi x (ix1 a)) (negi x (ix1 b)) == 1#1

/-- The row at a position of the order. -/
def src (x : IVec S256 32) : Fin 256 → Fin 256 := sortedFrom (before x)

/-- The order's entry is the number of the row at that position. -/
theorem order_at (x : IVec S256 32) (i : Fin 256) : order x (ix1 i) = BitVec.ofNat 32 (src x i).val := by
  have hd : 0 < S256.rank := Nat.zero_lt_one
  have e : ∀ c : Fin 256, (ix1 i : S256.Idx).along (⟨0, hd⟩ : Fin S256.rank) c = ix1 c := fun c =>
    (Shape.Idx.along_rank1 _ c).trans (Routing.ofFin_eq_ix1 c)
  have hb : (fun a b : Fin 256 => comparator_i32_i32_d0 (negi x ((ix1 i : S256.Idx).along ⟨0, hd⟩ a), iotaInDim S256 32 0 ((ix1 i : S256.Idx).along ⟨0, hd⟩ a))
      (negi x ((ix1 i : S256.Idx).along ⟨0, hd⟩ b), iotaInDim S256 32 0 ((ix1 i : S256.Idx).along ⟨0, hd⟩ b)) == 1#1) = before x := by
    funext a b
    rw [e a, e b]
    rfl
  unfold order Host.sort2
  rw [dif_pos hd]
  show iotaInDim S256 32 0 ((ix1 i : S256.Idx).along ⟨0, hd⟩ (sortedFrom (n := 256) (fun a b : Fin 256 => comparator_i32_i32_d0 _ _ == 1#1) i)) = _
  rw [hb, e]
  rfl

/-- No row is at two positions. -/
theorem src_inj (x : IVec S256 32) : Function.Injective (src x) := sortedFrom_injective _

/-- The strict comparison by lengths in range. -/
theorem before_iff (x : IVec S256 32) (hx : ∀ i, 1 ≤ (x (ix1 i)).toInt ∧ (x (ix1 i)).toInt ≤ 128) (a b : Fin 256) :
    before x a b = true ↔ (x (ix1 b)).toInt < (x (ix1 a)).toInt := by
  have hn : ∀ i, (negi x (ix1 i)).toInt = -(x (ix1 i)).toInt := fun i => by
    have := hx i
    show (-(x (ix1 i))).toInt = _
    rw [BitVec.toInt_neg, Int.bmod_def]
    omega
  unfold before
  rw [WordCmp.cmpi_slt_eq, hn, hn]
  by_cases h : -(x (ix1 a)).toInt < -(x (ix1 b)).toInt
  · simp only [h, decide_true]
    constructor
    · intro _; omega
    · intro _; rfl
  · simp only [h, decide_false]
    constructor
    · intro q; exact absurd q (by decide)
    · intro q; omega

/-- Along the order the lengths do not grow. -/
theorem src_down (x : IVec S256 32) (hx : ∀ i, 1 ≤ (x (ix1 i)).toInt ∧ (x (ix1 i)).toInt ≤ 128) (i j : Fin 256) (hij : i ≤ j) :
    (x (ix1 (src x j))).toInt ≤ (x (ix1 (src x i))).toInt := by
  rcases lt_or_eq_of_le hij with h | h
  · have hf : ∀ a b, before x a b = false ↔ (x (ix1 a)).toInt ≤ (x (ix1 b)).toInt := fun a b => by
      rw [← Bool.not_eq_true, before_iff x hx]; omega
    have := sortedFrom_noInversion (before x) (before x) (fun a b q => by rw [before_iff x hx] at q; rw [hf]; omega) (fun _ _ q => q)
      (fun a b c p q => by rw [hf] at p q ⊢; omega) i j h
    exact (hf _ _).1 this
  · rw [h]

/-- A word taken as a position, with the wrap of a negative one. -/
def wrapped (p : IVec S256 32) : IVec S256x1 32 :=
  broadcastInDim S256x1 ![0] bcast_S256_S256x1_0 (select (cmpi .slt p (broadcastInDim S256 ![] bcast_S_S256 (constantI S_ 32 0#32)))
    (addi p (broadcastInDim S256 ![] bcast_S_S256 (constantI S_ 32 256#32))) p)

/-- Which positions lie inside the table. -/
def inside (p : IVec S256 32) : IVec S256 1 :=
  Host.reduce IntOp.andi (andi (cmpi .sge (wrapped p) (broadcastInDim S256x1 ![] bcast_S_S256x1 (constantI S_ 32 0#32)))
    (cmpi .sle (wrapped p) (broadcastInDim S256x1 ![0, 1] bcast_S1x1_S256x1_0_1 (broadcastInDim S1x1 ![1] bcast_S1_S1x1_1 (constantI S1 32 255#32)))))
    (constantI S_ 1 1#1) reducesTo_S256x1_S256_d1 h_S_

/-- The rows of a table at the given positions. -/
def takeRows (x : IVec S256x128 32) (p : IVec S256 32) : IVec S256x128 32 :=
  select (broadcastInDim S256x128 ![0] bcast_S256_S256x128_0 (inside p)) (Host.gather gather_S256x128_S256x1_S256x128_1_0_n_n_0_1_1128 x (wrapped p))
    (broadcastInDim S256x128 ![] bcast_S_S256x128 (constantI S_ 32 2147483648#32))

/-- The entries of a column at the given positions. -/
def takeOne (x : IVec S256 32) (p : IVec S256 32) : IVec S256 32 :=
  select (inside p) (Host.gather gather_S256_S256x1_S256_n_0_n_n_0_1_1 x (wrapped p)) (broadcastInDim S256 ![] bcast_S_S256 (constantI S_ 32 2147483648#32))

section

variable (p : IVec S256 32) (f : Fin 256 → Fin 256) (hp : ∀ i, p (ix1 i) = BitVec.ofNat 32 (f i).val)
include hp

/-- A position in range is not wrapped. -/
theorem wrapped_at (i : Fin 256) : wrapped p (ix2 i (0 : Fin 1)) = BitVec.ofNat 32 (f i).val := by
  have hl := (f i).isLt
  unfold wrapped
  pointwise []
  rw [hp]
  exact Routing.wrap_of_lt _ _ (by rw [BitVec.toNat_ofNat]; omega)

/-- Every position lies inside. -/
theorem inside_at (i : Fin 256) : inside p (ix1 i) = 1#1 := by
  unfold inside
  refine Host.reduce_andi_one _ _ _ _ _ rfl fun j => ?_
  obtain ⟨a, b, rfl⟩ : ∃ (a : Fin 256) (b : Fin 1), j = ix2 a b := ⟨j 0, j 1, by funext k; match k with | ⟨0, _⟩ => rfl | ⟨1, _⟩ => rfl⟩
  obtain rfl : b = 0 := Subsingleton.elim _ _
  have hl := (f a).isLt
  have e := wrapped_at p f hp a
  have h1 : IntOp.cmpi .sge (BitVec.ofNat 32 (f a).val) 0#32 = 1#1 := by
    rw [WordCmp.cmpi_sge_eq, decide_eq_true]; rfl
    have q := StableHlo.Predicate.toInt_ofNat_small (f a).val (by omega)
    show (0 : Int) ≤ _
    rw [q]; omega
  have h2 : IntOp.cmpi .sle (BitVec.ofNat 32 (f a).val) 255#32 = 1#1 := by
    rw [WordCmp.cmpi_sle_eq, decide_eq_true]; rfl
    rw [StableHlo.Predicate.toInt_ofNat_small _ (by omega)]
    show _ ≤ (255 : Int)
    omega
  show IntOp.andi (IntOp.cmpi .sge (wrapped p (ix2 a 0)) 0#32) (IntOp.cmpi .sle (wrapped p (ix2 a 0)) 255#32) = 1#1
  rw [e, h1, h2]
  rfl

/-- The row taken at a position. -/
theorem takeRows_at (x : IVec S256x128 32) (i : Fin 256) (t : Fin 128) : takeRows x p (ix2 i t) = x (ix2 (f i) t) := by
  have e : broadcastInDim S256x128 ![0] bcast_S256_S256x128_0 (inside p) (ix2 i t) = 1#1 := by
    pointwise []
    exact inside_at p f hp i
  unfold takeRows
  show Scalar.select _ _ _ = _
  rw [e]
  exact Routing.gather_row _ rfl rfl rfl rfl rfl x _ i t (f i) (wrapped_at p f hp i) (by decide)

/-- The entry taken at a position. -/
theorem takeOne_at (x : IVec S256 32) (i : Fin 256) : takeOne x p (ix1 i) = x (ix1 (f i)) := by
  unfold takeOne
  show Scalar.select _ _ _ = _
  rw [inside_at p f hp i]
  exact Routing.gather_take1 _ rfl rfl rfl rfl x _ i (f i) (wrapped_at p f hp i) (by decide)

end

end Cert.Proof.KernelIdeal.Value

end
-- ==== Proof.GruRef.lean ====
/-
  The recurrent network as the reference computes it, and that it has the same states: the gate by the hyperbolic tangent is the
  logistic function, the step toward the old state is the convex combination, and the one-hot row picks the token's row of the table.
-/
module

public import proofs.«01_k».proof.Proof.Gru
public import Idealize.ShloMosaic.Lib.IdealHost

@[expose] public section

noncomputable section

namespace Cert.Proof.Gru

open Idealize.ShloMosaic

/-- The gate's activation, as a quotient. -/
def rgate (x : EReal) : EReal := Ideal.div 1 (1 + Ideal.exp (-x))

/-- The product of two rows side by side with a matrix, plus offsets, at one column. -/
def raff {ins outs n m : ℕ} (hn : n = ins + outs) (x : Fin ins → EReal) (h : Fin outs → EReal) (K : Fin n → Fin m → EReal) (b : Fin m → EReal) (j : Fin m) : EReal :=
  ((∑ k : Fin ins, x k * K ⟨k.val, by omega⟩ j) + ∑ k : Fin outs, h k * K ⟨ins + k.val, by omega⟩ j) + b j

/-- One cell of the reference. -/
def rcell {ins outs n m : ℕ} (hn : n = ins + outs) (hm : m = outs + outs) (L : Layer n outs m) (x : Fin ins → EReal) (h : Fin outs → EReal) (j : Fin outs) : EReal :=
  rgate (raff hn x h L.G L.bg (hi hm j)) * h j
    + (1 - rgate (raff hn x h L.G L.bg (hi hm j))) * Ideal.tanh (raff hn x (fun l => rgate (raff hn x h L.G L.bg (lo hm l)) * h l) L.C L.bc j)

/-- The reference's weights. -/
structure RNet where
  L0 : Layer 544 512 1024
  L1 : Layer 1536 1024 2048
  L2 : Layer 3072 2048 4096

/-- The three stacked cells of the reference. -/
def RNet.next (N : RNet) (x : Fin 32 → EReal) (s : St) : St where
  h0 := rcell rfl rfl N.L0 x s.h0
  h1 := rcell rfl rfl N.L1 (rcell rfl rfl N.L0 x s.h0) s.h1
  h2 := rcell rfl rfl N.L2 (rcell rfl rfl N.L1 (rcell rfl rfl N.L0 x s.h0) s.h1) s.h2

/-- The reference's state after `t` steps over the rows `x`, a row of length `len` keeping its state from step `len` on. -/
def RNet.st (N : RNet) (x : ℕ → Fin 32 → EReal) (len : BitVec 32) : ℕ → St
  | 0 => ⟨fun _ => 0, fun _ => 0, fun _ => 0⟩
  | t + 1 => if (BitVec.ofNat 32 t).slt len then N.next (x t) (N.st x len t) else N.st x len t

theorem half_eq : half = ((1 / 2 : ℝ) : EReal) := by
  unfold half
  simp [Ideal.ofBits, Ideal.ieee]
  norm_num [← EReal.coe_mul]

/-- The two forms of the gate agree on the reals. -/
theorem gate_real_eq (x : ℝ) : 1 / 2 * Real.tanh (1 / 2 * x) + 1 / 2 = (1 + Real.exp (-x))⁻¹ := by
  have ha : (0 : ℝ) < Real.exp (1 / 2 * x) := Real.exp_pos _
  have h1 : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, h1, Real.exp_neg]
  generalize Real.exp (1 / 2 * x) = a at ha
  have : (0 : ℝ) < a * a + 1 := by positivity
  field_simp
  ring

/-- The gate by the hyperbolic tangent is the logistic function. -/
theorem gate_eq (x : EReal) : gate x = rgate x := by
  have e : rgate x = Ideal.logistic x := rfl
  rw [e]
  unfold gate
  rw [half_eq]
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, Ideal.logistic_coe, ← EReal.coe_mul, ← EReal.coe_add, gate_real_eq]

/-- The hyperbolic tangent is real. -/
theorem tanh_real (x : EReal) : ∃ r : ℝ, Ideal.tanh x = (r : EReal) := by
  induction x with
  | bot => exact ⟨-1, rfl⟩
  | top => exact ⟨1, rfl⟩
  | coe r => exact ⟨_, rfl⟩

/-- The gate is real. -/
theorem gate_real (x : EReal) : ∃ r : ℝ, gate x = (r : EReal) := by
  obtain ⟨r, hr⟩ := tanh_real (half * x)
  refine ⟨1 / 2 * r + 1 / 2, ?_⟩
  unfold gate
  rw [hr, half_eq, ← EReal.coe_mul, ← EReal.coe_add]

/-- The step toward the old state is the convex combination, and real. -/
theorem mix_eq {u z h : EReal} (hu : ∃ r : ℝ, u = r) (hz : ∃ r : ℝ, z = r) (hh : ∃ r : ℝ, h = r) :
    mix u z h = z * h + (1 - z) * u ∧ ∃ r : ℝ, mix u z h = (r : EReal) := by
  obtain ⟨u, rfl⟩ := hu
  obtain ⟨z, rfl⟩ := hz
  obtain ⟨h, rfl⟩ := hh
  unfold mix
  refine ⟨?_, u + z * (h - u), ?_⟩
  · rw [← EReal.coe_one]; norm_cast; ring
  · norm_cast

/-- A sum over two rows side by side is the sum of the two sums. -/
theorem sum_cat {ins outs n : ℕ} (hn : n = ins + outs) (x : Fin ins → EReal) (h : Fin outs → EReal) (f : Fin n → EReal) :
    ∑ k, cat hn x h k * f k = (∑ k : Fin ins, x k * f ⟨k.val, by omega⟩) + ∑ k : Fin outs, h k * f ⟨ins + k.val, by omega⟩ := by
  subst hn
  rw [Fin.sum_univ_add]
  congr 1
  · refine Finset.sum_congr rfl fun k _ => ?_
    unfold cat
    rw [dif_pos (show (Fin.castAdd outs k).val < ins from k.isLt)]; rfl
  · refine Finset.sum_congr rfl fun k _ => ?_
    unfold cat
    rw [dif_neg (show ¬ (Fin.natAdd ins k).val < ins by simp)]
    congr 2
    apply Fin.ext; simp

/-- The affine map of two rows side by side. -/
theorem aff_cat {ins outs n m : ℕ} (hn : n = ins + outs) (x : Fin ins → EReal) (h : Fin outs → EReal) (K : Fin n → Fin m → EReal) (b : Fin m → EReal) (j : Fin m) :
    aff (cat hn x h) K b j = raff hn x h K b j := by
  unfold aff raff
  rw [sum_cat hn x h fun k => K k j]

/-- The cell is the reference's at a real state, given that the two affine maps agree. -/
theorem cell_of {ins outs n m ins' n' : ℕ} (hn : n = ins + outs) (hn' : n' = ins' + outs) (hm : m = outs + outs) (A : Layer n outs m) (B : Layer n' outs m)
    (x : Fin ins → EReal) (y : Fin ins' → EReal)
    (hG : ∀ h j, raff hn x h A.G A.bg j = raff hn' y h B.G B.bg j) (hC : ∀ h j, raff hn x h A.C A.bc j = raff hn' y h B.C B.bc j)
    (h : Fin outs → EReal) (hh : ∀ j, ∃ r : ℝ, h j = (r : EReal)) (j : Fin outs) :
    cell hn hm A x h j = rcell hn' hm B y h j ∧ ∃ r : ℝ, cell hn hm A x h j = (r : EReal) := by
  have hmix := mix_eq (tanh_real (aff (cat hn x fun l => gate (aff (cat hn x h) A.G A.bg (lo hm l)) * h l) A.C A.bc j))
    (gate_real (aff (cat hn x h) A.G A.bg (hi hm j))) (hh j)
  refine ⟨?_, hmix.2⟩
  refine hmix.1.trans ?_
  unfold rcell
  simp only [aff_cat, gate_eq, hG, hC]

/-- A one-hot row times a column picks the token's entry. -/
theorem sum_onehot (w : BitVec 32) (hw : w.toNat < 128) (f : Fin 128 → EReal) : ∑ k, onehot w k * f k = f ⟨w.toNat, hw⟩ := by
  rw [Finset.sum_eq_single (⟨w.toNat, hw⟩ : Fin 128)]
  · unfold onehot
    rw [if_pos (by simp), one_mul]
  · intro k _ hk
    unfold onehot
    rw [if_neg, zero_mul]
    intro h
    apply hk
    apply Fin.ext
    have := congrArg BitVec.toNat h
    rw [BitVec.toNat_ofNat] at this
    show k.val = w.toNat
    omega
  · intro h; exact absurd (Finset.mem_univ _) h

/-- The first layer's table against the reference's matrix: the token's row holds the embedding's row times the matrix's upper part,
    and the lower parts are the same. -/
structure Table (e : Fin 40 → Fin 32 → EReal) {m : ℕ} (A : Fin 640 → Fin m → EReal) (B : Fin 544 → Fin m → EReal) : Prop where
  top : ∀ (v : Fin 40) (j : Fin m), A ⟨v.val, by omega⟩ j = ∑ k : Fin 32, e v k * B ⟨k.val, by omega⟩ j
  low : ∀ (k : Fin 512) (j : Fin m), A ⟨128 + k.val, by omega⟩ j = B ⟨32 + k.val, by omega⟩ j

/-- The affine map over the one-hot row and the table is the reference's over the embedding's row. -/
theorem Table.raff {e : Fin 40 → Fin 32 → EReal} {m : ℕ} {A : Fin 640 → Fin m → EReal} {B : Fin 544 → Fin m → EReal} (T : Table e A B)
    (w : BitVec 32) (hw : w.toNat < 40) (h : Fin 512 → EReal) (b : Fin m → EReal) (j : Fin m) :
    Gru.raff (ins := 128) rfl (onehot w) h A b j = Gru.raff (ins := 32) rfl (e ⟨w.toNat, hw⟩) h B b j := by
  unfold Gru.raff
  rw [sum_onehot w (by omega) fun k => A ⟨k.val, by omega⟩ j]
  congr 2
  · exact T.top ⟨w.toNat, hw⟩ j
  · exact Finset.sum_congr rfl fun k _ => by rw [T.low k j]

/-- The kernel's network against the reference's. -/
structure Same (e : Fin 40 → Fin 32 → EReal) (N : Net) (M : RNet) : Prop where
  G : Table e N.L0.G M.L0.G
  C : Table e N.L0.C M.L0.C
  bg : N.L0.bg = M.L0.bg
  bc : N.L0.bc = M.L0.bc
  L1 : N.L1 = M.L1
  L2 : N.L2 = M.L2

/-- Real states. -/
structure RealSt (s : St) : Prop where
  h0 : ∀ j, ∃ r : ℝ, s.h0 j = (r : EReal)
  h1 : ∀ j, ∃ r : ℝ, s.h1 j = (r : EReal)
  h2 : ∀ j, ∃ r : ℝ, s.h2 j = (r : EReal)

/-- One step of the two networks from a real state. -/
theorem next_eq {e : Fin 40 → Fin 32 → EReal} {N : Net} {M : RNet} (S : Same e N M) (w : BitVec 32) (hw : w.toNat < 40) (s : St) (hs : RealSt s) :
    N.next (onehot w) s = M.next (e ⟨w.toNat, hw⟩) s ∧ RealSt (N.next (onehot w) s) := by
  have c0 := cell_of (ins := 128) (ins' := 32) rfl rfl rfl N.L0 M.L0 (onehot w) (e ⟨w.toNat, hw⟩)
    (fun h j => by rw [S.bg]; exact S.G.raff w hw h _ j) (fun h j => by rw [S.bc]; exact S.C.raff w hw h _ j) s.h0 hs.h0
  have e0 := funext fun j => (c0 j).1
  have c1 := cell_of (ins := 512) (ins' := 512) rfl rfl rfl N.L1 M.L1 (cell rfl rfl N.L0 (onehot w) s.h0) (rcell rfl rfl M.L0 (e ⟨w.toNat, hw⟩) s.h0)
    (fun h j => by rw [S.L1, e0]) (fun h j => by rw [S.L1, e0]) s.h1 hs.h1
  have e1 := funext fun j => (c1 j).1
  have c2 := cell_of (ins := 1024) (ins' := 1024) rfl rfl rfl N.L2 M.L2 (cell rfl rfl N.L1 (cell rfl rfl N.L0 (onehot w) s.h0) s.h1)
    (rcell rfl rfl M.L1 (rcell rfl rfl M.L0 (e ⟨w.toNat, hw⟩) s.h0) s.h1)
    (fun h j => by rw [S.L2, e1]) (fun h j => by rw [S.L2, e1]) s.h2 hs.h2
  exact ⟨St.ext e0 e1 (funext fun j => (c2 j).1), ⟨fun j => (c0 j).2, fun j => (c1 j).2, fun j => (c2 j).2⟩⟩

/-- The two networks have the same states over tokens in range, and the states are real. -/
theorem st_eq {e : Fin 40 → Fin 32 → EReal} {N : Net} {M : RNet} (S : Same e N M) (tok : ℕ → BitVec 32) (x : ℕ → Fin 32 → EReal) (len : BitVec 32) (n : ℕ)
    (hx : ∀ t, t < n → ∃ hw : (tok t).toNat < 40, x t = e ⟨(tok t).toNat, hw⟩) :
    N.st tok len n = M.st x len n ∧ RealSt (N.st tok len n) := by
  induction n with
  | zero => exact ⟨rfl, fun _ => ⟨0, rfl⟩, fun _ => ⟨0, rfl⟩, fun _ => ⟨0, rfl⟩⟩
  | succ n ih =>
    obtain ⟨h1, h2⟩ := ih fun t ht => hx t (by omega)
    obtain ⟨hw, hxn⟩ := hx n (by omega)
    have := next_eq S (tok n) hw _ h2
    unfold Net.st RNet.st
    by_cases hl : (BitVec.ofNat 32 n).slt len = true
    · rw [if_pos hl, if_pos hl, ← h1, hxn]; exact this
    · rw [if_neg hl, if_neg hl]; exact ⟨h1, h2⟩

end Cert.Proof.Gru

end
-- ==== Proof.KernelIdealTables.lean ====
/-
  The first layer's tables: the embedding times the matrix's upper part in the first rows, zeros below it, then the matrix's lower part.
-/
module

public import proofs.«01_k».proof.Proof.KernelIdealOut
public import proofs.«01_k».proof.Proof.GruRef
public import Idealize.ShloMosaic.Lib.Routing.OpsPair
public import Idealize.ShloMosaic.Lib.Routing.OpsSet

@[expose] public section

set_option maxRecDepth 65536

noncomputable section

namespace Cert.Proof.KernelIdeal.Value

open Cert.KernelIdeal Cert.KernelIdeal.Gen
open Idealize.ShloMosaic
open Cert.Proof.Gru

open Idealize.ShloMosaic.Routing (shape1 shape2 resultIdx?_eq_some scatter_set_hit)

/-- A block written over a matrix at row zero, read inside the block. -/
theorem scatter_top {R A C : ℕ} {α : Type} (d : ScatterDims (shape2 R C) (shape1 1) (shape2 A C)) (hu : d.updateWindowDims = [0, 1])
    (hi : d.insertedWindowDims = []) (x : (shape2 R C).Idx → α) (idx : IVec (shape1 1) 32) (h0 : ∀ i, idx i = 0#32)
    (upd : (shape2 A C).Idx → α) (r : Fin A) (c : Fin C) (hr : r.val < R) :
    Host.scatter d (fun _ b => b) x idx upd (ix2 ⟨r.val, hr⟩ c) = upd (ix2 r c) := by
  have hk : d.sKept = [0, 1] := by
    show (shape2 R C).kept d.insertedWindowDims = _
    rw [hi]; rfl
  have hs : ∀ k a, d.start k idx a = 0 := fun k a => by
    unfold ScatterDims.start
    split
    · rw [h0]; rfl
    · rfl
  have pick : ∀ (l l' : List (Fin 2)) (a : Fin 2), l = [0, 1] → l' = [0, 1] → ∀ h : l'.idxOf a < l.length, l[l'.idxOf a]'h = a := by
    intro l l' a hl hl' h
    subst hl
    subst hl'
    fin_cases a <;> rfl
  have hw : ∀ (k : (shape2 A C).Idx) (a : Fin 2), d.window k a = (k a).val := fun k a => by
    unfold ScatterDims.window
    rw [dif_pos (show a ∈ d.sKept by rw [hk]; fin_cases a <;> simp)]
    rw [pick _ _ a hu hk]
  refine scatter_set_hit d x idx upd _ _ (fun k q => ?_) (ix2 r c) ?_
  · rw [resultIdx?_eq_some] at q
    refine congrArg upd (funext fun a => Fin.ext ?_)
    have := q a
    rw [hs, hw] at this
    match a, this with
    | ⟨0, _⟩, this =>
      have e : (0 : Int) + ((k 0).val : Int) = (r.val : Int) := this
      show (k 0).val = r.val
      omega
    | ⟨1, _⟩, this =>
      have e : (0 : Int) + ((k 1).val : Int) = (c.val : Int) := this
      show (k 1).val = c.val
      omega
  · rw [resultIdx?_eq_some]
    intro a
    rw [hs, hw]
    match a with
    | ⟨0, _⟩ => show (0 : Int) + (r.val : Int) = r.val; omega
    | ⟨1, _⟩ => show (0 : Int) + (c.val : Int) = c.val; omega

/-- The gates' table. -/
def tableG (e : FVec Ideal S40x32 .f32) (K : FVec Ideal S544x1024 .f32) : FVec Ideal S640x1024 .bf16 :=
  truncf .bf16 (concatenate S640x1024 0
    [⟨S128x1024, Host.scatter scatter_S128x1024_S1_S40x1024_01_n_0_0 (fun _ b => b) (broadcastInDim S128x1024 ![] bcast_S_S128x1024 (constant S_ .f32 0x00000000#32))
        (broadcastInDim S1 ![] bcast_S_S1 (constantI S_ 32 0#32))
        (Host.dotGeneral dot_S40x32_S32x1024_S40x1024_1_0_0_1_n_n none e (extractStridedSlice S32x1024 ![0, 0] K slices_S544x1024_S32x1024_0_0))⟩,
      ⟨S512x1024, extractStridedSlice S512x1024 ![32, 0] K slices_S544x1024_S512x1024_32_0⟩] concatenates_S128x1024_S512x1024_S640x1024_d0) bitsLt_bf16_f32

/-- The candidate's table. -/
def tableC (e : FVec Ideal S40x32 .f32) (K : FVec Ideal S544x512 .f32) : FVec Ideal S640x512 .bf16 :=
  truncf .bf16 (concatenate S640x512 0
    [⟨S128x512, Host.scatter scatter_S128x512_S1_S40x512_01_n_0_0 (fun _ b => b) (broadcastInDim S128x512 ![] bcast_S_S128x512 (constant S_ .f32 0x00000000#32))
        (broadcastInDim S1 ![] bcast_S_S1 (constantI S_ 32 0#32))
        (Host.dotGeneral dot_S40x32_S32x512_S40x512_1_0_0_1_n_n none e (extractStridedSlice S32x512 ![0, 0] K slices_S544x512_S32x512_0_0))⟩,
      ⟨S512x512, extractStridedSlice S512x512 ![32, 0] K slices_S544x512_S512x512_32_0⟩] concatenates_S128x512_S512x512_S640x512_d0) bitsLt_bf16_f32

/-- The gates' table stands for the gates' matrix. -/
theorem tableG_is (e : FVec Ideal S40x32 .f32) (K : FVec Ideal S544x1024 .f32) :
    Table (fun v k => (e (ix2 v k) : EReal)) (mat (e := .bf16) (tableG e K)) (fun k j => (K (ix2 k j) : EReal)) where
  top v j := by
    have hv := v.isLt
    unfold mat tableG
    generalize hS : Host.scatter scatter_S128x1024_S1_S40x1024_01_n_0_0 _ _ _ _ = S
    have e1 : S (ix2 (⟨v.val, by omega⟩ : Fin 128) j) = ∑ k : Fin 32, (e (ix2 v k) : EReal) * (K (ix2 (⟨k.val, by omega⟩ : Fin 544) j) : EReal) := by
      rw [← hS]
      refine (scatter_top scatter_S128x1024_S1_S40x1024_01_n_0_0 rfl rfl _ _ (fun _ => rfl) _ v j (by omega)).trans ?_
      pointwise []
    pointwise []
    rw [dif_pos (show v.val < 128 by omega)]
    exact e1
  low k j := by
    unfold mat tableG
    generalize Host.scatter scatter_S128x1024_S1_S40x1024_01_n_0_0 _ _ _ _ = S
    pointwise []

/-- The candidate's table stands for the candidate's matrix. -/
theorem tableC_is (e : FVec Ideal S40x32 .f32) (K : FVec Ideal S544x512 .f32) :
    Table (fun v k => (e (ix2 v k) : EReal)) (mat (e := .bf16) (tableC e K)) (fun k j => (K (ix2 k j) : EReal)) where
  top v j := by
    have hv := v.isLt
    unfold mat tableC
    generalize hS : Host.scatter scatter_S128x512_S1_S40x512_01_n_0_0 _ _ _ _ = S
    have e1 : S (ix2 (⟨v.val, by omega⟩ : Fin 128) j) = ∑ k : Fin 32, (e (ix2 v k) : EReal) * (K (ix2 (⟨k.val, by omega⟩ : Fin 544) j) : EReal) := by
      rw [← hS]
      refine (scatter_top scatter_S128x512_S1_S40x512_01_n_0_0 rfl rfl _ _ (fun _ => rfl) _ v j (by omega)).trans ?_
      pointwise []
    pointwise []
    rw [dif_pos (show v.val < 128 by omega)]
    exact e1
  low k j := by
    unfold mat tableC
    generalize Host.scatter scatter_S128x512_S1_S40x512_01_n_0_0 _ _ _ _ = S
    pointwise []

end Cert.Proof.KernelIdeal.Value

end
-- ==== Proof.KernelIdealHost.lean ====
/-
  The arrays the host lines before the kernel's region leave, as functions of the arguments, and the region's blocks of them.
-/
module

public import proofs.«01_k».proof.Proof.KernelIdealLaunchValue
public import proofs.«01_k».proof.Proof.KernelIdealSort
public import proofs.«01_k».proof.Proof.KernelIdealTables
public import Idealize.ShloMosaic.Lib.StableHlo.RunRead

@[expose] public section

set_option maxRecDepth 65536

noncomputable section

namespace Cert.Proof.KernelIdeal.Value

open Cert.KernelIdeal Cert.KernelIdeal.Gen
open Idealize.ShloMosaic Idealize.ShloMosaic.StableHlo Idealize.ShloMosaic.TcCoe
open Cert.Proof.Gru

variable (m : (ℓ : Loc nD τ sig) → Buf (Elt Ideal) ℓ) (c : Dev nD)

/-- The order of the rows. -/
def perm : IVec S256 32 := order (m ((c.tc : Thread nD τ).loc main_arg1))

/-- Two arrays stacked, piece by piece. -/
theorem stack_congr {s t u : Shape} {α : Type} (a : Fin u.rank) {x x' : s.Idx → α} {y y' : t.Idx → α} (hx : x = x') (hy : y = y') (h : Shape.Concatenates [s, t] u a) :
    concatenate u a [⟨s, x⟩, ⟨t, y⟩] h = concatenate u a [⟨s, x'⟩, ⟨t, y'⟩] h := by
  subst hx
  subst hy
  rfl

/-- The gates' table of the first layer. -/
theorem V_v7 : V m c main_v7 = tableG (m ((c.tc : Thread nD τ).loc main_arg2)) (m ((c.tc : Thread nD τ).loc main_arg3)) := by
  unfold_abbrev_sides
  simp only [List.flatten_cons, List.flatten_nil, List.append_nil, List.cons_append, List.nil_append]
  after_reads_simp
  unfold tableG
  refine congrArg (fun z => truncf (F := Ideal) .bf16 z bitsLt_bf16_f32) (stack_congr _ ?_ ?_ _)
  · after_reads_simp
  · after_reads_simp

/-- The candidate's table of the first layer. -/
theorem V_v15 : V m c main_v15 = tableC (m ((c.tc : Thread nD τ).loc main_arg2)) (m ((c.tc : Thread nD τ).loc main_arg5)) := by
  unfold_abbrev_sides
  simp only [List.flatten_cons, List.flatten_nil, List.append_nil, List.cons_append, List.nil_append]
  after_reads_simp
  unfold tableC
  refine congrArg (fun z => truncf (F := Ideal) .bf16 z bitsLt_bf16_f32) (stack_congr _ ?_ ?_ _)
  · after_reads_simp
  · after_reads_simp

/-- Argument 7 in the narrow format. -/
theorem V_v16 : V m c main_v16 = (truncf (F := Ideal) .bf16 (m ((c.tc : Thread nD τ).loc main_arg7)) bitsLt_bf16_f32 : FVec Ideal _ .bf16) := by
  unfold_abbrev_sides
  simp only [List.flatten_cons, List.flatten_nil, List.append_nil, List.cons_append, List.nil_append]
  after_reads_simp
  all_goals rfl

/-- Argument 9 in the narrow format. -/
theorem V_v17 : V m c main_v17 = (truncf (F := Ideal) .bf16 (m ((c.tc : Thread nD τ).loc main_arg9)) bitsLt_bf16_f32 : FVec Ideal _ .bf16) := by
  unfold_abbrev_sides
  simp only [List.flatten_cons, List.flatten_nil, List.append_nil, List.cons_append, List.nil_append]
  after_reads_simp
  all_goals rfl

/-- Argument 11 in the narrow format. -/
theorem V_v18 : V m c main_v18 = (truncf (F := Ideal) .bf16 (m ((c.tc : Thread nD τ).loc main_arg11)) bitsLt_bf16_f32 : FVec Ideal _ .bf16) := by
  unfold_abbrev_sides
  simp only [List.flatten_cons, List.flatten_nil, List.append_nil, List.cons_append, List.nil_append]
  after_reads_simp
  all_goals rfl

/-- Argument 13 in the narrow format. -/
theorem V_v19 : V m c main_v19 = (truncf (F := Ideal) .bf16 (m ((c.tc : Thread nD τ).loc main_arg13)) bitsLt_bf16_f32 : FVec Ideal _ .bf16) := by
  unfold_abbrev_sides
  simp only [List.flatten_cons, List.flatten_nil, List.append_nil, List.cons_append, List.nil_append]
  after_reads_simp
  all_goals rfl

/-- The last layer's weights from column 0 on. -/
theorem V_v22 : V m c main_v22 = (truncf (F := Ideal) .bf16 (extractStridedSlice S512x512 ![0, 0] (transpose S3584x512 [1, 0] (m ((c.tc : Thread nD τ).loc main_arg15)) transposes_S512x3584_S3584x512_1_0) slices_S3584x512_S512x512_0_0) bitsLt_bf16_f32 : FVec Ideal _ .bf16) := by
  unfold_abbrev_sides
  simp only [List.flatten_cons, List.flatten_nil, List.append_nil, List.cons_append, List.nil_append]
  after_reads_simp
  all_goals rfl

/-- The last layer's weights from column 512 on. -/
theorem V_v24 : V m c main_v24 = (truncf (F := Ideal) .bf16 (extractStridedSlice S1024x512 ![512, 0] (transpose S3584x512 [1, 0] (m ((c.tc : Thread nD τ).loc main_arg15)) transposes_S512x3584_S3584x512_1_0) slices_S3584x512_S1024x512_512_0) bitsLt_bf16_f32 : FVec Ideal _ .bf16) := by
  unfold_abbrev_sides
  simp only [List.flatten_cons, List.flatten_nil, List.append_nil, List.cons_append, List.nil_append]
  after_reads_simp
  all_goals rfl

/-- The last layer's weights from column 1536 on. -/
theorem V_v26 : V m c main_v26 = (truncf (F := Ideal) .bf16 (extractStridedSlice S2048x512 ![1536, 0] (transpose S3584x512 [1, 0] (m ((c.tc : Thread nD τ).loc main_arg15)) transposes_S512x3584_S3584x512_1_0) slices_S3584x512_S2048x512_1536_0) bitsLt_bf16_f32 : FVec Ideal _ .bf16) := by
  unfold_abbrev_sides
  simp only [List.flatten_cons, List.flatten_nil, List.append_nil, List.cons_append, List.nil_append]
  after_reads_simp
  all_goals rfl

/-- The groups' bounds. -/
theorem V_v32 : V m c main_v32 = shapeCast S4x1 (Host.slice S4 ![0] ![64] (takeOne (m ((c.tc : Thread nD τ).loc main_arg1)) (perm m c)) slicesBy_S256_S4_0s64) shapeCasts_S4_S4x1 := by
  unfold_abbrev_sides
  simp only [List.flatten_cons, List.flatten_nil, List.append_nil, List.cons_append, List.nil_append]
  after_reads_simp
  simp only [TRef.ofBuf_toBuf]
  all_goals rfl

/-- The order as a row. -/
theorem V_v33 : V m c main_v33 = shapeCast S1x256 (perm m c) shapeCasts_S256_S1x256 := by
  unfold_abbrev_sides
  simp only [List.flatten_cons, List.flatten_nil, List.append_nil, List.cons_append, List.nil_append]
  after_reads_simp
  try simp only [TRef.ofBuf_toBuf]
  all_goals rfl

/-- The tokens in the order of the rows, position by position. -/
theorem V_v35 : V m c main_v35 = shapeCast S128x1x256 (transpose S128x256 [1, 0] (takeRows (m ((c.tc : Thread nD τ).loc main_arg0)) (perm m c)) transposes_S256x128_S128x256_1_0) shapeCasts_S128x256_S128x1x256 := by
  unfold_abbrev_sides
  simp only [List.flatten_cons, List.flatten_nil, List.append_nil, List.cons_append, List.nil_append]
  after_reads_simp
  simp only [TRef.ofBuf_toBuf]
  all_goals rfl

/-- The lengths in the order of the rows. -/
theorem V_v36 : V m c main_v36 = shapeCast S256x1 (takeOne (m ((c.tc : Thread nD τ).loc main_arg1)) (perm m c)) shapeCasts_S256_S256x1 := by
  unfold_abbrev_sides
  simp only [List.flatten_cons, List.flatten_nil, List.append_nil, List.cons_append, List.nil_append]
  after_reads_simp
  simp only [TRef.ofBuf_toBuf]
  all_goals rfl

/-- Argument 4 as a row. -/
theorem V_v37 : V m c main_v37 = shapeCast S1x1024 (m ((c.tc : Thread nD τ).loc main_arg4)) shapeCasts_S1024_S1x1024 := by
  unfold_abbrev_sides
  simp only [List.flatten_cons, List.flatten_nil, List.append_nil, List.cons_append, List.nil_append]
  after_reads_simp
  all_goals rfl

/-- Argument 6 as a row. -/
theorem V_v38 : V m c main_v38 = shapeCast S1x512 (m ((c.tc : Thread nD τ).loc main_arg6)) shapeCasts_S512_S1x512 := by
  unfold_abbrev_sides
  simp only [List.flatten_cons, List.flatten_nil, List.append_nil, List.cons_append, List.nil_append]
  after_reads_simp
  all_goals rfl

/-- Argument 8 as a row. -/
theorem V_v39 : V m c main_v39 = shapeCast S1x2048 (m ((c.tc : Thread nD τ).loc main_arg8)) shapeCasts_S2048_S1x2048 := by
  unfold_abbrev_sides
  simp only [List.flatten_cons, List.flatten_nil, List.append_nil, List.cons_append, List.nil_append]
  after_reads_simp
  all_goals rfl

/-- Argument 10 as a row. -/
theorem V_v40 : V m c main_v40 = shapeCast S1x1024 (m ((c.tc : Thread nD τ).loc main_arg10)) shapeCasts_S1024_S1x1024 := by
  unfold_abbrev_sides
  simp only [List.flatten_cons, List.flatten_nil, List.append_nil, List.cons_append, List.nil_append]
  after_reads_simp
  all_goals rfl

/-- Argument 12 as a row. -/
theorem V_v41 : V m c main_v41 = shapeCast S1x4096 (m ((c.tc : Thread nD τ).loc main_arg12)) shapeCasts_S4096_S1x4096 := by
  unfold_abbrev_sides
  simp only [List.flatten_cons, List.flatten_nil, List.append_nil, List.cons_append, List.nil_append]
  after_reads_simp
  all_goals rfl

/-- Argument 14 as a row. -/
theorem V_v42 : V m c main_v42 = shapeCast S1x2048 (m ((c.tc : Thread nD τ).loc main_arg14)) shapeCasts_S2048_S1x2048 := by
  unfold_abbrev_sides
  simp only [List.flatten_cons, List.flatten_nil, List.append_nil, List.cons_append, List.nil_append]
  after_reads_simp
  all_goals rfl

/-- Argument 16 as a row. -/
theorem V_v43 : V m c main_v43 = shapeCast S1x512 (m ((c.tc : Thread nD τ).loc main_arg16)) shapeCasts_S512_S1x512 := by
  unfold_abbrev_sides
  simp only [List.flatten_cons, List.flatten_nil, List.append_nil, List.cons_append, List.nil_append]
  after_reads_simp
  all_goals rfl

/-- Window 0's block is its whole array. -/
theorem iblk_0 (t : Fin cfg0.N) : iblk m c 0 t = V m c main_v32 := by
  have h : ∀ a, win0_0.index t0_0 a = 0 := by decide +kernel
  rw [fin_N0 t]
  funext y
  unfold iblk
  rw [View.read_apply, cast_eq]
  refine congrArg (V m c main_v32) (funext fun a => Fin.ext ?_)
  blk_simp
  exact (congrArg (fun z => z * win0_0.size a + (y a).val) (h a)).trans (by simp)

/-- Window 1's block is its whole array. -/
theorem iblk_1 (t : Fin cfg0.N) : iblk m c 1 t = V m c main_v35 := by
  have h : ∀ a, win0_1.index t0_0 a = 0 := by decide +kernel
  rw [fin_N0 t]
  funext y
  unfold iblk
  rw [View.read_apply, cast_eq]
  refine congrArg (V m c main_v35) (funext fun a => Fin.ext ?_)
  blk_simp
  exact (congrArg (fun z => z * win0_1.size a + (y a).val) (h a)).trans (by simp)

/-- Window 2's block is its whole array. -/
theorem iblk_2 (t : Fin cfg0.N) : iblk m c 2 t = V m c main_v36 := by
  have h : ∀ a, win0_2.index t0_0 a = 0 := by decide +kernel
  rw [fin_N0 t]
  funext y
  unfold iblk
  rw [View.read_apply, cast_eq]
  refine congrArg (V m c main_v36) (funext fun a => Fin.ext ?_)
  blk_simp
  exact (congrArg (fun z => z * win0_2.size a + (y a).val) (h a)).trans (by simp)

/-- Window 3's block is its whole array. -/
theorem iblk_3 (t : Fin cfg0.N) : iblk m c 3 t = V m c main_v33 := by
  have h : ∀ a, win0_3.index t0_0 a = 0 := by decide +kernel
  rw [fin_N0 t]
  funext y
  unfold iblk
  rw [View.read_apply, cast_eq]
  refine congrArg (V m c main_v33) (funext fun a => Fin.ext ?_)
  blk_simp
  exact (congrArg (fun z => z * win0_3.size a + (y a).val) (h a)).trans (by simp)

/-- Window 4's block is its whole array. -/
theorem iblk_4 (t : Fin cfg0.N) : iblk m c 4 t = V m c main_v37 := by
  have h : ∀ a, win0_4.index t0_0 a = 0 := by decide +kernel
  rw [fin_N0 t]
  funext y
  unfold iblk
  rw [View.read_apply, cast_eq]
  refine congrArg (V m c main_v37) (funext fun a => Fin.ext ?_)
  blk_simp
  exact (congrArg (fun z => z * win0_4.size a + (y a).val) (h a)).trans (by simp)

/-- Window 5's block is its whole array. -/
theorem iblk_5 (t : Fin cfg0.N) : iblk m c 5 t = V m c main_v38 := by
  have h : ∀ a, win0_5.index t0_0 a = 0 := by decide +kernel
  rw [fin_N0 t]
  funext y
  unfold iblk
  rw [View.read_apply, cast_eq]
  refine congrArg (V m c main_v38) (funext fun a => Fin.ext ?_)
  blk_simp
  exact (congrArg (fun z => z * win0_5.size a + (y a).val) (h a)).trans (by simp)

/-- Window 6's block is its whole array. -/
theorem iblk_6 (t : Fin cfg0.N) : iblk m c 6 t = V m c main_v39 := by
  have h : ∀ a, win0_6.index t0_0 a = 0 := by decide +kernel
  rw [fin_N0 t]
  funext y
  unfold iblk
  rw [View.read_apply, cast_eq]
  refine congrArg (V m c main_v39) (funext fun a => Fin.ext ?_)
  blk_simp
  exact (congrArg (fun z => z * win0_6.size a + (y a).val) (h a)).trans (by simp)

/-- Window 7's block is its whole array. -/
theorem iblk_7 (t : Fin cfg0.N) : iblk m c 7 t = V m c main_v40 := by
  have h : ∀ a, win0_7.index t0_0 a = 0 := by decide +kernel
  rw [fin_N0 t]
  funext y
  unfold iblk
  rw [View.read_apply, cast_eq]
  refine congrArg (V m c main_v40) (funext fun a => Fin.ext ?_)
  blk_simp
  exact (congrArg (fun z => z * win0_7.size a + (y a).val) (h a)).trans (by simp)

/-- Window 8's block is its whole array. -/
theorem iblk_8 (t : Fin cfg0.N) : iblk m c 8 t = V m c main_v41 := by
  have h : ∀ a, win0_8.index t0_0 a = 0 := by decide +kernel
  rw [fin_N0 t]
  funext y
  unfold iblk
  rw [View.read_apply, cast_eq]
  refine congrArg (V m c main_v41) (funext fun a => Fin.ext ?_)
  blk_simp
  exact (congrArg (fun z => z * win0_8.size a + (y a).val) (h a)).trans (by simp)

/-- Window 9's block is its whole array. -/
theorem iblk_9 (t : Fin cfg0.N) : iblk m c 9 t = V m c main_v42 := by
  have h : ∀ a, win0_9.index t0_0 a = 0 := by decide +kernel
  rw [fin_N0 t]
  funext y
  unfold iblk
  rw [View.read_apply, cast_eq]
  refine congrArg (V m c main_v42) (funext fun a => Fin.ext ?_)
  blk_simp
  exact (congrArg (fun z => z * win0_9.size a + (y a).val) (h a)).trans (by simp)

/-- Window 10's block is its whole array. -/
theorem iblk_10 (t : Fin cfg0.N) : iblk m c 10 t = V m c main_v43 := by
  have h : ∀ a, win0_10.index t0_0 a = 0 := by decide +kernel
  rw [fin_N0 t]
  funext y
  unfold iblk
  rw [View.read_apply, cast_eq]
  refine congrArg (V m c main_v43) (funext fun a => Fin.ext ?_)
  blk_simp
  exact (congrArg (fun z => z * win0_10.size a + (y a).val) (h a)).trans (by simp)

end Cert.Proof.KernelIdeal.Value

end
-- ==== Proof.KernelIdealResult.lean ====
/-
  The kernel's result, element by element, as the recurrent network of the arguments.
-/
module

public import proofs.«01_k».proof.Proof.KernelIdealHost

@[expose] public section

set_option maxRecDepth 65536

noncomputable section

namespace Cert.Proof.KernelIdeal.Value

open Cert.KernelIdeal Cert.KernelIdeal.Gen
open Idealize.ShloMosaic Idealize.ShloMosaic.StableHlo Idealize.ShloMosaic.TcCoe
open Cert.Proof.Gru

variable (m : (ℓ : Loc nD τ sig) → Buf (Elt Ideal) ℓ) (c : Dev nD)

/-- The tokens. -/
def tokens : IVec S256x128 32 := (m ((c.tc : Thread nD τ).loc main_arg0))
/-- The lengths. -/
def lens : IVec S256 32 := (m ((c.tc : Thread nD τ).loc main_arg1))

/-- The row at a position of the order. -/
def at_ (a : Fin 256) : Fin 256 := src (lens m c) a

/-- The order's entry. -/
theorem perm_is (a : Fin 256) : perm m c (ix1 a) = BitVec.ofNat 32 (at_ m c a).val := order_at _ a

/-- A row of entries as a block of one row. -/
theorem row_cast {n : ℕ} {α : Type} (y : (⟨1, ![n]⟩ : Shape).Idx → α) (h : (⟨1, ![n]⟩ : Shape).ShapeCasts ⟨2, ![1, n]⟩) (j : Fin n) :
    shapeCast ⟨2, ![1, n]⟩ y h (ix2 (0 : Fin 1) j) = y (ix1 j) := by
  unfold shapeCast
  refine congrArg y (Shape.reshapeEquiv_eq_of_rowMajor _ ?_)
  rw [Shape.rowMajor_val_one, Shape.rowMajor_val_two]
  show j.val = 0 * n + j.val
  omega

/-- A row of entries as a column. -/
theorem column_at (y : IVec S256 32) (a : Fin 256) : shapeCast S256x1 y shapeCasts_S256_S256x1 (ix2 a (0 : Fin 1)) = y (ix1 a) := by
  pointwise []

/-- A table turned over, with an axis of one entry. -/
theorem turned_at (y : IVec S256x128 32) (a : Fin 256) (k : Fin 128) :
    shapeCast S128x1x256 (transpose S128x256 [1, 0] y transposes_S256x128_S128x256_1_0) shapeCasts_S128x256_S128x1x256 (ix3 k (0 : Fin 1) a) = y (ix2 a k) := by
  pointwise []

/-- Every sixty-fourth entry, as a column. -/
theorem every_at (y : IVec S256 32) (q : Fin 4) :
    shapeCast S4x1 (Host.slice S4 ![0] ![64] y slicesBy_S256_S4_0s64) shapeCasts_S4_S4x1 (ix2 q (0 : Fin 1)) = y (ix1 ⟨64 * q.val, by omega⟩) := by
  pointwise []

/-- The order's block. -/
theorem perm_blk (a : Fin 256) (t : Fin cfg0.N) : (iblk m c 3 t : IVec S1x256 32) (ix2 (0 : Fin 1) a) = BitVec.ofNat 32 (at_ m c a).val := by
  rw [iblk_3, V_v33]
  exact (row_cast _ _ a).trans (perm_is m c a)

/-- The lengths' block. -/
theorem len_blk (a : Fin 256) (t : Fin cfg0.N) : (iblk m c 2 t : IVec S256x1 32) (ix2 a (0 : Fin 1)) = lens m c (ix1 (at_ m c a)) := by
  rw [iblk_2, V_v36]
  exact (column_at _ a).trans (takeOne_at _ (at_ m c) (perm_is m c) (lens m c) a)

/-- The tokens' block. -/
theorem tok_blk (a : Fin 256) (k : Fin 128) (t : Fin cfg0.N) : (iblk m c 1 t : IVec S128x1x256 32) (ix3 k (0 : Fin 1) a) = tokens m c (ix2 (at_ m c a) k) := by
  rw [iblk_1, V_v35]
  exact (turned_at _ a k).trans (takeRows_at _ (at_ m c) (perm_is m c) (tokens m c) a k)

/-- The bounds' block. -/
theorem bound_blk (q : Fin 4) (t : Fin cfg0.N) : (iblk m c 0 t : IVec S4x1 32) (ix2 q (0 : Fin 1)) = lens m c (ix1 (at_ m c ⟨64 * q.val, by omega⟩)) := by
  rw [iblk_0, V_v32]
  exact (every_at _ q).trans (takeOne_at _ (at_ m c) (perm_is m c) (lens m c) ⟨64 * q.val, by omega⟩)

/-- The blocks are in the order of the lengths. -/
theorem sorted (hl : ∀ i, 1 ≤ (lens m c (ix1 i)).toInt ∧ (lens m c (ix1 i)).toInt ≤ 128) (t : Fin cfg0.N) : Sorted (iblk m c 0 t) (iblk m c 2 t) where
  down q q' h := by
    have e := bound_blk m c q t
    have e' := bound_blk m c q' t
    have := src_down (lens m c) hl ⟨64 * q.val, by omega⟩ ⟨64 * q'.val, by omega⟩ (by rw [Fin.le_def] at h ⊢; simp only; omega)
    rw [← at_, ← at_, ← e, ← e'] at this
    exact this
  below q i h := by
    have e := bound_blk m c q t
    have e' := len_blk m c i t
    have := src_down (lens m c) hl ⟨64 * q.val, by omega⟩ i (by rw [Fin.le_def]; exact h)
    rw [← at_, ← at_, ← e, ← e'] at this
    exact this

/-- Argument 4's block. -/
theorem bias_4 (t : Fin cfg0.N) : row (e := .f32) (iblk m c 4 t : FVec Ideal S1x1024 .f32) = fun j => ((m ((c.tc : Thread nD τ).loc main_arg4)) (ix1 j) : EReal) := by
  funext j
  rw [iblk_4, V_v37]
  exact row_cast _ _ j

/-- Argument 6's block. -/
theorem bias_6 (t : Fin cfg0.N) : row (e := .f32) (iblk m c 5 t : FVec Ideal S1x512 .f32) = fun j => ((m ((c.tc : Thread nD τ).loc main_arg6)) (ix1 j) : EReal) := by
  funext j
  rw [iblk_5, V_v38]
  exact row_cast _ _ j

/-- Argument 8's block. -/
theorem bias_8 (t : Fin cfg0.N) : row (e := .f32) (iblk m c 6 t : FVec Ideal S1x2048 .f32) = fun j => ((m ((c.tc : Thread nD τ).loc main_arg8)) (ix1 j) : EReal) := by
  funext j
  rw [iblk_6, V_v39]
  exact row_cast _ _ j

/-- Argument 10's block. -/
theorem bias_10 (t : Fin cfg0.N) : row (e := .f32) (iblk m c 7 t : FVec Ideal S1x1024 .f32) = fun j => ((m ((c.tc : Thread nD τ).loc main_arg10)) (ix1 j) : EReal) := by
  funext j
  rw [iblk_7, V_v40]
  exact row_cast _ _ j

/-- Argument 12's block. -/
theorem bias_12 (t : Fin cfg0.N) : row (e := .f32) (iblk m c 8 t : FVec Ideal S1x4096 .f32) = fun j => ((m ((c.tc : Thread nD τ).loc main_arg12)) (ix1 j) : EReal) := by
  funext j
  rw [iblk_8, V_v41]
  exact row_cast _ _ j

/-- Argument 14's block. -/
theorem bias_14 (t : Fin cfg0.N) : row (e := .f32) (iblk m c 9 t : FVec Ideal S1x2048 .f32) = fun j => ((m ((c.tc : Thread nD τ).loc main_arg14)) (ix1 j) : EReal) := by
  funext j
  rw [iblk_9, V_v42]
  exact row_cast _ _ j

/-- Argument 16's block. -/
theorem bias_16 (t : Fin cfg0.N) : row (e := .f32) (iblk m c 10 t : FVec Ideal S1x512 .f32) = fun j => ((m ((c.tc : Thread nD τ).loc main_arg16)) (ix1 j) : EReal) := by
  funext j
  rw [iblk_10, V_v43]
  exact row_cast _ _ j

/-- Argument 7's matrix. -/
theorem mat_7 : mat (e := .bf16) ((hbM14).view.read (Elt Ideal) (V m c main_v16) : FVec Ideal S1536x2048 .bf16) = fun k j => ((m ((c.tc : Thread nD τ).loc main_arg7)) (ix2 k j) : EReal) := by
  rw [V_v16]
  rfl

/-- Argument 9's matrix. -/
theorem mat_9 : mat (e := .bf16) ((hbM15).view.read (Elt Ideal) (V m c main_v17) : FVec Ideal S1536x1024 .bf16) = fun k j => ((m ((c.tc : Thread nD τ).loc main_arg9)) (ix2 k j) : EReal) := by
  rw [V_v17]
  rfl

/-- Argument 11's matrix. -/
theorem mat_11 : mat (e := .bf16) ((hbM16).view.read (Elt Ideal) (V m c main_v18) : FVec Ideal S3072x4096 .bf16) = fun k j => ((m ((c.tc : Thread nD τ).loc main_arg11)) (ix2 k j) : EReal) := by
  rw [V_v18]
  rfl

/-- Argument 13's matrix. -/
theorem mat_13 : mat (e := .bf16) ((hbM17).view.read (Elt Ideal) (V m c main_v19) : FVec Ideal S3072x2048 .bf16) = fun k j => ((m ((c.tc : Thread nD τ).loc main_arg13)) (ix2 k j) : EReal) := by
  rw [V_v19]
  rfl

/-- The last layer's weights from column 0 on. -/
theorem last_0 : mat (e := .bf16) ((hbM18).view.read (Elt Ideal) (V m c main_v22) : FVec Ideal S512x512 .bf16)
    = fun (k : Fin 512) j => ((m ((c.tc : Thread nD τ).loc main_arg15)) (ix2 j (⟨0 + k.val, by omega⟩ : Fin 3584)) : EReal) := by
  rw [V_v22]
  funext k j
  show (truncf (F := Ideal) .bf16 _ _ : FVec Ideal S512x512 .bf16) (ix2 k j) = _
  pointwise []

/-- The last layer's weights from column 512 on. -/
theorem last_512 : mat (e := .bf16) ((hbM19).view.read (Elt Ideal) (V m c main_v24) : FVec Ideal S1024x512 .bf16)
    = fun (k : Fin 1024) j => ((m ((c.tc : Thread nD τ).loc main_arg15)) (ix2 j (⟨512 + k.val, by omega⟩ : Fin 3584)) : EReal) := by
  rw [V_v24]
  funext k j
  show (truncf (F := Ideal) .bf16 _ _ : FVec Ideal S1024x512 .bf16) (ix2 k j) = _
  pointwise []

/-- The last layer's weights from column 1536 on. -/
theorem last_1536 : mat (e := .bf16) ((hbM20).view.read (Elt Ideal) (V m c main_v26) : FVec Ideal S2048x512 .bf16)
    = fun (k : Fin 2048) j => ((m ((c.tc : Thread nD τ).loc main_arg15)) (ix2 j (⟨1536 + k.val, by omega⟩ : Fin 3584)) : EReal) := by
  rw [V_v26]
  funext k j
  show (truncf (F := Ideal) .bf16 _ _ : FVec Ideal S2048x512 .bf16) (ix2 k j) = _
  pointwise []

/-- The network of the arguments. -/
def argNet : RNet where
  L0 := ⟨fun k j => ((m ((c.tc : Thread nD τ).loc main_arg3)) (ix2 k j) : EReal), fun j => ((m ((c.tc : Thread nD τ).loc main_arg4)) (ix1 j) : EReal), fun k j => ((m ((c.tc : Thread nD τ).loc main_arg5)) (ix2 k j) : EReal), fun j => ((m ((c.tc : Thread nD τ).loc main_arg6)) (ix1 j) : EReal)⟩
  L1 := ⟨fun k j => ((m ((c.tc : Thread nD τ).loc main_arg7)) (ix2 k j) : EReal), fun j => ((m ((c.tc : Thread nD τ).loc main_arg8)) (ix1 j) : EReal), fun k j => ((m ((c.tc : Thread nD τ).loc main_arg9)) (ix2 k j) : EReal), fun j => ((m ((c.tc : Thread nD τ).loc main_arg10)) (ix1 j) : EReal)⟩
  L2 := ⟨fun k j => ((m ((c.tc : Thread nD τ).loc main_arg11)) (ix2 k j) : EReal), fun j => ((m ((c.tc : Thread nD τ).loc main_arg12)) (ix1 j) : EReal), fun k j => ((m ((c.tc : Thread nD τ).loc main_arg13)) (ix2 k j) : EReal), fun j => ((m ((c.tc : Thread nD τ).loc main_arg14)) (ix1 j) : EReal)⟩

/-- The network of the blocks. -/
def blkNet (t : Fin cfg0.N) : Net :=
  netOf ((hbM12).view.read (Elt Ideal) (V m c main_v7)) (iblk m c 4 t) ((hbM13).view.read (Elt Ideal) (V m c main_v15)) (iblk m c 5 t)
    ((hbM14).view.read (Elt Ideal) (V m c main_v16)) (iblk m c 6 t) ((hbM15).view.read (Elt Ideal) (V m c main_v17)) (iblk m c 7 t)
    ((hbM16).view.read (Elt Ideal) (V m c main_v18)) (iblk m c 8 t) ((hbM17).view.read (Elt Ideal) (V m c main_v19)) (iblk m c 9 t)

/-- The embedding's rows. -/
def emb (v : Fin 40) (k : Fin 32) : EReal := (m ((c.tc : Thread nD τ).loc main_arg2)) (ix2 v k)

/-- The gates' table. -/
theorem gates_table : Table (emb m c) (mat (e := .bf16) ((hbM12).view.read (Elt Ideal) (V m c main_v7) : FVec Ideal S640x1024 .bf16)) (fun k j => ((m ((c.tc : Thread nD τ).loc main_arg3)) (ix2 k j) : EReal)) := by
  rw [V_v7]
  exact tableG_is _ _

/-- The candidate's table. -/
theorem cand_table : Table (emb m c) (mat (e := .bf16) ((hbM13).view.read (Elt Ideal) (V m c main_v15) : FVec Ideal S640x512 .bf16)) (fun k j => ((m ((c.tc : Thread nD τ).loc main_arg5)) (ix2 k j) : EReal)) := by
  rw [V_v15]
  exact tableC_is _ _

/-- The second layer's weights. -/
theorem layer1 (t : Fin cfg0.N) : (blkNet m c t).L1 = (argNet m c).L1 :=
  congr (congr (congr (congrArg Layer.mk (mat_7 m c)) (bias_8 m c t)) (mat_9 m c)) (bias_10 m c t)

/-- The third layer's weights. -/
theorem layer2 (t : Fin cfg0.N) : (blkNet m c t).L2 = (argNet m c).L2 :=
  congr (congr (congr (congrArg Layer.mk (mat_11 m c)) (bias_12 m c t)) (mat_13 m c)) (bias_14 m c t)

/-- The first layer's gates' table. -/
theorem layer0_G (t : Fin cfg0.N) : Table (emb m c) (blkNet m c t).L0.G (argNet m c).L0.G := gates_table m c

/-- The first layer's candidate's table. -/
theorem layer0_C (t : Fin cfg0.N) : Table (emb m c) (blkNet m c t).L0.C (argNet m c).L0.C := cand_table m c

/-- The first layer's gates' offsets. -/
theorem layer0_bg (t : Fin cfg0.N) : (blkNet m c t).L0.bg = (argNet m c).L0.bg := bias_4 m c t

/-- The first layer's candidate's offsets. -/
theorem layer0_bc (t : Fin cfg0.N) : (blkNet m c t).L0.bc = (argNet m c).L0.bc := bias_6 m c t

/-- The blocks' network is the arguments'. -/
theorem same (t : Fin cfg0.N) : Same (emb m c) (blkNet m c t) (argNet m c) :=
  ⟨layer0_G m c t, layer0_C m c t, layer0_bg m c t, layer0_bc m c t, layer1 m c t, layer2 m c t⟩

/-- The one-hot row of a permutation picks the position that holds the row. -/
theorem pick_at (p : Fin 256 → BitVec 32) (f : Fin 256 → Fin 256) (hf : Function.Injective f) (hp : ∀ a, p a = BitVec.ofNat 32 (f a).val)
    (x : Fin 256 → EReal) (a : Fin 256) : pick p x (f a) = x a := by
  unfold pick
  rw [Finset.sum_eq_single a]
  · rw [if_pos (hp a), one_mul]
  · intro b _ hb
    rw [if_neg, zero_mul]
    intro q
    apply hb
    apply hf
    apply Fin.ext
    have := congrArg BitVec.toNat ((hp b).symm.trans q)
    rw [BitVec.toNat_ofNat, BitVec.toNat_ofNat] at this
    have h1 := (f a).isLt
    have h2 := (f b).isLt
    omega
  · intro h; exact absurd (Finset.mem_univ _) h

/-- The final state of the row at a position, for tokens in range. -/
theorem state_at (ht : ∀ i k, (tokens m c (ix2 i k)).toNat < 40) (a : Fin 256) (x : ℕ → Fin 32 → EReal)
    (hx : ∀ (t : ℕ) (h : t < 128), x t = emb m c ⟨(tokens m c (ix2 (at_ m c a) ⟨t, h⟩)).toNat, ht _ _⟩) :
    (blkNet m c t0_0).st (tokOf (iblk m c 1 t0_0) a) ((iblk m c 2 t0_0 : IVec S256x1 32) (ix2 a (0 : Fin 1))) 128
      = (argNet m c).st x (lens m c (ix1 (at_ m c a))) 128 := by
  rw [len_blk]
  refine (st_eq (same m c t0_0) _ x _ 128 fun t h => ?_).1
  have e : tokOf (iblk m c 1 t0_0) a t = tokens m c (ix2 (at_ m c a) ⟨t, h⟩) := by
    unfold tokOf
    rw [dif_pos h]
    exact tok_blk m c a ⟨t, h⟩ t0_0
  refine ⟨by rw [e]; exact ht _ _, ?_⟩
  rw [hx t h]
  exact congrArg (emb m c) (Fin.ext (congrArg BitVec.toNat e.symm))

/-- The kernel's result at an element. -/
theorem result_at (ht : ∀ i k, (tokens m c (ix2 i k)).toNat < 40) (i : Fin 256) (j : Fin 512) (x : ℕ → Fin 32 → EReal)
    (hx : ∀ (t : ℕ) (h : t < 128), x t = emb m c ⟨(tokens m c (ix2 i ⟨t, h⟩)).toNat, ht _ _⟩) :
    @Eq EReal (blk11 m c t0_0 (ix2 i j)) (Ideal.tanh ((((∑ k : Fin 512, ((argNet m c).st x (lens m c (ix1 i)) 128).h0 k * ((m ((c.tc : Thread nD τ).loc main_arg15)) (ix2 j (⟨0 + k.val, by omega⟩ : Fin 3584)) : EReal))
      + ∑ k : Fin 1024, ((argNet m c).st x (lens m c (ix1 i)) 128).h1 k * ((m ((c.tc : Thread nD τ).loc main_arg15)) (ix2 j (⟨512 + k.val, by omega⟩ : Fin 3584)) : EReal))
      + ∑ k : Fin 2048, ((argNet m c).st x (lens m c (ix1 i)) 128).h2 k * ((m ((c.tc : Thread nD τ).loc main_arg15)) (ix2 j (⟨1536 + k.val, by omega⟩ : Fin 3584)) : EReal))
      + ((m ((c.tc : Thread nD τ).loc main_arg16)) (ix1 j) : EReal))) := by
  obtain ⟨a, rfl⟩ : ∃ a, at_ m c a = i := sortedFrom_surjective (before (lens m c)) i
  show outAt (fun a => (blkNet m c t0_0).st (tokOf (iblk m c 1 t0_0) a) ((iblk m c 2 t0_0 : IVec S256x1 32) (ix2 a (0 : Fin 1))) 128)
    (fun a => (iblk m c 3 t0_0 : IVec S1x256 32) (ix2 (0 : Fin 1) a)) (mat (e := .bf16) ((hbM18).view.read (Elt Ideal) (V m c main_v22)))
    (mat (e := .bf16) ((hbM19).view.read (Elt Ideal) (V m c main_v24))) (mat (e := .bf16) ((hbM20).view.read (Elt Ideal) (V m c main_v26)))
    (row (e := .f32) (iblk m c 10 t0_0)) (at_ m c a) j = _
  rw [last_0, last_512, last_1536, bias_16]
  unfold outAt
  have p : ∀ f, pick (fun a => (iblk m c 3 t0_0 : IVec S1x256 32) (ix2 (0 : Fin 1) a)) f (at_ m c a) = f a := fun f =>
    pick_at _ (at_ m c) (src_inj _) (fun a => perm_blk m c a t0_0) f a
  simp only [p]
  rw [state_at m c ht a x hx]

end Cert.Proof.KernelIdeal.Value

end
-- ==== Proof.ReferenceStep.lean ====
/-
  One trip of the reference's loop at an index: the three cells of `RNet.next` on every row, kept where the mask is off.
-/
module

public import proofs.«01_k».proof.Proof.Gen.ReferenceIdeal.Run
public import proofs.«01_k».proof.Proof.GruRef

@[expose] public section

set_option maxRecDepth 65536

noncomputable section

namespace Cert.Proof.ReferenceIdeal

open Cert.ReferenceIdeal Cert.ReferenceIdeal.Value Idealize.ShloMosaic Idealize.ShloMosaic.StableHlo Cert.Proof.Gru

/-- A device buffer of the valuation. -/
abbrev at' (V0 : Valuation τ sig (Elt Ideal)) (b : Ref sig .tc) := V0 (Proc.devRef .tc b)

/-- The network whose weights the loop carries. -/
def rnet (V0 : Valuation τ sig (Elt Ideal)) : RNet where
  L0 := ⟨fun k j => (at' V0 main_v19_2 : FVec Ideal S544x1024 .f32) (ix2 k j), fun j => (at' V0 main_v19_3 : FVec Ideal S1024 .f32) (ix1 j),
    fun k j => (at' V0 main_v19_4 : FVec Ideal S544x512 .f32) (ix2 k j), fun j => (at' V0 main_v19_5 : FVec Ideal S512 .f32) (ix1 j)⟩
  L1 := ⟨fun k j => (at' V0 main_v19_6 : FVec Ideal S1536x2048 .f32) (ix2 k j), fun j => (at' V0 main_v19_7 : FVec Ideal S2048 .f32) (ix1 j),
    fun k j => (at' V0 main_v19_8 : FVec Ideal S1536x1024 .f32) (ix2 k j), fun j => (at' V0 main_v19_9 : FVec Ideal S1024 .f32) (ix1 j)⟩
  L2 := ⟨fun k j => (at' V0 main_v19_10 : FVec Ideal S3072x4096 .f32) (ix2 k j), fun j => (at' V0 main_v19_11 : FVec Ideal S4096 .f32) (ix1 j),
    fun k j => (at' V0 main_v19_12 : FVec Ideal S3072x2048 .f32) (ix2 k j), fun j => (at' V0 main_v19_13 : FVec Ideal S2048 .f32) (ix1 j)⟩

/-- The states of row `i` that the loop carries. -/
def rowSt (V0 : Valuation τ sig (Elt Ideal)) (i : Fin 256) : St where
  h0 j := (at' V0 main_v19_15 : FVec Ideal S256x512 .f32) (ix2 i j)
  h1 j := (at' V0 main_v19_16 : FVec Ideal S256x1024 .f32) (ix2 i j)
  h2 j := (at' V0 main_v19_17 : FVec Ideal S256x2048 .f32) (ix2 i j)

/-- The input row of row `i` in this trip. -/
def xrow (V0 : Valuation τ sig (Elt Ideal)) (i : Fin 256) (j : Fin 32) : EReal := (res_main_while0b_v27 V0 : FVec Ideal S256x32 .f32) (ix2 i j)

theorem one_f32 : Ideal.ofBits .f32 0x3F800000#32 = 1 := Ideal.ofBits_one_f32

/-- The gates of layer 0. -/
theorem v39_at (V0 : Valuation τ sig (Elt Ideal)) (i : Fin 256) (j : Fin 1024) :
    ((res_main_while0b_v39 V0 : FVec Ideal S256x1024 .f32) (ix2 i j) : EReal)
      = rgate (raff rfl (xrow V0 i) (rowSt V0 i).h0 (rnet V0).L0.G (rnet V0).L0.bg j) := by
  simp only [rgate, raff, rnet, rowSt, xrow, at']
  pointwise [res_main_while0b_v39]

/-- The new state of layer 0. -/
theorem v53_at (V0 : Valuation τ sig (Elt Ideal)) (i : Fin 256) (j : Fin 512) :
    ((res_main_while0b_v53 V0 : FVec Ideal S256x512 .f32) (ix2 i j) : EReal)
      = rcell rfl rfl (rnet V0).L0 (xrow V0 i) (rowSt V0 i).h0 j := by
  have hz := fun l => v39_at V0 i l
  unfold rcell
  simp only [← hz]
  simp only [raff, rnet, rowSt, xrow, at', lo, hi]
  pointwise [res_main_while0b_v53, res_main_while0b_v41]

/-- The gates of layer 1. -/
theorem v64_at (V0 : Valuation τ sig (Elt Ideal)) (i : Fin 256) (j : Fin 2048) :
    ((res_main_while0b_v64 V0 : FVec Ideal S256x2048 .f32) (ix2 i j) : EReal)
      = rgate (raff rfl (fun j => (res_main_while0b_v53 V0 : FVec Ideal S256x512 .f32) (ix2 i j)) (rowSt V0 i).h1 (rnet V0).L1.G (rnet V0).L1.bg j) := by
  simp only [rgate, raff, rnet, rowSt, xrow, at']
  pointwise [res_main_while0b_v64]

/-- The new state of layer 1. -/
theorem v78_at (V0 : Valuation τ sig (Elt Ideal)) (i : Fin 256) (j : Fin 1024) :
    ((res_main_while0b_v78 V0 : FVec Ideal S256x1024 .f32) (ix2 i j) : EReal)
      = rcell rfl rfl (rnet V0).L1 (fun j => (res_main_while0b_v53 V0 : FVec Ideal S256x512 .f32) (ix2 i j)) (rowSt V0 i).h1 j := by
  have hz := fun l => v64_at V0 i l
  unfold rcell
  simp only [← hz]
  simp only [raff, rnet, rowSt, xrow, at', lo, hi]
  pointwise [res_main_while0b_v78, res_main_while0b_v66]

/-- The gates of layer 2. -/
theorem v89_at (V0 : Valuation τ sig (Elt Ideal)) (i : Fin 256) (j : Fin 4096) :
    ((res_main_while0b_v89 V0 : FVec Ideal S256x4096 .f32) (ix2 i j) : EReal)
      = rgate (raff rfl (fun j => (res_main_while0b_v78 V0 : FVec Ideal S256x1024 .f32) (ix2 i j)) (rowSt V0 i).h2 (rnet V0).L2.G (rnet V0).L2.bg j) := by
  simp only [rgate, raff, rnet, rowSt, xrow, at']
  pointwise [res_main_while0b_v89]

/-- A row's states after one trip: the mask's bit chooses between the new states and the old ones. -/
theorem step15_at (V0 : Valuation τ sig (Elt Ideal)) (i : Fin 256) (j : Fin 512) :
    ((step_main_v19_15 V0 : FVec Ideal S256x512 .f32) (ix2 i j) : EReal)
      = if (res_main_while0b_v28 V0 : IVec S256x1 1) (ix2 i 0) = 1#1 then ((rnet V0).next (xrow V0 i) (rowSt V0 i)).h0 j else (rowSt V0 i).h0 j := by
  simp only [step_main_v19_15, id_eq]
  pointwise []
  rw [v53_at]
  rfl

theorem step16_at (V0 : Valuation τ sig (Elt Ideal)) (i : Fin 256) (j : Fin 1024) :
    ((step_main_v19_16 V0 : FVec Ideal S256x1024 .f32) (ix2 i j) : EReal)
      = if (res_main_while0b_v28 V0 : IVec S256x1 1) (ix2 i 0) = 1#1 then ((rnet V0).next (xrow V0 i) (rowSt V0 i)).h1 j else (rowSt V0 i).h1 j := by
  simp only [step_main_v19_16, id_eq]
  pointwise []
  have e1 := funext fun j => v53_at V0 i j
  rw [v78_at, e1]
  rfl

theorem step17_cell (V0 : Valuation τ sig (Elt Ideal)) (i : Fin 256) (j : Fin 2048) :
    ((step_main_v19_17 V0 : FVec Ideal S256x2048 .f32) (ix2 i j) : EReal)
      = if (res_main_while0b_v28 V0 : IVec S256x1 1) (ix2 i 0) = 1#1 then
          rcell rfl rfl (rnet V0).L2 (fun j => (res_main_while0b_v78 V0 : FVec Ideal S256x1024 .f32) (ix2 i j)) (rowSt V0 i).h2 j
        else (rowSt V0 i).h2 j := by
  have hz := fun l => v89_at V0 i l
  unfold rcell
  simp only [← hz]
  simp only [raff, rnet, rowSt, xrow, at', lo, hi]
  simp only [step_main_v19_17, id_eq]
  pointwise [res_main_while0b_v91]
  rfl

theorem step17_at (V0 : Valuation τ sig (Elt Ideal)) (i : Fin 256) (j : Fin 2048) :
    ((step_main_v19_17 V0 : FVec Ideal S256x2048 .f32) (ix2 i j) : EReal)
      = if (res_main_while0b_v28 V0 : IVec S256x1 1) (ix2 i 0) = 1#1 then ((rnet V0).next (xrow V0 i) (rowSt V0 i)).h2 j else (rowSt V0 i).h2 j := by
  rw [step17_cell]
  have e1 := funext fun j => v53_at V0 i j
  have e2 := funext fun j => v78_at V0 i j
  rw [e2, e1]
  rfl

/-- The counter of trip `k`. -/
structure Ctr (k : ℕ) (V0 : Valuation τ sig (Elt Ideal)) : Prop where
  eq : (at' V0 main_v19_14 : IVec S_ 32) = fun _ => BitVec.ofNat 32 k

theorem Ctr.step {k : ℕ} {V0 : Valuation τ sig (Elt Ideal)} (h : Ctr k V0) : Ctr (k + 1) (STEP V0) := by
  refine ⟨?_⟩
  show (STEP V0 (Proc.devRef .tc main_v19_14) : IVec S_ 32) = _
  rw [STEP_main_v19_14]
  unfold step_main_v19_14
  rw [show V0 (Proc.devRef .tc main_v19_14) = _ from h.eq]
  funext z
  show BitVec.ofNat 32 k + 1#32 = BitVec.ofNat 32 (k + 1)
  rw [BitVec.ofNat_add]

/-- A small number as a signed word. -/
theorem toInt_lt {k : ℕ} (hk : k < 128) : (BitVec.ofNat 32 k).toInt = (k : ℤ) := by
  rw [BitVec.toInt_eq_toNat_of_lt (by rw [BitVec.toNat_ofNat]; omega), BitVec.toNat_ofNat]
  omega

theorem zero_word : (0#32 : BitVec 32).toInt = ((0 : ℕ) : ℤ) := by decide

/-- Equal coordinates give equal rank-3 indices. -/
theorem ix3_congr {a b c : ℕ} {p p' : Fin a} {q q' : Fin b} {r r' : Fin c} (hp : p.val = p'.val) (hq : q.val = q'.val) (hr : r.val = r'.val) :
    ix3 p q r = ix3 p' q' r' := by
  obtain rfl := Fin.ext hp
  obtain rfl := Fin.ext hq
  obtain rfl := Fin.ext hr
  rfl

/-- The block of one position read out of the rows' inputs. -/
theorem slice_at {α : Type} (x : S128x256x32.Idx → α) (st : Fin 3 → ℤ) (hf : S128x256x32.Slices (fun _ => 0) S1x256x32) (hc : S1x256x32.ShapeCasts S256x32)
    (k : ℕ) (hk : k < 128) (h0 : st 0 = (k : ℤ)) (h1 : st 1 = ((0 : ℕ) : ℤ)) (h2 : st 2 = ((0 : ℕ) : ℤ)) (i : Fin 256) (j : Fin 32) :
    shapeCast S256x32 (Host.dynamicSlice S1x256x32 x st hf) hc (ix2 i j) = x (ix3 ⟨k, hk⟩ i j) := by
  pointwise []
  refine congrArg x (ix3_congr ?_ ?_ ?_)
  · exact Host.clampedStart_of_le hf.1 st 0 k h0 (by show k + 1 ≤ 128; omega)
  · have := Host.clampedStart_of_le hf.1 st 1 0 h1 (by show 0 + 256 ≤ 256; omega)
    show Host.clampedStart S128x256x32 S1x256x32 hf.1 st 1 + i.val = i.val
    rw [this, Nat.zero_add]
  · have := Host.clampedStart_of_le hf.1 st 2 0 h2 (by show 0 + 32 ≤ 32; omega)
    show Host.clampedStart S128x256x32 S1x256x32 hf.1 st 2 + j.val = j.val
    rw [this, Nat.zero_add]

/-- The block of one position read out of the mask. -/
theorem slice1_at {α : Type} (x : S128x256x1.Idx → α) (st : Fin 3 → ℤ) (hf : S128x256x1.Slices (fun _ => 0) S1x256x1) (hc : S1x256x1.ShapeCasts S256x1)
    (k : ℕ) (hk : k < 128) (h0 : st 0 = (k : ℤ)) (h1 : st 1 = ((0 : ℕ) : ℤ)) (i : Fin 256) :
    shapeCast S256x1 (Host.dynamicSlice S1x256x1 x st hf) hc (ix2 i 0) = x (ix3 ⟨k, hk⟩ i 0) := by
  pointwise []
  refine congrArg x (ix3_congr ?_ ?_ ?_)
  · exact Host.clampedStart_of_le hf.1 st 0 k h0 (by show k + 1 ≤ 128; omega)
  · have := Host.clampedStart_of_le hf.1 st 1 0 h1 (by show 0 + 256 ≤ 256; omega)
    show Host.clampedStart S128x256x1 S1x256x1 hf.1 st 1 + i.val = i.val
    rw [this, Nat.zero_add]
  · exact Nat.lt_one_iff.mp (Fin.isLt _)

/-- The slice of trip `k` reads the rows' inputs of position `k`. -/
theorem xrow_at {k : ℕ} {V0 : Valuation τ sig (Elt Ideal)} (h : Ctr k V0) (hk : k < 128) (i : Fin 256) (j : Fin 32) :
    xrow V0 i j = (at' V0 main_v19_0 : FVec Ideal S128x256x32 .f32) (ix3 ⟨k, hk⟩ i j) := by
  unfold xrow res_main_while0b_v27
  refine slice_at _ _ _ _ k hk ?_ zero_word zero_word i j
  show ((at' V0 main_v19_14 : IVec S_ 32) (Shape.Idx.first Gen.h_S_)).toInt = (k : ℤ)
  rw [h.eq]
  exact toInt_lt hk

theorem mask_at {k : ℕ} {V0 : Valuation τ sig (Elt Ideal)} (h : Ctr k V0) (hk : k < 128) (i : Fin 256) :
    (res_main_while0b_v28 V0 : IVec S256x1 1) (ix2 i 0) = (at' V0 main_v19_1 : IVec S128x256x1 1) (ix3 ⟨k, hk⟩ i 0) := by
  unfold res_main_while0b_v28
  refine slice1_at _ _ _ _ k hk ?_ zero_word i
  show ((at' V0 main_v19_14 : IVec S_ 32) (Shape.Idx.first Gen.h_S_)).toInt = (k : ℤ)
  rw [h.eq]
  exact toInt_lt hk

end Cert.Proof.ReferenceIdeal

end
-- ==== Proof.ReferenceLoop.lean ====
/-
  The reference's loop at an index: what its entry holds, the rows' states after every trip, and the result.
-/
module

public import proofs.«01_k».proof.Proof.ReferenceStep
public import Idealize.ShloMosaic.Lib.Routing.OpsPair

@[expose] public section

set_option maxRecDepth 65536

noncomputable section

namespace Cert.Proof.ReferenceIdeal

open Cert.ReferenceIdeal Cert.ReferenceIdeal.Value Idealize.ShloMosaic Idealize.ShloMosaic.StableHlo Cert.Proof.Gru

/-- The input rows of row `i`, by position. -/
def xin (E : Valuation τ sig (Elt Ideal)) (i : Fin 256) (t : ℕ) (j : Fin 32) : EReal :=
  if h : t < 128 then (at' E main_v19_0 : FVec Ideal S128x256x32 .f32) (ix3 ⟨t, h⟩ i j) else 0

/-- The contents before trip `k`, against the entry `E`: the weights and the inputs as they were, the counter at `k`, and every row's state that of
    the recurrence. -/
structure LoopInv (E : Valuation τ sig (Elt Ideal)) (len : Fin 256 → BitVec 32) (k : ℕ) (V0 : Valuation τ sig (Elt Ideal)) : Prop where
  ctr : Ctr k V0
  x : at' V0 main_v19_0 = at' E main_v19_0
  mask : at' V0 main_v19_1 = at' E main_v19_1
  net : rnet V0 = rnet E
  st : ∀ i, rowSt V0 i = (rnet E).st (xin E i) (len i) k

/-- A trip keeps the weights. -/
theorem rnet_step (V0 : Valuation τ sig (Elt Ideal)) : rnet (STEP V0) = rnet V0 := by
  simp only [rnet, RNet.mk.injEq, Layer.mk.injEq]
  exact ⟨⟨funext fun k => funext fun j => congrFun (STEP_main_v19_2 V0) (ix2 k j), funext fun j => congrFun (STEP_main_v19_3 V0) (ix1 j),
      funext fun k => funext fun j => congrFun (STEP_main_v19_4 V0) (ix2 k j), funext fun j => congrFun (STEP_main_v19_5 V0) (ix1 j)⟩,
    ⟨funext fun k => funext fun j => congrFun (STEP_main_v19_6 V0) (ix2 k j), funext fun j => congrFun (STEP_main_v19_7 V0) (ix1 j),
      funext fun k => funext fun j => congrFun (STEP_main_v19_8 V0) (ix2 k j), funext fun j => congrFun (STEP_main_v19_9 V0) (ix1 j)⟩,
    ⟨funext fun k => funext fun j => congrFun (STEP_main_v19_10 V0) (ix2 k j), funext fun j => congrFun (STEP_main_v19_11 V0) (ix1 j),
      funext fun k => funext fun j => congrFun (STEP_main_v19_12 V0) (ix2 k j), funext fun j => congrFun (STEP_main_v19_13 V0) (ix1 j)⟩⟩

/-- A trip's effect on one row. -/
theorem rowSt_step (V0 : Valuation τ sig (Elt Ideal)) (i : Fin 256) :
    rowSt (STEP V0) i = if (res_main_while0b_v28 V0 : IVec S256x1 1) (ix2 i 0) = 1#1 then (rnet V0).next (xrow V0 i) (rowSt V0 i) else rowSt V0 i := by
  have a0 : ∀ j, (rowSt (STEP V0) i).h0 j = _ := fun j => (congrFun (STEP_main_v19_15 V0) (ix2 i j)).trans (step15_at V0 i j)
  have a1 : ∀ j, (rowSt (STEP V0) i).h1 j = _ := fun j => (congrFun (STEP_main_v19_16 V0) (ix2 i j)).trans (step16_at V0 i j)
  have a2 : ∀ j, (rowSt (STEP V0) i).h2 j = _ := fun j => (congrFun (STEP_main_v19_17 V0) (ix2 i j)).trans (step17_at V0 i j)
  by_cases h : (res_main_while0b_v28 V0 : IVec S256x1 1) (ix2 i 0) = 1#1
  · simp only [if_pos h] at a0 a1 a2 ⊢
    exact St.ext (funext a0) (funext a1) (funext a2)
  · simp only [if_neg h] at a0 a1 a2 ⊢
    exact St.ext (funext a0) (funext a1) (funext a2)

/-- One trip. -/
theorem LoopInv.step {E : Valuation τ sig (Elt Ideal)} {len : Fin 256 → BitVec 32} {k : ℕ} {V0 : Valuation τ sig (Elt Ideal)}
    (hm : ∀ (t : Fin 128) (i : Fin 256), ((at' E main_v19_1 : IVec S128x256x1 1) (ix3 t i 0) = 1#1) ↔ (BitVec.ofNat 32 t.val).slt (len i) = true)
    (hk : k < 128) (h : LoopInv E len k V0) : LoopInv E len (k + 1) (STEP V0) := by
  refine ⟨h.ctr.step, (STEP_main_v19_0 V0).trans h.x, (STEP_main_v19_1 V0).trans h.mask, (rnet_step V0).trans h.net, fun i => ?_⟩
  have hx : xrow V0 i = xin E i k := funext fun j => by
    rw [xrow_at h.ctr hk i j, h.x]
    unfold xin
    rw [dif_pos hk]
  have hmk : ((res_main_while0b_v28 V0 : IVec S256x1 1) (ix2 i 0) = 1#1) ↔ (BitVec.ofNat 32 k).slt (len i) = true := by
    rw [mask_at h.ctr hk i, h.mask]
    exact hm ⟨k, hk⟩ i
  rw [rowSt_step, h.net, hx, h.st i]
  show _ = if (BitVec.ofNat 32 k).slt (len i) then _ else _
  by_cases c : (BitVec.ofNat 32 k).slt (len i) = true
  · rw [if_pos c, if_pos (hmk.mpr c)]
  · rw [if_neg c, if_neg fun q => c (hmk.mp q)]

/-- The trips up to `k`. -/
theorem inv_iter {E : Valuation τ sig (Elt Ideal)} {len : Fin 256 → BitVec 32}
    (hm : ∀ (t : Fin 128) (i : Fin 256), ((at' E main_v19_1 : IVec S128x256x1 1) (ix3 t i 0) = 1#1) ↔ (BitVec.ofNat 32 t.val).slt (len i) = true)
    (h0 : LoopInv E len 0 E) : ∀ k, k ≤ 128 → LoopInv E len k (STEP^[k] E)
  | 0, _ => h0
  | k + 1, hk => by
    rw [Function.iterate_succ_apply']
    exact (inv_iter hm h0 k (by omega)).step hm (by omega)

/-- A sum over three rows side by side. -/
theorem sum_three (a : Fin 512 → EReal) (b : Fin 1024 → EReal) (c : Fin 2048 → EReal) (f : Fin 3584 → EReal) :
    (∑ x : Fin 3584, (if h : x.val < 512 then a ⟨x.val, h⟩ else if h' : x.val - 512 < 1024 then b ⟨x.val - 512, h'⟩ else c ⟨x.val - 512 - 1024, by omega⟩) * f x)
      = ((∑ x : Fin 512, a x * f ⟨x.val, by omega⟩) + ∑ x : Fin 1024, b x * f ⟨512 + x.val, by omega⟩) + ∑ x : Fin 2048, c x * f ⟨1536 + x.val, by omega⟩ := by
  refine (Fin.sum_univ_add (a := 1536) (b := 2048) _).trans (congrArg₂ (· + ·) ((Fin.sum_univ_add (a := 512) (b := 1024) _).trans (congrArg₂ (· + ·) ?_ ?_)) ?_)
  · refine Finset.sum_congr rfl fun x _ => ?_
    refine congrArg₂ (· * ·) ?_ rfl
    rw [dif_pos (show (Fin.castAdd 2048 (Fin.castAdd 1024 x)).val < 512 from x.isLt)]
    rfl
  · refine Finset.sum_congr rfl fun x _ => ?_
    refine congrArg₂ (· * ·) ?_ rfl
    have e1 : (Fin.castAdd 2048 (Fin.natAdd 512 x)).val = 512 + x.val := rfl
    rw [dif_neg (by omega), dif_pos (by omega)]
    exact congrArg b (Fin.ext (show 512 + x.val - 512 = x.val by omega))
  · refine Finset.sum_congr rfl fun x _ => ?_
    refine congrArg₂ (· * ·) ?_ rfl
    have e1 : (Fin.natAdd 1536 x).val = 1536 + x.val := rfl
    rw [dif_neg (by omega), dif_neg (by omega)]
    exact congrArg c (Fin.ext (show 1536 + x.val - 512 - 1024 = x.val by omega))

/-- The result at an index from the last states. -/
theorem out_at (V0 : Valuation τ sig (Elt Ideal)) (i : Fin 256) (j : Fin 512) :
    ((out_main_v26 V0 : FVec Ideal S256x512 .f32) (ix2 i j) : EReal)
      = Ideal.tanh ((((∑ x : Fin 512, (rowSt V0 i).h0 x * (at' V0 main_arg15 : FVec Ideal S512x3584 .f32) (ix2 j ⟨x.val, by omega⟩))
          + ∑ x : Fin 1024, (rowSt V0 i).h1 x * (at' V0 main_arg15 : FVec Ideal S512x3584 .f32) (ix2 j ⟨512 + x.val, by omega⟩))
          + ∑ x : Fin 2048, (rowSt V0 i).h2 x * (at' V0 main_arg15 : FVec Ideal S512x3584 .f32) (ix2 j ⟨1536 + x.val, by omega⟩))
          + (at' V0 main_arg16 : FVec Ideal S512 .f32) (ix1 j)) := by
  pointwise [out_main_v26]
  exact congrArg (fun s => Ideal.tanh (s + (at' V0 main_arg16 : FVec Ideal S512 .f32) (ix1 j)))
    (sum_three (rowSt V0 i).h0 (rowSt V0 i).h1 (rowSt V0 i).h2 fun x => (at' V0 main_arg15 : FVec Ideal S512x3584 .f32) (ix2 j x))

/-- The embedding's gather at an index whose token is in range. -/
theorem gather_emb (x : S40x32.Idx → EReal) (idx : IVec S256x128x1 32) (i : Fin 256) (t : Fin 128) (j : Fin 32)
    (b : Fin 40) (hb : idx (ix3 i t 0) = BitVec.ofNat 32 b.val) :
    Host.gather gather_S40x32_S256x128x1_S256x128x32_2_0_n_n_0_2_132 x idx (ix3 i t j) = x (ix2 b j) := by
  unfold Host.gather
  refine congrArg x (funext fun a => Fin.ext ?_)
  have hbl := b.isLt
  match a with
  | ⟨0, _⟩ =>
    show GatherDims.start _ _ idx 0 + GatherDims.batchCoord _ _ 0 + GatherDims.offCoord _ _ 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (0 : Fin 2) ∈ gather_S40x32_S256x128x1_S256x128x32_2_0_n_n_0_2_132.startIndexMap := List.mem_singleton.mpr rfl
    rw [dif_pos hm]
    have e : gather_S40x32_S256x128x1_S256x128x32_2_0_n_n_0_2_132.siIdx (ix3 i t j)
        ⟨gather_S40x32_S256x128x1_S256x128x32_2_0_n_n_0_2_132.startIndexMap.idxOf 0, List.idxOf_lt_length_iff.2 hm⟩ = ix3 i t 0 := by
      funext b'
      match b' with
      | ⟨0, _⟩ => rfl
      | ⟨1, _⟩ => rfl
      | ⟨2, _⟩ => rfl
    rw [e, hb, toInt_lt (by omega)]
    show min b.val (40 - 1) = b.val
    omega
  | ⟨1, _⟩ =>
    show GatherDims.start _ _ idx 1 + GatherDims.batchCoord _ _ 1 + GatherDims.offCoord _ _ 1 = j.val
    rw [GatherDims.batchCoord_eq_zero _ _ _ List.not_mem_nil]
    unfold GatherDims.start
    rw [dif_neg (by decide)]
    rw [Nat.zero_add]
    rfl

section Entry

variable (m : (ℓ : Loc nD τ sig) → Buf (Elt Ideal) ℓ) (c : Dev nD)

/-- The inputs at the loop's entry. -/
theorem entry_x (i : Fin 256) (t : Fin 128) (j : Fin 32)
    (ht : ((m ((c.tc : Thread nD τ).loc main_arg0) : IVec S256x128 32) (ix2 i t)).toNat < 40) :
    ((at' (entryContents preI m c) main_v19_0 : FVec Ideal S128x256x32 .f32) (ix3 t i j) : EReal)
      = (m ((c.tc : Thread nD τ).loc main_arg2) : FVec Ideal S40x32 .f32) (ix2 ⟨_, ht⟩ j) := by
  simp only [at', entryContents, afterL_cons, afterL_nil]
  after_reads_simp
  simp only [id_eq]
  have ez : ∀ z, (select
              (cmpi CmpIPredicate.slt (launchContents m c (Proc.tc.devRef main_arg0))
                (broadcastInDim S256x128 ![] Gen.bcast_S_S256x128 (constantI S_ 32 0#32)))
              (addi (launchContents m c (Proc.tc.devRef main_arg0))
                (broadcastInDim S256x128 ![] Gen.bcast_S_S256x128 (constantI S_ 32 40#32)))
              (launchContents m c (Proc.tc.devRef main_arg0)) : IVec S256x128 32) (ix2 i t) = z ↔ (m ((c.tc : Thread nD τ).loc main_arg0) : IVec S256x128 32) (ix2 i t) = z := fun z => by
    show Scalar.select (IntOp.cmpi .slt ((m ((c.tc : Thread nD τ).loc main_arg0) : IVec S256x128 32) (ix2 i t)) 0#32) _ ((m ((c.tc : Thread nD τ).loc main_arg0) : IVec S256x128 32) (ix2 i t)) = z ↔ _
    rw [Routing.wrap_of_lt _ _ (by omega)]
  refine Eq.trans ?_ (gather_emb (launchContents m c (Proc.tc.devRef main_arg2)) (broadcastInDim S256x128x1 ![0, 1] Gen.bcast_S256x128_S256x128x1_0_1
            (select
              (cmpi CmpIPredicate.slt (launchContents m c (Proc.tc.devRef main_arg0))
                (broadcastInDim S256x128 ![] Gen.bcast_S_S256x128 (constantI S_ 32 0#32)))
              (addi (launchContents m c (Proc.tc.devRef main_arg0))
                (broadcastInDim S256x128 ![] Gen.bcast_S_S256x128 (constantI S_ 32 40#32)))
              (launchContents m c (Proc.tc.devRef main_arg0)))) i t j ⟨_, ht⟩ ?_)
  · pointwise []
  · pointwise []
    exact (ez _).mpr (BitVec.eq_of_toNat_eq (by rw [BitVec.toNat_ofNat]; omega))

/-- The mask at the loop's entry. -/
theorem entry_mask (t : Fin 128) (i : Fin 256) :
    ((at' (entryContents preI m c) main_v19_1 : IVec S128x256x1 1) (ix3 t i 0) = 1#1)
      ↔ (BitVec.ofNat 32 t.val).slt ((m ((c.tc : Thread nD τ).loc main_arg1) : IVec S256 32) (ix1 i)) = true := by
  simp only [at', entryContents, afterL_cons, afterL_nil]
  after_reads_simp
  simp only [id_eq]
  pointwise []
  show (BitVec.ofBool ((BitVec.ofNat 32 t.val).slt ((m ((c.tc : Thread nD τ).loc main_arg1) : IVec S256 32) (ix1 i)))) = 1#1 ↔ _
  cases (BitVec.ofNat 32 t.val).slt ((m ((c.tc : Thread nD τ).loc main_arg1) : IVec S256 32) (ix1 i)) <;> decide

/-- The states at the loop's entry. -/
theorem entry_st (i : Fin 256) : rowSt (entryContents preI m c) i = ⟨fun _ => 0, fun _ => 0, fun _ => 0⟩ := by
  refine St.ext (funext fun j => ?_) (funext fun j => ?_) (funext fun j => ?_)
  · show @Eq EReal ((at' (entryContents preI m c) main_v19_15 : FVec Ideal S256x512 .f32) (ix2 i j)) 0
    simp only [at', entryContents, afterL_cons, afterL_nil]
    after_reads_simp
    simp only [id_eq]
    pointwise []
  · show @Eq EReal ((at' (entryContents preI m c) main_v19_16 : FVec Ideal S256x1024 .f32) (ix2 i j)) 0
    simp only [at', entryContents, afterL_cons, afterL_nil]
    after_reads_simp
    simp only [id_eq]
    pointwise []
  · show @Eq EReal ((at' (entryContents preI m c) main_v19_17 : FVec Ideal S256x2048 .f32) (ix2 i j)) 0
    simp only [at', entryContents, afterL_cons, afterL_nil]
    after_reads_simp
    simp only [id_eq]
    pointwise []

/-- The reference's weights, from the arguments. -/
def argNet : RNet where
  L0 := ⟨fun k j => (m ((c.tc : Thread nD τ).loc main_arg3) : FVec Ideal S544x1024 .f32) (ix2 k j), fun j => (m ((c.tc : Thread nD τ).loc main_arg4) : FVec Ideal S1024 .f32) (ix1 j),
    fun k j => (m ((c.tc : Thread nD τ).loc main_arg5) : FVec Ideal S544x512 .f32) (ix2 k j), fun j => (m ((c.tc : Thread nD τ).loc main_arg6) : FVec Ideal S512 .f32) (ix1 j)⟩
  L1 := ⟨fun k j => (m ((c.tc : Thread nD τ).loc main_arg7) : FVec Ideal S1536x2048 .f32) (ix2 k j), fun j => (m ((c.tc : Thread nD τ).loc main_arg8) : FVec Ideal S2048 .f32) (ix1 j),
    fun k j => (m ((c.tc : Thread nD τ).loc main_arg9) : FVec Ideal S1536x1024 .f32) (ix2 k j), fun j => (m ((c.tc : Thread nD τ).loc main_arg10) : FVec Ideal S1024 .f32) (ix1 j)⟩
  L2 := ⟨fun k j => (m ((c.tc : Thread nD τ).loc main_arg11) : FVec Ideal S3072x4096 .f32) (ix2 k j), fun j => (m ((c.tc : Thread nD τ).loc main_arg12) : FVec Ideal S4096 .f32) (ix1 j),
    fun k j => (m ((c.tc : Thread nD τ).loc main_arg13) : FVec Ideal S3072x2048 .f32) (ix2 k j), fun j => (m ((c.tc : Thread nD τ).loc main_arg14) : FVec Ideal S2048 .f32) (ix1 j)⟩

/-- The weights at the loop's entry. -/
theorem entry_net : rnet (entryContents preI m c) = argNet m c := by
  unfold rnet argNet
  simp only [at', entryContents, afterL_cons, afterL_nil]
  after_reads_simp
  rfl

/-- The input rows of row `i`, by position, from the arguments. -/
def argRow (m : (ℓ : Loc nD τ sig) → Buf (Elt Ideal) ℓ) (c : Dev nD) (i : Fin 256) : ℕ → Fin 32 → EReal := xin (entryContents preI m c) i

/-- Row `i`'s last state, from the arguments. -/
def argSt (i : Fin 256) : St := (argNet m c).st (argRow m c i) ((m ((c.tc : Thread nD τ).loc main_arg1) : IVec S256 32) (ix1 i)) 128

/-- The reference's result at an index. -/
theorem result_at (i : Fin 256) (j : Fin 512) :
    @Eq EReal ((out_main_v26 (STEP^[128] (entryContents preI m c)) : FVec Ideal S256x512 .f32) (ix2 i j))
      (Ideal.tanh ((((∑ x : Fin 512, (argSt m c i).h0 x * (m ((c.tc : Thread nD τ).loc main_arg15) : FVec Ideal S512x3584 .f32) (ix2 j ⟨x.val, by omega⟩))
          + ∑ x : Fin 1024, (argSt m c i).h1 x * (m ((c.tc : Thread nD τ).loc main_arg15) : FVec Ideal S512x3584 .f32) (ix2 j ⟨512 + x.val, by omega⟩))
          + ∑ x : Fin 2048, (argSt m c i).h2 x * (m ((c.tc : Thread nD τ).loc main_arg15) : FVec Ideal S512x3584 .f32) (ix2 j ⟨1536 + x.val, by omega⟩))
          + (m ((c.tc : Thread nD τ).loc main_arg16) : FVec Ideal S512 .f32) (ix1 j))) := by
  have h0 : LoopInv (entryContents preI m c) (fun i => (m ((c.tc : Thread nD τ).loc main_arg1) : IVec S256 32) (ix1 i)) 0 (entryContents preI m c) :=
    ⟨⟨ctr_entry m c⟩, rfl, rfl, rfl, fun i => entry_st m c i⟩
  have hI := inv_iter (entry_mask m c) h0 128 (le_refl _)
  have hs : rowSt (STEP^[128] (entryContents preI m c)) i = argSt m c i := by
    rw [hI.st i, entry_net]
    rfl
  refine (out_at _ i j).trans ?_
  rw [hs]
  have e15 := iter_main_arg15 m c 128
  have e16 := iter_main_arg16 m c 128
  unfold at'
  rw [e15, e16]

end Entry

end Cert.Proof.ReferenceIdeal

end
-- ==== Proof.Agree.lean ====
/-
  The kernel's result is the reference's, on words in range.
-/
module

public import proofs.«01_k».proof.Proof.KernelIdealResult
public import proofs.«01_k».proof.Proof.ReferenceLoop

@[expose] public section

set_option maxRecDepth 65536

noncomputable section

namespace Cert.Proof.Agree

open Idealize.ShloMosaic Idealize.ShloMosaic.StableHlo
open Cert.Proof.Gru

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs start from the same arguments. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The two networks are the same. -/
theorem net_eq (h : SameArgs m m' c) : Cert.Proof.ReferenceIdeal.argNet m' c = Cert.Proof.KernelIdeal.Value.argNet m c := by
  obtain ⟨h0, h1, h2, h3, h4, h5, h6, h7, h8, h9, h10, h11, h12, h13, h14, h15, h16⟩ := h
  unfold Cert.Proof.ReferenceIdeal.argNet Cert.Proof.KernelIdeal.Value.argNet
  rw [h3, h4, h5, h6, h7, h8, h9, h10, h11, h12, h13, h14]

/-- The reference's result is the kernel's, element by element. -/
theorem result_eq (h : SameArgs m m' c) (ht : ∀ i k, (Cert.Proof.KernelIdeal.Value.tokens m c (ix2 i k)).toNat < 40) (i : Fin 256) (j : Fin 512) :
    @Eq EReal ((Cert.ReferenceIdeal.Value.out_main_v26 (Cert.ReferenceIdeal.Value.STEP^[128] (entryContents Cert.ReferenceIdeal.Value.preI m' c)) : FVec Ideal Cert.ReferenceIdeal.S256x512 .f32) (ix2 i j))
      ((Cert.Proof.KernelIdeal.Value.blk11 m c Cert.KernelIdeal.Gen.t0_0 : FVec Ideal Cert.KernelIdeal.S256x512 .f32) (ix2 i j)) := by
  have hn := net_eq m m' c h
  obtain ⟨h0, h1, h2, h3, h4, h5, h6, h7, h8, h9, h10, h11, h12, h13, h14, h15, h16⟩ := h
  have e0 : (m' ((c.tc : Thread Cert.ReferenceIdeal.nD Cert.ReferenceIdeal.τ).loc Cert.ReferenceIdeal.main_arg0) : IVec Cert.ReferenceIdeal.S256x128 32) = Cert.Proof.KernelIdeal.Value.tokens m c := h0
  have hx : ∀ (t : ℕ) (q : t < 128), Cert.Proof.ReferenceIdeal.argRow m' c i t
      = Cert.Proof.KernelIdeal.Value.emb m c ⟨(Cert.Proof.KernelIdeal.Value.tokens m c (ix2 i ⟨t, q⟩)).toNat, ht _ _⟩ := fun t q => by
    funext k
    have ht' : ((m' ((c.tc : Thread Cert.ReferenceIdeal.nD Cert.ReferenceIdeal.τ).loc Cert.ReferenceIdeal.main_arg0) : IVec Cert.ReferenceIdeal.S256x128 32) (ix2 i ⟨t, q⟩)).toNat < 40 := by
      rw [e0]; exact ht _ _
    unfold Cert.Proof.ReferenceIdeal.argRow Cert.Proof.ReferenceIdeal.xin
    rw [dif_pos q]
    refine (Cert.Proof.ReferenceIdeal.entry_x m' c i ⟨t, q⟩ k ht').trans ?_
    refine (congrFun h2 _).trans ?_
    unfold Cert.Proof.KernelIdeal.Value.emb
    refine congrArg (fun v : Fin 40 => (m ((c.tc : Thread Cert.KernelIdeal.nD Cert.KernelIdeal.τ).loc Cert.KernelIdeal.main_arg2) : FVec Ideal Cert.KernelIdeal.S40x32 .f32) (ix2 v k)) (Fin.ext ?_)
    exact congrArg (fun y : IVec Cert.ReferenceIdeal.S256x128 32 => (y (ix2 i ⟨t, q⟩)).toNat) e0
  have hs : Cert.Proof.ReferenceIdeal.argSt m' c i
      = (Cert.Proof.KernelIdeal.Value.argNet m c).st (Cert.Proof.ReferenceIdeal.argRow m' c i) (Cert.Proof.KernelIdeal.Value.lens m c (ix1 i)) 128 := by
    unfold Cert.Proof.ReferenceIdeal.argSt
    rw [hn, h1]
    rfl
  refine (Cert.Proof.ReferenceIdeal.result_at m' c i j).trans (Eq.trans ?_ (Cert.Proof.KernelIdeal.Value.result_at m c ht i j _ hx).symm)
  rw [hs, h15, h16]
  simp only [Nat.zero_add]

/-- The reference's result is the kernel's. -/
theorem result (h : SameArgs m m' c) (ht : ∀ i k, (Cert.Proof.KernelIdeal.Value.tokens m c (ix2 i k)).toNat < 40) :
    (Cert.ReferenceIdeal.Value.out_main_v26 (Cert.ReferenceIdeal.Value.STEP^[128] (entryContents Cert.ReferenceIdeal.Value.preI m' c)) : FVec Ideal Cert.ReferenceIdeal.S256x512 .f32)
      = (Cert.Proof.KernelIdeal.Value.blk11 m c Cert.KernelIdeal.Gen.t0_0 : FVec Ideal Cert.KernelIdeal.S256x512 .f32) := by
  funext y
  obtain ⟨i, j, rfl⟩ : ∃ (i : Fin 256) (j : Fin 512), y = ix2 i j := ⟨y 0, y 1, by funext k; match k with | ⟨0, _⟩ => rfl | ⟨1, _⟩ => rfl⟩
  exact result_eq m m' c h ht i j

end Cert.Proof.Agree

end
-- ==== Proof.lean ====
/-
  The certificate's claims put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.ReferenceFrame
public import proofs.«01_k».proof.Proof.Words
public import proofs.«01_k».proof.Proof.Agree

@[expose] public section

noncomputable section

namespace Cert.Proof

open Idealize.ShloMosaic Idealize.SL.Sem

/-- The reference's frame, with its counters back at zero. -/
theorem reference_frame : Cert.quiescent_ReferenceIdeal (hReferenceIdeal := Cert.ReferenceIdeal.Gen.facts) := fun m ρ _ =>
  (θ_run Cert.ReferenceIdeal.defs _ _).mono (fun _ h => ⟨fun c => (h.1 c).2, h.2⟩)
    (θ_run_and (Cert.ReferenceIdeal.Value.run m ρ) (Cert.Proof.ReferenceIdeal.run_counters m ρ))

/-- On words in range the two programs end with the same result. -/
theorem algebraic : Cert.algebraic_KernelIdeal_ReferenceIdeal_pre_words_in_range (hKernelIdeal := Cert.KernelIdeal.Gen.facts)
    (hReferenceIdeal := Cert.ReferenceIdeal.Gen.facts) (hPre_words_in_range := Words.facts) := by
  intro m ρ m' ρ' hpre hargs
  have ht : ∀ c i k, (KernelIdeal.Value.tokens m c (ix2 i k)).toNat < 40 := fun c i k =>
    (Words.at_row _ _ _ _ _ _ _ _ _ _ _ _ _ _ _ _ _ (hpre c) i k).1
  have hl : ∀ c i, 1 ≤ (KernelIdeal.Value.lens m c (ix1 i)).toInt ∧ (KernelIdeal.Value.lens m c (ix1 i)).toInt ≤ 128 := fun c i =>
    (Words.at_row _ _ _ _ _ _ _ _ _ _ _ _ _ _ _ _ _ (hpre c) i 0).2
  refine ⟨fun c => KernelIdeal.Value.blk11 m c Cert.KernelIdeal.Gen.t0_0,
    KernelIdeal.Value.value_main m ρ (fun c t => KernelIdeal.Value.sorted m c (hl c) t), ?_⟩
  exact (θ_run Cert.ReferenceIdeal.defs _ _).mono (fun _ h c => ⟨(h c).1.trans (Agree.result m m' c (hargs c) (ht c)), (h c).2⟩)
    (Cert.ReferenceIdeal.Value.run m' ρ')

/-- The frames of the three programs, each with its counters back at zero, the printed idealization, and the equality of the results. -/
theorem claim : Cert.Claim := ⟨Cert.Kernel.Gen.facts, Cert.KernelIdeal.Gen.facts, Cert.ReferenceIdeal.Gen.facts, Words.facts,
  fun m ρ _ => Cert.Proof.Kernel.frame_main m ρ,
  fun m ρ _ => Cert.Proof.KernelIdeal.frame_main m ρ,
  fun m ρ _ => Cert.Proof.KernelIdeal.frame_main m ρ,
  reference_frame,
  fun m ρ _ => reference_frame m ρ trivial,
  trivial,
  algebraic⟩

end Cert.Proof

end
